-- ==== Defs.lean ====
def Pre_QkvWin (m : (ℓ : Loc Cert.QkvWin.nD Cert.QkvWin.τ Cert.QkvWin.sig) → Buf (Elt Bits) ℓ) : Prop :=
  True

def Pre_QkvWinIdeal (m : (ℓ : Loc Cert.QkvWinIdeal.nD Cert.QkvWinIdeal.τ Cert.QkvWinIdeal.sig) → Buf (Elt Ideal) ℓ) : Prop :=
  True

def Pre_RefQkvWinIdeal (m : (ℓ : Loc Cert.RefQkvWinIdeal.nD Cert.RefQkvWinIdeal.τ Cert.RefQkvWinIdeal.sig) → Buf (Elt Ideal) ℓ) : Prop :=
  True

def Pre_QkvGlb (m : (ℓ : Loc Cert.QkvGlb.nD Cert.QkvGlb.τ Cert.QkvGlb.sig) → Buf (Elt Bits) ℓ) : Prop :=
  True

def Pre_QkvGlbIdeal (m : (ℓ : Loc Cert.QkvGlbIdeal.nD Cert.QkvGlbIdeal.τ Cert.QkvGlbIdeal.sig) → Buf (Elt Ideal) ℓ) : Prop :=
  True

def Pre_RefQkvGlbIdeal (m : (ℓ : Loc Cert.RefQkvGlbIdeal.nD Cert.RefQkvGlbIdeal.τ Cert.RefQkvGlbIdeal.sig) → Buf (Elt Ideal) ℓ) : Prop :=
  True

def Pre_MlpWin (m : (ℓ : Loc Cert.MlpWin.nD Cert.MlpWin.τ Cert.MlpWin.sig) → Buf (Elt Bits) ℓ) : Prop :=
  True

def Pre_MlpWinIdeal (m : (ℓ : Loc Cert.MlpWinIdeal.nD Cert.MlpWinIdeal.τ Cert.MlpWinIdeal.sig) → Buf (Elt Ideal) ℓ) : Prop :=
  True

def Pre_RefMlpWinIdeal (m : (ℓ : Loc Cert.RefMlpWinIdeal.nD Cert.RefMlpWinIdeal.τ Cert.RefMlpWinIdeal.sig) → Buf (Elt Ideal) ℓ) : Prop :=
  True

def Pre_MlpGlb (m : (ℓ : Loc Cert.MlpGlb.nD Cert.MlpGlb.τ Cert.MlpGlb.sig) → Buf (Elt Bits) ℓ) : Prop :=
  True

def Pre_MlpGlbIdeal (m : (ℓ : Loc Cert.MlpGlbIdeal.nD Cert.MlpGlbIdeal.τ Cert.MlpGlbIdeal.sig) → Buf (Elt Ideal) ℓ) : Prop :=
  True

def Pre_RefMlpGlbIdeal (m : (ℓ : Loc Cert.RefMlpGlbIdeal.nD Cert.RefMlpGlbIdeal.τ Cert.RefMlpGlbIdeal.sig) → Buf (Elt Ideal) ℓ) : Prop :=
  True

def quiescent_QkvWin [hQkvWin : Cert.QkvWin.Facts] : Prop :=
  ∀ (m : (ℓ : Loc Cert.QkvWin.nD Cert.QkvWin.τ Cert.QkvWin.sig) → Buf (Elt Bits) ℓ) (g : Dev Cert.QkvWin.nD → PrngReg), Pre_QkvWin m →
    θ_run (Cert.QkvWin.defs (F := Bits)) (onTc (τ := Cert.QkvWin.τ) (Cert.QkvWin.main (F := Bits))) ⟨m, fun _ => 0, g⟩ (fun r => (∀ c : Dev Cert.QkvWin.nD,
      r.2.mem ((c.tc : Thread Cert.QkvWin.nD Cert.QkvWin.τ).loc Cert.QkvWin.main_arg0) = m ((c.tc : Thread Cert.QkvWin.nD Cert.QkvWin.τ).loc Cert.QkvWin.main_arg0)
      ∧ r.2.mem ((c.tc : Thread Cert.QkvWin.nD Cert.QkvWin.τ).loc Cert.QkvWin.main_arg1) = m ((c.tc : Thread Cert.QkvWin.nD Cert.QkvWin.τ).loc Cert.QkvWin.main_arg1)
      ∧ r.2.mem ((c.tc : Thread Cert.QkvWin.nD Cert.QkvWin.τ).loc Cert.QkvWin.main_arg2) = m ((c.tc : Thread Cert.QkvWin.nD Cert.QkvWin.τ).loc Cert.QkvWin.main_arg2)
      ∧ r.2.mem ((c.tc : Thread Cert.QkvWin.nD Cert.QkvWin.τ).loc Cert.QkvWin.main_arg3) = m ((c.tc : Thread Cert.QkvWin.nD Cert.QkvWin.τ).loc Cert.QkvWin.main_arg3)
      ∧ r.2.mem ((c.tc : Thread Cert.QkvWin.nD Cert.QkvWin.τ).loc Cert.QkvWin.main_arg4) = m ((c.tc : Thread Cert.QkvWin.nD Cert.QkvWin.τ).loc Cert.QkvWin.main_arg4)
      ∧ r.2.mem ((c.tc : Thread Cert.QkvWin.nD Cert.QkvWin.τ).loc Cert.QkvWin.main_arg5) = m ((c.tc : Thread Cert.QkvWin.nD Cert.QkvWin.τ).loc Cert.QkvWin.main_arg5))
      ∧ r.2.sem = fun _ => 0)

def quiescent_QkvWinIdeal [hQkvWinIdeal : Cert.QkvWinIdeal.Facts] : Prop :=
  ∀ (m : (ℓ : Loc Cert.QkvWinIdeal.nD Cert.QkvWinIdeal.τ Cert.QkvWinIdeal.sig) → Buf (Elt Ideal) ℓ) (g : Dev Cert.QkvWinIdeal.nD → PrngReg), Pre_QkvWinIdeal m →
    θ_run (Cert.QkvWinIdeal.defs (F := Ideal)) (onTc (τ := Cert.QkvWinIdeal.τ) (Cert.QkvWinIdeal.main (F := Ideal))) ⟨m, fun _ => 0, g⟩ (fun r => (∀ c : Dev Cert.QkvWinIdeal.nD,
      r.2.mem ((c.tc : Thread Cert.QkvWinIdeal.nD Cert.QkvWinIdeal.τ).loc Cert.QkvWinIdeal.main_arg0) = m ((c.tc : Thread Cert.QkvWinIdeal.nD Cert.QkvWinIdeal.τ).loc Cert.QkvWinIdeal.main_arg0)
      ∧ r.2.mem ((c.tc : Thread Cert.QkvWinIdeal.nD Cert.QkvWinIdeal.τ).loc Cert.QkvWinIdeal.main_arg1) = m ((c.tc : Thread Cert.QkvWinIdeal.nD Cert.QkvWinIdeal.τ).loc Cert.QkvWinIdeal.main_arg1)
      ∧ r.2.mem ((c.tc : Thread Cert.QkvWinIdeal.nD Cert.QkvWinIdeal.τ).loc Cert.QkvWinIdeal.main_arg2) = m ((c.tc : Thread Cert.QkvWinIdeal.nD Cert.QkvWinIdeal.τ).loc Cert.QkvWinIdeal.main_arg2)
      ∧ r.2.mem ((c.tc : Thread Cert.QkvWinIdeal.nD Cert.QkvWinIdeal.τ).loc Cert.QkvWinIdeal.main_arg3) = m ((c.tc : Thread Cert.QkvWinIdeal.nD Cert.QkvWinIdeal.τ).loc Cert.QkvWinIdeal.main_arg3)
      ∧ r.2.mem ((c.tc : Thread Cert.QkvWinIdeal.nD Cert.QkvWinIdeal.τ).loc Cert.QkvWinIdeal.main_arg4) = m ((c.tc : Thread Cert.QkvWinIdeal.nD Cert.QkvWinIdeal.τ).loc Cert.QkvWinIdeal.main_arg4)
      ∧ r.2.mem ((c.tc : Thread Cert.QkvWinIdeal.nD Cert.QkvWinIdeal.τ).loc Cert.QkvWinIdeal.main_arg5) = m ((c.tc : Thread Cert.QkvWinIdeal.nD Cert.QkvWinIdeal.τ).loc Cert.QkvWinIdeal.main_arg5))
      ∧ r.2.sem = fun _ => 0)

def quiescent_RefQkvWinIdeal [hRefQkvWinIdeal : Cert.RefQkvWinIdeal.Facts] : Prop :=
  ∀ (m : (ℓ : Loc Cert.RefQkvWinIdeal.nD Cert.RefQkvWinIdeal.τ Cert.RefQkvWinIdeal.sig) → Buf (Elt Ideal) ℓ) (g : Dev Cert.RefQkvWinIdeal.nD → PrngReg), Pre_RefQkvWinIdeal m →
    θ_run (Cert.RefQkvWinIdeal.defs (F := Ideal)) (onTc (τ := Cert.RefQkvWinIdeal.τ) (Cert.RefQkvWinIdeal.main (F := Ideal))) ⟨m, fun _ => 0, g⟩ (fun r => (∀ c : Dev Cert.RefQkvWinIdeal.nD,
      r.2.mem ((c.tc : Thread Cert.RefQkvWinIdeal.nD Cert.RefQkvWinIdeal.τ).loc Cert.RefQkvWinIdeal.main_arg0) = m ((c.tc : Thread Cert.RefQkvWinIdeal.nD Cert.RefQkvWinIdeal.τ).loc Cert.RefQkvWinIdeal.main_arg0)
      ∧ r.2.mem ((c.tc : Thread Cert.RefQkvWinIdeal.nD Cert.RefQkvWinIdeal.τ).loc Cert.RefQkvWinIdeal.main_arg1) = m ((c.tc : Thread Cert.RefQkvWinIdeal.nD Cert.RefQkvWinIdeal.τ).loc Cert.RefQkvWinIdeal.main_arg1)
      ∧ r.2.mem ((c.tc : Thread Cert.RefQkvWinIdeal.nD Cert.RefQkvWinIdeal.τ).loc Cert.RefQkvWinIdeal.main_arg2) = m ((c.tc : Thread Cert.RefQkvWinIdeal.nD Cert.RefQkvWinIdeal.τ).loc Cert.RefQkvWinIdeal.main_arg2)
      ∧ r.2.mem ((c.tc : Thread Cert.RefQkvWinIdeal.nD Cert.RefQkvWinIdeal.τ).loc Cert.RefQkvWinIdeal.main_arg3) = m ((c.tc : Thread Cert.RefQkvWinIdeal.nD Cert.RefQkvWinIdeal.τ).loc Cert.RefQkvWinIdeal.main_arg3)
      ∧ r.2.mem ((c.tc : Thread Cert.RefQkvWinIdeal.nD Cert.RefQkvWinIdeal.τ).loc Cert.RefQkvWinIdeal.main_arg4) = m ((c.tc : Thread Cert.RefQkvWinIdeal.nD Cert.RefQkvWinIdeal.τ).loc Cert.RefQkvWinIdeal.main_arg4)
      ∧ r.2.mem ((c.tc : Thread Cert.RefQkvWinIdeal.nD Cert.RefQkvWinIdeal.τ).loc Cert.RefQkvWinIdeal.main_arg5) = m ((c.tc : Thread Cert.RefQkvWinIdeal.nD Cert.RefQkvWinIdeal.τ).loc Cert.RefQkvWinIdeal.main_arg5))
      ∧ r.2.sem = fun _ => 0)

def quiescent_QkvGlb [hQkvGlb : Cert.QkvGlb.Facts] : Prop :=
  ∀ (m : (ℓ : Loc Cert.QkvGlb.nD Cert.QkvGlb.τ Cert.QkvGlb.sig) → Buf (Elt Bits) ℓ) (g : Dev Cert.QkvGlb.nD → PrngReg), Pre_QkvGlb m →
    θ_run (Cert.QkvGlb.defs (F := Bits)) (onTc (τ := Cert.QkvGlb.τ) (Cert.QkvGlb.main (F := Bits))) ⟨m, fun _ => 0, g⟩ (fun r => (∀ c : Dev Cert.QkvGlb.nD,
      r.2.mem ((c.tc : Thread Cert.QkvGlb.nD Cert.QkvGlb.τ).loc Cert.QkvGlb.main_arg0) = m ((c.tc : Thread Cert.QkvGlb.nD Cert.QkvGlb.τ).loc Cert.QkvGlb.main_arg0)
      ∧ r.2.mem ((c.tc : Thread Cert.QkvGlb.nD Cert.QkvGlb.τ).loc Cert.QkvGlb.main_arg1) = m ((c.tc : Thread Cert.QkvGlb.nD Cert.QkvGlb.τ).loc Cert.QkvGlb.main_arg1)
      ∧ r.2.mem ((c.tc : Thread Cert.QkvGlb.nD Cert.QkvGlb.τ).loc Cert.QkvGlb.main_arg2) = m ((c.tc : Thread Cert.QkvGlb.nD Cert.QkvGlb.τ).loc Cert.QkvGlb.main_arg2)
      ∧ r.2.mem ((c.tc : Thread Cert.QkvGlb.nD Cert.QkvGlb.τ).loc Cert.QkvGlb.main_arg3) = m ((c.tc : Thread Cert.QkvGlb.nD Cert.QkvGlb.τ).loc Cert.QkvGlb.main_arg3)
      ∧ r.2.mem ((c.tc : Thread Cert.QkvGlb.nD Cert.QkvGlb.τ).loc Cert.QkvGlb.main_arg4) = m ((c.tc : Thread Cert.QkvGlb.nD Cert.QkvGlb.τ).loc Cert.QkvGlb.main_arg4)
      ∧ r.2.mem ((c.tc : Thread Cert.QkvGlb.nD Cert.QkvGlb.τ).loc Cert.QkvGlb.main_arg5) = m ((c.tc : Thread Cert.QkvGlb.nD Cert.QkvGlb.τ).loc Cert.QkvGlb.main_arg5))
      ∧ r.2.sem = fun _ => 0)

def quiescent_QkvGlbIdeal [hQkvGlbIdeal : Cert.QkvGlbIdeal.Facts] : Prop :=
  ∀ (m : (ℓ : Loc Cert.QkvGlbIdeal.nD Cert.QkvGlbIdeal.τ Cert.QkvGlbIdeal.sig) → Buf (Elt Ideal) ℓ) (g : Dev Cert.QkvGlbIdeal.nD → PrngReg), Pre_QkvGlbIdeal m →
    θ_run (Cert.QkvGlbIdeal.defs (F := Ideal)) (onTc (τ := Cert.QkvGlbIdeal.τ) (Cert.QkvGlbIdeal.main (F := Ideal))) ⟨m, fun _ => 0, g⟩ (fun r => (∀ c : Dev Cert.QkvGlbIdeal.nD,
      r.2.mem ((c.tc : Thread Cert.QkvGlbIdeal.nD Cert.QkvGlbIdeal.τ).loc Cert.QkvGlbIdeal.main_arg0) = m ((c.tc : Thread Cert.QkvGlbIdeal.nD Cert.QkvGlbIdeal.τ).loc Cert.QkvGlbIdeal.main_arg0)
      ∧ r.2.mem ((c.tc : Thread Cert.QkvGlbIdeal.nD Cert.QkvGlbIdeal.τ).loc Cert.QkvGlbIdeal.main_arg1) = m ((c.tc : Thread Cert.QkvGlbIdeal.nD Cert.QkvGlbIdeal.τ).loc Cert.QkvGlbIdeal.main_arg1)
      ∧ r.2.mem ((c.tc : Thread Cert.QkvGlbIdeal.nD Cert.QkvGlbIdeal.τ).loc Cert.QkvGlbIdeal.main_arg2) = m ((c.tc : Thread Cert.QkvGlbIdeal.nD Cert.QkvGlbIdeal.τ).loc Cert.QkvGlbIdeal.main_arg2)
      ∧ r.2.mem ((c.tc : Thread Cert.QkvGlbIdeal.nD Cert.QkvGlbIdeal.τ).loc Cert.QkvGlbIdeal.main_arg3) = m ((c.tc : Thread Cert.QkvGlbIdeal.nD Cert.QkvGlbIdeal.τ).loc Cert.QkvGlbIdeal.main_arg3)
      ∧ r.2.mem ((c.tc : Thread Cert.QkvGlbIdeal.nD Cert.QkvGlbIdeal.τ).loc Cert.QkvGlbIdeal.main_arg4) = m ((c.tc : Thread Cert.QkvGlbIdeal.nD Cert.QkvGlbIdeal.τ).loc Cert.QkvGlbIdeal.main_arg4)
      ∧ r.2.mem ((c.tc : Thread Cert.QkvGlbIdeal.nD Cert.QkvGlbIdeal.τ).loc Cert.QkvGlbIdeal.main_arg5) = m ((c.tc : Thread Cert.QkvGlbIdeal.nD Cert.QkvGlbIdeal.τ).loc Cert.QkvGlbIdeal.main_arg5))
      ∧ r.2.sem = fun _ => 0)

def quiescent_RefQkvGlbIdeal [hRefQkvGlbIdeal : Cert.RefQkvGlbIdeal.Facts] : Prop :=
  ∀ (m : (ℓ : Loc Cert.RefQkvGlbIdeal.nD Cert.RefQkvGlbIdeal.τ Cert.RefQkvGlbIdeal.sig) → Buf (Elt Ideal) ℓ) (g : Dev Cert.RefQkvGlbIdeal.nD → PrngReg), Pre_RefQkvGlbIdeal m →
    θ_run (Cert.RefQkvGlbIdeal.defs (F := Ideal)) (onTc (τ := Cert.RefQkvGlbIdeal.τ) (Cert.RefQkvGlbIdeal.main (F := Ideal))) ⟨m, fun _ => 0, g⟩ (fun r => (∀ c : Dev Cert.RefQkvGlbIdeal.nD,
      r.2.mem ((c.tc : Thread Cert.RefQkvGlbIdeal.nD Cert.RefQkvGlbIdeal.τ).loc Cert.RefQkvGlbIdeal.main_arg0) = m ((c.tc : Thread Cert.RefQkvGlbIdeal.nD Cert.RefQkvGlbIdeal.τ).loc Cert.RefQkvGlbIdeal.main_arg0)
      ∧ r.2.mem ((c.tc : Thread Cert.RefQkvGlbIdeal.nD Cert.RefQkvGlbIdeal.τ).loc Cert.RefQkvGlbIdeal.main_arg1) = m ((c.tc : Thread Cert.RefQkvGlbIdeal.nD Cert.RefQkvGlbIdeal.τ).loc Cert.RefQkvGlbIdeal.main_arg1)
      ∧ r.2.mem ((c.tc : Thread Cert.RefQkvGlbIdeal.nD Cert.RefQkvGlbIdeal.τ).loc Cert.RefQkvGlbIdeal.main_arg2) = m ((c.tc : Thread Cert.RefQkvGlbIdeal.nD Cert.RefQkvGlbIdeal.τ).loc Cert.RefQkvGlbIdeal.main_arg2)
      ∧ r.2.mem ((c.tc : Thread Cert.RefQkvGlbIdeal.nD Cert.RefQkvGlbIdeal.τ).loc Cert.RefQkvGlbIdeal.main_arg3) = m ((c.tc : Thread Cert.RefQkvGlbIdeal.nD Cert.RefQkvGlbIdeal.τ).loc Cert.RefQkvGlbIdeal.main_arg3)
      ∧ r.2.mem ((c.tc : Thread Cert.RefQkvGlbIdeal.nD Cert.RefQkvGlbIdeal.τ).loc Cert.RefQkvGlbIdeal.main_arg4) = m ((c.tc : Thread Cert.RefQkvGlbIdeal.nD Cert.RefQkvGlbIdeal.τ).loc Cert.RefQkvGlbIdeal.main_arg4)
      ∧ r.2.mem ((c.tc : Thread Cert.RefQkvGlbIdeal.nD Cert.RefQkvGlbIdeal.τ).loc Cert.RefQkvGlbIdeal.main_arg5) = m ((c.tc : Thread Cert.RefQkvGlbIdeal.nD Cert.RefQkvGlbIdeal.τ).loc Cert.RefQkvGlbIdeal.main_arg5))
      ∧ r.2.sem = fun _ => 0)

def quiescent_MlpWin [hMlpWin : Cert.MlpWin.Facts] : Prop :=
  ∀ (m : (ℓ : Loc Cert.MlpWin.nD Cert.MlpWin.τ Cert.MlpWin.sig) → Buf (Elt Bits) ℓ) (g : Dev Cert.MlpWin.nD → PrngReg), Pre_MlpWin m →
    θ_run (Cert.MlpWin.defs (F := Bits)) (onTc (τ := Cert.MlpWin.τ) (Cert.MlpWin.main (F := Bits))) ⟨m, fun _ => 0, g⟩ (fun r => (∀ c : Dev Cert.MlpWin.nD,
      r.2.mem ((c.tc : Thread Cert.MlpWin.nD Cert.MlpWin.τ).loc Cert.MlpWin.main_arg0) = m ((c.tc : Thread Cert.MlpWin.nD Cert.MlpWin.τ).loc Cert.MlpWin.main_arg0)
      ∧ r.2.mem ((c.tc : Thread Cert.MlpWin.nD Cert.MlpWin.τ).loc Cert.MlpWin.main_arg1) = m ((c.tc : Thread Cert.MlpWin.nD Cert.MlpWin.τ).loc Cert.MlpWin.main_arg1)
      ∧ r.2.mem ((c.tc : Thread Cert.MlpWin.nD Cert.MlpWin.τ).loc Cert.MlpWin.main_arg2) = m ((c.tc : Thread Cert.MlpWin.nD Cert.MlpWin.τ).loc Cert.MlpWin.main_arg2)
      ∧ r.2.mem ((c.tc : Thread Cert.MlpWin.nD Cert.MlpWin.τ).loc Cert.MlpWin.main_arg3) = m ((c.tc : Thread Cert.MlpWin.nD Cert.MlpWin.τ).loc Cert.MlpWin.main_arg3)
      ∧ r.2.mem ((c.tc : Thread Cert.MlpWin.nD Cert.MlpWin.τ).loc Cert.MlpWin.main_arg4) = m ((c.tc : Thread Cert.MlpWin.nD Cert.MlpWin.τ).loc Cert.MlpWin.main_arg4)
      ∧ r.2.mem ((c.tc : Thread Cert.MlpWin.nD Cert.MlpWin.τ).loc Cert.MlpWin.main_arg5) = m ((c.tc : Thread Cert.MlpWin.nD Cert.MlpWin.τ).loc Cert.MlpWin.main_arg5)
      ∧ r.2.mem ((c.tc : Thread Cert.MlpWin.nD Cert.MlpWin.τ).loc Cert.MlpWin.main_arg6) = m ((c.tc : Thread Cert.MlpWin.nD Cert.MlpWin.τ).loc Cert.MlpWin.main_arg6)
      ∧ r.2.mem ((c.tc : Thread Cert.MlpWin.nD Cert.MlpWin.τ).loc Cert.MlpWin.main_arg7) = m ((c.tc : Thread Cert.MlpWin.nD Cert.MlpWin.τ).loc Cert.MlpWin.main_arg7)
      ∧ r.2.mem ((c.tc : Thread Cert.MlpWin.nD Cert.MlpWin.τ).loc Cert.MlpWin.main_arg8) = m ((c.tc : Thread Cert.MlpWin.nD Cert.MlpWin.τ).loc Cert.MlpWin.main_arg8)
      ∧ r.2.mem ((c.tc : Thread Cert.MlpWin.nD Cert.MlpWin.τ).loc Cert.MlpWin.main_arg9) = m ((c.tc : Thread Cert.MlpWin.nD Cert.MlpWin.τ).loc Cert.MlpWin.main_arg9)
      ∧ r.2.mem ((c.tc : Thread Cert.MlpWin.nD Cert.MlpWin.τ).loc Cert.MlpWin.main_arg10) = m ((c.tc : Thread Cert.MlpWin.nD Cert.MlpWin.τ).loc Cert.MlpWin.main_arg10)
      ∧ r.2.mem ((c.tc : Thread Cert.MlpWin.nD Cert.MlpWin.τ).loc Cert.MlpWin.main_arg11) = m ((c.tc : Thread Cert.MlpWin.nD Cert.MlpWin.τ).loc Cert.MlpWin.main_arg11)
      ∧ r.2.mem ((c.tc : Thread Cert.MlpWin.nD Cert.MlpWin.τ).loc Cert.MlpWin.main_arg12) = m ((c.tc : Thread Cert.MlpWin.nD Cert.MlpWin.τ).loc Cert.MlpWin.main_arg12))
      ∧ r.2.sem = fun _ => 0)

def quiescent_MlpWinIdeal [hMlpWinIdeal : Cert.MlpWinIdeal.Facts] : Prop :=
  ∀ (m : (ℓ : Loc Cert.MlpWinIdeal.nD Cert.MlpWinIdeal.τ Cert.MlpWinIdeal.sig) → Buf (Elt Ideal) ℓ) (g : Dev Cert.MlpWinIdeal.nD → PrngReg), Pre_MlpWinIdeal m →
    θ_run (Cert.MlpWinIdeal.defs (F := Ideal)) (onTc (τ := Cert.MlpWinIdeal.τ) (Cert.MlpWinIdeal.main (F := Ideal))) ⟨m, fun _ => 0, g⟩ (fun r => (∀ c : Dev Cert.MlpWinIdeal.nD,
      r.2.mem ((c.tc : Thread Cert.MlpWinIdeal.nD Cert.MlpWinIdeal.τ).loc Cert.MlpWinIdeal.main_arg0) = m ((c.tc : Thread Cert.MlpWinIdeal.nD Cert.MlpWinIdeal.τ).loc Cert.MlpWinIdeal.main_arg0)
      ∧ r.2.mem ((c.tc : Thread Cert.MlpWinIdeal.nD Cert.MlpWinIdeal.τ).loc Cert.MlpWinIdeal.main_arg1) = m ((c.tc : Thread Cert.MlpWinIdeal.nD Cert.MlpWinIdeal.τ).loc Cert.MlpWinIdeal.main_arg1)
      ∧ r.2.mem ((c.tc : Thread Cert.MlpWinIdeal.nD Cert.MlpWinIdeal.τ).loc Cert.MlpWinIdeal.main_arg2) = m ((c.tc : Thread Cert.MlpWinIdeal.nD Cert.MlpWinIdeal.τ).loc Cert.MlpWinIdeal.main_arg2)
      ∧ r.2.mem ((c.tc : Thread Cert.MlpWinIdeal.nD Cert.MlpWinIdeal.τ).loc Cert.MlpWinIdeal.main_arg3) = m ((c.tc : Thread Cert.MlpWinIdeal.nD Cert.MlpWinIdeal.τ).loc Cert.MlpWinIdeal.main_arg3)
      ∧ r.2.mem ((c.tc : Thread Cert.MlpWinIdeal.nD Cert.MlpWinIdeal.τ).loc Cert.MlpWinIdeal.main_arg4) = m ((c.tc : Thread Cert.MlpWinIdeal.nD Cert.MlpWinIdeal.τ).loc Cert.MlpWinIdeal.main_arg4)
      ∧ r.2.mem ((c.tc : Thread Cert.MlpWinIdeal.nD Cert.MlpWinIdeal.τ).loc Cert.MlpWinIdeal.main_arg5) = m ((c.tc : Thread Cert.MlpWinIdeal.nD Cert.MlpWinIdeal.τ).loc Cert.MlpWinIdeal.main_arg5)
      ∧ r.2.mem ((c.tc : Thread Cert.MlpWinIdeal.nD Cert.MlpWinIdeal.τ).loc Cert.MlpWinIdeal.main_arg6) = m ((c.tc : Thread Cert.MlpWinIdeal.nD Cert.MlpWinIdeal.τ).loc Cert.MlpWinIdeal.main_arg6)
      ∧ r.2.mem ((c.tc : Thread Cert.MlpWinIdeal.nD Cert.MlpWinIdeal.τ).loc Cert.MlpWinIdeal.main_arg7) = m ((c.tc : Thread Cert.MlpWinIdeal.nD Cert.MlpWinIdeal.τ).loc Cert.MlpWinIdeal.main_arg7)
      ∧ r.2.mem ((c.tc : Thread Cert.MlpWinIdeal.nD Cert.MlpWinIdeal.τ).loc Cert.MlpWinIdeal.main_arg8) = m ((c.tc : Thread Cert.MlpWinIdeal.nD Cert.MlpWinIdeal.τ).loc Cert.MlpWinIdeal.main_arg8)
      ∧ r.2.mem ((c.tc : Thread Cert.MlpWinIdeal.nD Cert.MlpWinIdeal.τ).loc Cert.MlpWinIdeal.main_arg9) = m ((c.tc : Thread Cert.MlpWinIdeal.nD Cert.MlpWinIdeal.τ).loc Cert.MlpWinIdeal.main_arg9)
      ∧ r.2.mem ((c.tc : Thread Cert.MlpWinIdeal.nD Cert.MlpWinIdeal.τ).loc Cert.MlpWinIdeal.main_arg10) = m ((c.tc : Thread Cert.MlpWinIdeal.nD Cert.MlpWinIdeal.τ).loc Cert.MlpWinIdeal.main_arg10)
      ∧ r.2.mem ((c.tc : Thread Cert.MlpWinIdeal.nD Cert.MlpWinIdeal.τ).loc Cert.MlpWinIdeal.main_arg11) = m ((c.tc : Thread Cert.MlpWinIdeal.nD Cert.MlpWinIdeal.τ).loc Cert.MlpWinIdeal.main_arg11)
      ∧ r.2.mem ((c.tc : Thread Cert.MlpWinIdeal.nD Cert.MlpWinIdeal.τ).loc Cert.MlpWinIdeal.main_arg12) = m ((c.tc : Thread Cert.MlpWinIdeal.nD Cert.MlpWinIdeal.τ).loc Cert.MlpWinIdeal.main_arg12))
      ∧ r.2.sem = fun _ => 0)

def quiescent_RefMlpWinIdeal [hRefMlpWinIdeal : Cert.RefMlpWinIdeal.Facts] : Prop :=
  ∀ (m : (ℓ : Loc Cert.RefMlpWinIdeal.nD Cert.RefMlpWinIdeal.τ Cert.RefMlpWinIdeal.sig) → Buf (Elt Ideal) ℓ) (g : Dev Cert.RefMlpWinIdeal.nD → PrngReg), Pre_RefMlpWinIdeal m →
    θ_run (Cert.RefMlpWinIdeal.defs (F := Ideal)) (onTc (τ := Cert.RefMlpWinIdeal.τ) (Cert.RefMlpWinIdeal.main (F := Ideal))) ⟨m, fun _ => 0, g⟩ (fun r => (∀ c : Dev Cert.RefMlpWinIdeal.nD,
      r.2.mem ((c.tc : Thread Cert.RefMlpWinIdeal.nD Cert.RefMlpWinIdeal.τ).loc Cert.RefMlpWinIdeal.main_arg0) = m ((c.tc : Thread Cert.RefMlpWinIdeal.nD Cert.RefMlpWinIdeal.τ).loc Cert.RefMlpWinIdeal.main_arg0)
      ∧ r.2.mem ((c.tc : Thread Cert.RefMlpWinIdeal.nD Cert.RefMlpWinIdeal.τ).loc Cert.RefMlpWinIdeal.main_arg1) = m ((c.tc : Thread Cert.RefMlpWinIdeal.nD Cert.RefMlpWinIdeal.τ).loc Cert.RefMlpWinIdeal.main_arg1)
      ∧ r.2.mem ((c.tc : Thread Cert.RefMlpWinIdeal.nD Cert.RefMlpWinIdeal.τ).loc Cert.RefMlpWinIdeal.main_arg2) = m ((c.tc : Thread Cert.RefMlpWinIdeal.nD Cert.RefMlpWinIdeal.τ).loc Cert.RefMlpWinIdeal.main_arg2)
      ∧ r.2.mem ((c.tc : Thread Cert.RefMlpWinIdeal.nD Cert.RefMlpWinIdeal.τ).loc Cert.RefMlpWinIdeal.main_arg3) = m ((c.tc : Thread Cert.RefMlpWinIdeal.nD Cert.RefMlpWinIdeal.τ).loc Cert.RefMlpWinIdeal.main_arg3)
      ∧ r.2.mem ((c.tc : Thread Cert.RefMlpWinIdeal.nD Cert.RefMlpWinIdeal.τ).loc Cert.RefMlpWinIdeal.main_arg4) = m ((c.tc : Thread Cert.RefMlpWinIdeal.nD Cert.RefMlpWinIdeal.τ).loc Cert.RefMlpWinIdeal.main_arg4)
      ∧ r.2.mem ((c.tc : Thread Cert.RefMlpWinIdeal.nD Cert.RefMlpWinIdeal.τ).loc Cert.RefMlpWinIdeal.main_arg5) = m ((c.tc : Thread Cert.RefMlpWinIdeal.nD Cert.RefMlpWinIdeal.τ).loc Cert.RefMlpWinIdeal.main_arg5)
      ∧ r.2.mem ((c.tc : Thread Cert.RefMlpWinIdeal.nD Cert.RefMlpWinIdeal.τ).loc Cert.RefMlpWinIdeal.main_arg6) = m ((c.tc : Thread Cert.RefMlpWinIdeal.nD Cert.RefMlpWinIdeal.τ).loc Cert.RefMlpWinIdeal.main_arg6)
      ∧ r.2.mem ((c.tc : Thread Cert.RefMlpWinIdeal.nD Cert.RefMlpWinIdeal.τ).loc Cert.RefMlpWinIdeal.main_arg7) = m ((c.tc : Thread Cert.RefMlpWinIdeal.nD Cert.RefMlpWinIdeal.τ).loc Cert.RefMlpWinIdeal.main_arg7)
      ∧ r.2.mem ((c.tc : Thread Cert.RefMlpWinIdeal.nD Cert.RefMlpWinIdeal.τ).loc Cert.RefMlpWinIdeal.main_arg8) = m ((c.tc : Thread Cert.RefMlpWinIdeal.nD Cert.RefMlpWinIdeal.τ).loc Cert.RefMlpWinIdeal.main_arg8)
      ∧ r.2.mem ((c.tc : Thread Cert.RefMlpWinIdeal.nD Cert.RefMlpWinIdeal.τ).loc Cert.RefMlpWinIdeal.main_arg9) = m ((c.tc : Thread Cert.RefMlpWinIdeal.nD Cert.RefMlpWinIdeal.τ).loc Cert.RefMlpWinIdeal.main_arg9)
      ∧ r.2.mem ((c.tc : Thread Cert.RefMlpWinIdeal.nD Cert.RefMlpWinIdeal.τ).loc Cert.RefMlpWinIdeal.main_arg10) = m ((c.tc : Thread Cert.RefMlpWinIdeal.nD Cert.RefMlpWinIdeal.τ).loc Cert.RefMlpWinIdeal.main_arg10)
      ∧ r.2.mem ((c.tc : Thread Cert.RefMlpWinIdeal.nD Cert.RefMlpWinIdeal.τ).loc Cert.RefMlpWinIdeal.main_arg11) = m ((c.tc : Thread Cert.RefMlpWinIdeal.nD Cert.RefMlpWinIdeal.τ).loc Cert.RefMlpWinIdeal.main_arg11)
      ∧ r.2.mem ((c.tc : Thread Cert.RefMlpWinIdeal.nD Cert.RefMlpWinIdeal.τ).loc Cert.RefMlpWinIdeal.main_arg12) = m ((c.tc : Thread Cert.RefMlpWinIdeal.nD Cert.RefMlpWinIdeal.τ).loc Cert.RefMlpWinIdeal.main_arg12))
      ∧ r.2.sem = fun _ => 0)

def quiescent_MlpGlb [hMlpGlb : Cert.MlpGlb.Facts] : Prop :=
  ∀ (m : (ℓ : Loc Cert.MlpGlb.nD Cert.MlpGlb.τ Cert.MlpGlb.sig) → Buf (Elt Bits) ℓ) (g : Dev Cert.MlpGlb.nD → PrngReg), Pre_MlpGlb m →
    θ_run (Cert.MlpGlb.defs (F := Bits)) (onTc (τ := Cert.MlpGlb.τ) (Cert.MlpGlb.main (F := Bits))) ⟨m, fun _ => 0, g⟩ (fun r => (∀ c : Dev Cert.MlpGlb.nD,
      r.2.mem ((c.tc : Thread Cert.MlpGlb.nD Cert.MlpGlb.τ).loc Cert.MlpGlb.main_arg0) = m ((c.tc : Thread Cert.MlpGlb.nD Cert.MlpGlb.τ).loc Cert.MlpGlb.main_arg0)
      ∧ r.2.mem ((c.tc : Thread Cert.MlpGlb.nD Cert.MlpGlb.τ).loc Cert.MlpGlb.main_arg1) = m ((c.tc : Thread Cert.MlpGlb.nD Cert.MlpGlb.τ).loc Cert.MlpGlb.main_arg1)
      ∧ r.2.mem ((c.tc : Thread Cert.MlpGlb.nD Cert.MlpGlb.τ).loc Cert.MlpGlb.main_arg2) = m ((c.tc : Thread Cert.MlpGlb.nD Cert.MlpGlb.τ).loc Cert.MlpGlb.main_arg2)
      ∧ r.2.mem ((c.tc : Thread Cert.MlpGlb.nD Cert.MlpGlb.τ).loc Cert.MlpGlb.main_arg3) = m ((c.tc : Thread Cert.MlpGlb.nD Cert.MlpGlb.τ).loc Cert.MlpGlb.main_arg3)
      ∧ r.2.mem ((c.tc : Thread Cert.MlpGlb.nD Cert.MlpGlb.τ).loc Cert.MlpGlb.main_arg4) = m ((c.tc : Thread Cert.MlpGlb.nD Cert.MlpGlb.τ).loc Cert.MlpGlb.main_arg4)
      ∧ r.2.mem ((c.tc : Thread Cert.MlpGlb.nD Cert.MlpGlb.τ).loc Cert.MlpGlb.main_arg5) = m ((c.tc : Thread Cert.MlpGlb.nD Cert.MlpGlb.τ).loc Cert.MlpGlb.main_arg5)
      ∧ r.2.mem ((c.tc : Thread Cert.MlpGlb.nD Cert.MlpGlb.τ).loc Cert.MlpGlb.main_arg6) = m ((c.tc : Thread Cert.MlpGlb.nD Cert.MlpGlb.τ).loc Cert.MlpGlb.main_arg6)
      ∧ r.2.mem ((c.tc : Thread Cert.MlpGlb.nD Cert.MlpGlb.τ).loc Cert.MlpGlb.main_arg7) = m ((c.tc : Thread Cert.MlpGlb.nD Cert.MlpGlb.τ).loc Cert.MlpGlb.main_arg7)
      ∧ r.2.mem ((c.tc : Thread Cert.MlpGlb.nD Cert.MlpGlb.τ).loc Cert.MlpGlb.main_arg8) = m ((c.tc : Thread Cert.MlpGlb.nD Cert.MlpGlb.τ).loc Cert.MlpGlb.main_arg8)
      ∧ r.2.mem ((c.tc : Thread Cert.MlpGlb.nD Cert.MlpGlb.τ).loc Cert.MlpGlb.main_arg9) = m ((c.tc : Thread Cert.MlpGlb.nD Cert.MlpGlb.τ).loc Cert.MlpGlb.main_arg9)
      ∧ r.2.mem ((c.tc : Thread Cert.MlpGlb.nD Cert.MlpGlb.τ).loc Cert.MlpGlb.main_arg10) = m ((c.tc : Thread Cert.MlpGlb.nD Cert.MlpGlb.τ).loc Cert.MlpGlb.main_arg10)
      ∧ r.2.mem ((c.tc : Thread Cert.MlpGlb.nD Cert.MlpGlb.τ).loc Cert.MlpGlb.main_arg11) = m ((c.tc : Thread Cert.MlpGlb.nD Cert.MlpGlb.τ).loc Cert.MlpGlb.main_arg11)
      ∧ r.2.mem ((c.tc : Thread Cert.MlpGlb.nD Cert.MlpGlb.τ).loc Cert.MlpGlb.main_arg12) = m ((c.tc : Thread Cert.MlpGlb.nD Cert.MlpGlb.τ).loc Cert.MlpGlb.main_arg12))
      ∧ r.2.sem = fun _ => 0)

def quiescent_MlpGlbIdeal [hMlpGlbIdeal : Cert.MlpGlbIdeal.Facts] : Prop :=
  ∀ (m : (ℓ : Loc Cert.MlpGlbIdeal.nD Cert.MlpGlbIdeal.τ Cert.MlpGlbIdeal.sig) → Buf (Elt Ideal) ℓ) (g : Dev Cert.MlpGlbIdeal.nD → PrngReg), Pre_MlpGlbIdeal m →
    θ_run (Cert.MlpGlbIdeal.defs (F := Ideal)) (onTc (τ := Cert.MlpGlbIdeal.τ) (Cert.MlpGlbIdeal.main (F := Ideal))) ⟨m, fun _ => 0, g⟩ (fun r => (∀ c : Dev Cert.MlpGlbIdeal.nD,
      r.2.mem ((c.tc : Thread Cert.MlpGlbIdeal.nD Cert.MlpGlbIdeal.τ).loc Cert.MlpGlbIdeal.main_arg0) = m ((c.tc : Thread Cert.MlpGlbIdeal.nD Cert.MlpGlbIdeal.τ).loc Cert.MlpGlbIdeal.main_arg0)
      ∧ r.2.mem ((c.tc : Thread Cert.MlpGlbIdeal.nD Cert.MlpGlbIdeal.τ).loc Cert.MlpGlbIdeal.main_arg1) = m ((c.tc : Thread Cert.MlpGlbIdeal.nD Cert.MlpGlbIdeal.τ).loc Cert.MlpGlbIdeal.main_arg1)
      ∧ r.2.mem ((c.tc : Thread Cert.MlpGlbIdeal.nD Cert.MlpGlbIdeal.τ).loc Cert.MlpGlbIdeal.main_arg2) = m ((c.tc : Thread Cert.MlpGlbIdeal.nD Cert.MlpGlbIdeal.τ).loc Cert.MlpGlbIdeal.main_arg2)
      ∧ r.2.mem ((c.tc : Thread Cert.MlpGlbIdeal.nD Cert.MlpGlbIdeal.τ).loc Cert.MlpGlbIdeal.main_arg3) = m ((c.tc : Thread Cert.MlpGlbIdeal.nD Cert.MlpGlbIdeal.τ).loc Cert.MlpGlbIdeal.main_arg3)
      ∧ r.2.mem ((c.tc : Thread Cert.MlpGlbIdeal.nD Cert.MlpGlbIdeal.τ).loc Cert.MlpGlbIdeal.main_arg4) = m ((c.tc : Thread Cert.MlpGlbIdeal.nD Cert.MlpGlbIdeal.τ).loc Cert.MlpGlbIdeal.main_arg4)
      ∧ r.2.mem ((c.tc : Thread Cert.MlpGlbIdeal.nD Cert.MlpGlbIdeal.τ).loc Cert.MlpGlbIdeal.main_arg5) = m ((c.tc : Thread Cert.MlpGlbIdeal.nD Cert.MlpGlbIdeal.τ).loc Cert.MlpGlbIdeal.main_arg5)
      ∧ r.2.mem ((c.tc : Thread Cert.MlpGlbIdeal.nD Cert.MlpGlbIdeal.τ).loc Cert.MlpGlbIdeal.main_arg6) = m ((c.tc : Thread Cert.MlpGlbIdeal.nD Cert.MlpGlbIdeal.τ).loc Cert.MlpGlbIdeal.main_arg6)
      ∧ r.2.mem ((c.tc : Thread Cert.MlpGlbIdeal.nD Cert.MlpGlbIdeal.τ).loc Cert.MlpGlbIdeal.main_arg7) = m ((c.tc : Thread Cert.MlpGlbIdeal.nD Cert.MlpGlbIdeal.τ).loc Cert.MlpGlbIdeal.main_arg7)
      ∧ r.2.mem ((c.tc : Thread Cert.MlpGlbIdeal.nD Cert.MlpGlbIdeal.τ).loc Cert.MlpGlbIdeal.main_arg8) = m ((c.tc : Thread Cert.MlpGlbIdeal.nD Cert.MlpGlbIdeal.τ).loc Cert.MlpGlbIdeal.main_arg8)
      ∧ r.2.mem ((c.tc : Thread Cert.MlpGlbIdeal.nD Cert.MlpGlbIdeal.τ).loc Cert.MlpGlbIdeal.main_arg9) = m ((c.tc : Thread Cert.MlpGlbIdeal.nD Cert.MlpGlbIdeal.τ).loc Cert.MlpGlbIdeal.main_arg9)
      ∧ r.2.mem ((c.tc : Thread Cert.MlpGlbIdeal.nD Cert.MlpGlbIdeal.τ).loc Cert.MlpGlbIdeal.main_arg10) = m ((c.tc : Thread Cert.MlpGlbIdeal.nD Cert.MlpGlbIdeal.τ).loc Cert.MlpGlbIdeal.main_arg10)
      ∧ r.2.mem ((c.tc : Thread Cert.MlpGlbIdeal.nD Cert.MlpGlbIdeal.τ).loc Cert.MlpGlbIdeal.main_arg11) = m ((c.tc : Thread Cert.MlpGlbIdeal.nD Cert.MlpGlbIdeal.τ).loc Cert.MlpGlbIdeal.main_arg11)
      ∧ r.2.mem ((c.tc : Thread Cert.MlpGlbIdeal.nD Cert.MlpGlbIdeal.τ).loc Cert.MlpGlbIdeal.main_arg12) = m ((c.tc : Thread Cert.MlpGlbIdeal.nD Cert.MlpGlbIdeal.τ).loc Cert.MlpGlbIdeal.main_arg12))
      ∧ r.2.sem = fun _ => 0)

def quiescent_RefMlpGlbIdeal [hRefMlpGlbIdeal : Cert.RefMlpGlbIdeal.Facts] : Prop :=
  ∀ (m : (ℓ : Loc Cert.RefMlpGlbIdeal.nD Cert.RefMlpGlbIdeal.τ Cert.RefMlpGlbIdeal.sig) → Buf (Elt Ideal) ℓ) (g : Dev Cert.RefMlpGlbIdeal.nD → PrngReg), Pre_RefMlpGlbIdeal m →
    θ_run (Cert.RefMlpGlbIdeal.defs (F := Ideal)) (onTc (τ := Cert.RefMlpGlbIdeal.τ) (Cert.RefMlpGlbIdeal.main (F := Ideal))) ⟨m, fun _ => 0, g⟩ (fun r => (∀ c : Dev Cert.RefMlpGlbIdeal.nD,
      r.2.mem ((c.tc : Thread Cert.RefMlpGlbIdeal.nD Cert.RefMlpGlbIdeal.τ).loc Cert.RefMlpGlbIdeal.main_arg0) = m ((c.tc : Thread Cert.RefMlpGlbIdeal.nD Cert.RefMlpGlbIdeal.τ).loc Cert.RefMlpGlbIdeal.main_arg0)
      ∧ r.2.mem ((c.tc : Thread Cert.RefMlpGlbIdeal.nD Cert.RefMlpGlbIdeal.τ).loc Cert.RefMlpGlbIdeal.main_arg1) = m ((c.tc : Thread Cert.RefMlpGlbIdeal.nD Cert.RefMlpGlbIdeal.τ).loc Cert.RefMlpGlbIdeal.main_arg1)
      ∧ r.2.mem ((c.tc : Thread Cert.RefMlpGlbIdeal.nD Cert.RefMlpGlbIdeal.τ).loc Cert.RefMlpGlbIdeal.main_arg2) = m ((c.tc : Thread Cert.RefMlpGlbIdeal.nD Cert.RefMlpGlbIdeal.τ).loc Cert.RefMlpGlbIdeal.main_arg2)
      ∧ r.2.mem ((c.tc : Thread Cert.RefMlpGlbIdeal.nD Cert.RefMlpGlbIdeal.τ).loc Cert.RefMlpGlbIdeal.main_arg3) = m ((c.tc : Thread Cert.RefMlpGlbIdeal.nD Cert.RefMlpGlbIdeal.τ).loc Cert.RefMlpGlbIdeal.main_arg3)
      ∧ r.2.mem ((c.tc : Thread Cert.RefMlpGlbIdeal.nD Cert.RefMlpGlbIdeal.τ).loc Cert.RefMlpGlbIdeal.main_arg4) = m ((c.tc : Thread Cert.RefMlpGlbIdeal.nD Cert.RefMlpGlbIdeal.τ).loc Cert.RefMlpGlbIdeal.main_arg4)
      ∧ r.2.mem ((c.tc : Thread Cert.RefMlpGlbIdeal.nD Cert.RefMlpGlbIdeal.τ).loc Cert.RefMlpGlbIdeal.main_arg5) = m ((c.tc : Thread Cert.RefMlpGlbIdeal.nD Cert.RefMlpGlbIdeal.τ).loc Cert.RefMlpGlbIdeal.main_arg5)
      ∧ r.2.mem ((c.tc : Thread Cert.RefMlpGlbIdeal.nD Cert.RefMlpGlbIdeal.τ).loc Cert.RefMlpGlbIdeal.main_arg6) = m ((c.tc : Thread Cert.RefMlpGlbIdeal.nD Cert.RefMlpGlbIdeal.τ).loc Cert.RefMlpGlbIdeal.main_arg6)
      ∧ r.2.mem ((c.tc : Thread Cert.RefMlpGlbIdeal.nD Cert.RefMlpGlbIdeal.τ).loc Cert.RefMlpGlbIdeal.main_arg7) = m ((c.tc : Thread Cert.RefMlpGlbIdeal.nD Cert.RefMlpGlbIdeal.τ).loc Cert.RefMlpGlbIdeal.main_arg7)
      ∧ r.2.mem ((c.tc : Thread Cert.RefMlpGlbIdeal.nD Cert.RefMlpGlbIdeal.τ).loc Cert.RefMlpGlbIdeal.main_arg8) = m ((c.tc : Thread Cert.RefMlpGlbIdeal.nD Cert.RefMlpGlbIdeal.τ).loc Cert.RefMlpGlbIdeal.main_arg8)
      ∧ r.2.mem ((c.tc : Thread Cert.RefMlpGlbIdeal.nD Cert.RefMlpGlbIdeal.τ).loc Cert.RefMlpGlbIdeal.main_arg9) = m ((c.tc : Thread Cert.RefMlpGlbIdeal.nD Cert.RefMlpGlbIdeal.τ).loc Cert.RefMlpGlbIdeal.main_arg9)
      ∧ r.2.mem ((c.tc : Thread Cert.RefMlpGlbIdeal.nD Cert.RefMlpGlbIdeal.τ).loc Cert.RefMlpGlbIdeal.main_arg10) = m ((c.tc : Thread Cert.RefMlpGlbIdeal.nD Cert.RefMlpGlbIdeal.τ).loc Cert.RefMlpGlbIdeal.main_arg10)
      ∧ r.2.mem ((c.tc : Thread Cert.RefMlpGlbIdeal.nD Cert.RefMlpGlbIdeal.τ).loc Cert.RefMlpGlbIdeal.main_arg11) = m ((c.tc : Thread Cert.RefMlpGlbIdeal.nD Cert.RefMlpGlbIdeal.τ).loc Cert.RefMlpGlbIdeal.main_arg11)
      ∧ r.2.mem ((c.tc : Thread Cert.RefMlpGlbIdeal.nD Cert.RefMlpGlbIdeal.τ).loc Cert.RefMlpGlbIdeal.main_arg12) = m ((c.tc : Thread Cert.RefMlpGlbIdeal.nD Cert.RefMlpGlbIdeal.τ).loc Cert.RefMlpGlbIdeal.main_arg12))
      ∧ r.2.sem = fun _ => 0)

def preserves_QkvWin_QkvWinIdeal : Prop :=
  True

def algebraic_QkvWinIdeal_RefQkvWinIdeal [hQkvWinIdeal : Cert.QkvWinIdeal.Facts] [hRefQkvWinIdeal : Cert.RefQkvWinIdeal.Facts] : Prop :=
  ∀ (m : (ℓ : Loc Cert.QkvWinIdeal.nD Cert.QkvWinIdeal.τ Cert.QkvWinIdeal.sig) → Buf (Elt Ideal) ℓ) (g : Dev Cert.QkvWinIdeal.nD → PrngReg)
    (m' : (ℓ : Loc Cert.RefQkvWinIdeal.nD Cert.RefQkvWinIdeal.τ Cert.RefQkvWinIdeal.sig) → Buf (Elt Ideal) ℓ) (g' : Dev Cert.RefQkvWinIdeal.nD → PrngReg), Pre_QkvWinIdeal m →
    (∀ c : Dev Cert.QkvWinIdeal.nD,
      m' ((c.tc : Thread Cert.RefQkvWinIdeal.nD Cert.RefQkvWinIdeal.τ).loc Cert.RefQkvWinIdeal.main_arg0) = m ((c.tc : Thread Cert.QkvWinIdeal.nD Cert.QkvWinIdeal.τ).loc Cert.QkvWinIdeal.main_arg0)
      ∧ m' ((c.tc : Thread Cert.RefQkvWinIdeal.nD Cert.RefQkvWinIdeal.τ).loc Cert.RefQkvWinIdeal.main_arg1) = m ((c.tc : Thread Cert.QkvWinIdeal.nD Cert.QkvWinIdeal.τ).loc Cert.QkvWinIdeal.main_arg1)
      ∧ m' ((c.tc : Thread Cert.RefQkvWinIdeal.nD Cert.RefQkvWinIdeal.τ).loc Cert.RefQkvWinIdeal.main_arg2) = m ((c.tc : Thread Cert.QkvWinIdeal.nD Cert.QkvWinIdeal.τ).loc Cert.QkvWinIdeal.main_arg2)
      ∧ m' ((c.tc : Thread Cert.RefQkvWinIdeal.nD Cert.RefQkvWinIdeal.τ).loc Cert.RefQkvWinIdeal.main_arg3) = m ((c.tc : Thread Cert.QkvWinIdeal.nD Cert.QkvWinIdeal.τ).loc Cert.QkvWinIdeal.main_arg3)
      ∧ m' ((c.tc : Thread Cert.RefQkvWinIdeal.nD Cert.RefQkvWinIdeal.τ).loc Cert.RefQkvWinIdeal.main_arg4) = m ((c.tc : Thread Cert.QkvWinIdeal.nD Cert.QkvWinIdeal.τ).loc Cert.QkvWinIdeal.main_arg4)
      ∧ m' ((c.tc : Thread Cert.RefQkvWinIdeal.nD Cert.RefQkvWinIdeal.τ).loc Cert.RefQkvWinIdeal.main_arg5) = m ((c.tc : Thread Cert.QkvWinIdeal.nD Cert.QkvWinIdeal.τ).loc Cert.QkvWinIdeal.main_arg5)) →
    ∃ (v0 : (c : Dev Cert.QkvWinIdeal.nD) → Buf (Elt Ideal) ((c.tc : Thread Cert.QkvWinIdeal.nD Cert.QkvWinIdeal.τ).loc Cert.QkvWinIdeal.main_v0_0)) (v1 : (c : Dev Cert.QkvWinIdeal.nD) → Buf (Elt Ideal) ((c.tc : Thread Cert.QkvWinIdeal.nD Cert.QkvWinIdeal.τ).loc Cert.QkvWinIdeal.main_v0_1)) (v2 : (c : Dev Cert.QkvWinIdeal.nD) → Buf (Elt Ideal) ((c.tc : Thread Cert.QkvWinIdeal.nD Cert.QkvWinIdeal.τ).loc Cert.QkvWinIdeal.main_v0_2)) (v3 : (c : Dev Cert.QkvWinIdeal.nD) → Buf (Elt Ideal) ((c.tc : Thread Cert.QkvWinIdeal.nD Cert.QkvWinIdeal.τ).loc Cert.QkvWinIdeal.main_v0_3)),
      θ_run (Cert.QkvWinIdeal.defs (F := Ideal)) (onTc (τ := Cert.QkvWinIdeal.τ) (Cert.QkvWinIdeal.main (F := Ideal))) ⟨m, fun _ => 0, g⟩ (fun r => ∀ c : Dev Cert.QkvWinIdeal.nD,
          r.2.mem ((c.tc : Thread Cert.QkvWinIdeal.nD Cert.QkvWinIdeal.τ).loc Cert.QkvWinIdeal.main_v0_0) = v0 c
          ∧ r.2.mem ((c.tc : Thread Cert.QkvWinIdeal.nD Cert.QkvWinIdeal.τ).loc Cert.QkvWinIdeal.main_v0_1) = v1 c
          ∧ r.2.mem ((c.tc : Thread Cert.QkvWinIdeal.nD Cert.QkvWinIdeal.τ).loc Cert.QkvWinIdeal.main_v0_2) = v2 c
          ∧ r.2.mem ((c.tc : Thread Cert.QkvWinIdeal.nD Cert.QkvWinIdeal.τ).loc Cert.QkvWinIdeal.main_v0_3) = v3 c
          ∧ r.2.mem ((c.tc : Thread Cert.QkvWinIdeal.nD Cert.QkvWinIdeal.τ).loc Cert.QkvWinIdeal.main_arg0) = m ((c.tc : Thread Cert.QkvWinIdeal.nD Cert.QkvWinIdeal.τ).loc Cert.QkvWinIdeal.main_arg0)
          ∧ r.2.mem ((c.tc : Thread Cert.QkvWinIdeal.nD Cert.QkvWinIdeal.τ).loc Cert.QkvWinIdeal.main_arg1) = m ((c.tc : Thread Cert.QkvWinIdeal.nD Cert.QkvWinIdeal.τ).loc Cert.QkvWinIdeal.main_arg1)
          ∧ r.2.mem ((c.tc : Thread Cert.QkvWinIdeal.nD Cert.QkvWinIdeal.τ).loc Cert.QkvWinIdeal.main_arg2) = m ((c.tc : Thread Cert.QkvWinIdeal.nD Cert.QkvWinIdeal.τ).loc Cert.QkvWinIdeal.main_arg2)
          ∧ r.2.mem ((c.tc : Thread Cert.QkvWinIdeal.nD Cert.QkvWinIdeal.τ).loc Cert.QkvWinIdeal.main_arg3) = m ((c.tc : Thread Cert.QkvWinIdeal.nD Cert.QkvWinIdeal.τ).loc Cert.QkvWinIdeal.main_arg3)
          ∧ r.2.mem ((c.tc : Thread Cert.QkvWinIdeal.nD Cert.QkvWinIdeal.τ).loc Cert.QkvWinIdeal.main_arg4) = m ((c.tc : Thread Cert.QkvWinIdeal.nD Cert.QkvWinIdeal.τ).loc Cert.QkvWinIdeal.main_arg4)
          ∧ r.2.mem ((c.tc : Thread Cert.QkvWinIdeal.nD Cert.QkvWinIdeal.τ).loc Cert.QkvWinIdeal.main_arg5) = m ((c.tc : Thread Cert.QkvWinIdeal.nD Cert.QkvWinIdeal.τ).loc Cert.QkvWinIdeal.main_arg5))
      ∧ θ_run (Cert.RefQkvWinIdeal.defs (F := Ideal)) (onTc (τ := Cert.RefQkvWinIdeal.τ) (Cert.RefQkvWinIdeal.main (F := Ideal))) ⟨m', fun _ => 0, g'⟩ (fun r => ∀ c : Dev Cert.RefQkvWinIdeal.nD,
          r.2.mem ((c.tc : Thread Cert.RefQkvWinIdeal.nD Cert.RefQkvWinIdeal.τ).loc Cert.RefQkvWinIdeal.main_v0_0) = v0 c
          ∧ r.2.mem ((c.tc : Thread Cert.RefQkvWinIdeal.nD Cert.RefQkvWinIdeal.τ).loc Cert.RefQkvWinIdeal.main_v0_1) = v1 c
          ∧ r.2.mem ((c.tc : Thread Cert.RefQkvWinIdeal.nD Cert.RefQkvWinIdeal.τ).loc Cert.RefQkvWinIdeal.main_v0_2) = v2 c
          ∧ r.2.mem ((c.tc : Thread Cert.RefQkvWinIdeal.nD Cert.RefQkvWinIdeal.τ).loc Cert.RefQkvWinIdeal.main_v0_3) = v3 c
          ∧ r.2.mem ((c.tc : Thread Cert.RefQkvWinIdeal.nD Cert.RefQkvWinIdeal.τ).loc Cert.RefQkvWinIdeal.main_arg0) = m' ((c.tc : Thread Cert.RefQkvWinIdeal.nD Cert.RefQkvWinIdeal.τ).loc Cert.RefQkvWinIdeal.main_arg0)
          ∧ r.2.mem ((c.tc : Thread Cert.RefQkvWinIdeal.nD Cert.RefQkvWinIdeal.τ).loc Cert.RefQkvWinIdeal.main_arg1) = m' ((c.tc : Thread Cert.RefQkvWinIdeal.nD Cert.RefQkvWinIdeal.τ).loc Cert.RefQkvWinIdeal.main_arg1)
          ∧ r.2.mem ((c.tc : Thread Cert.RefQkvWinIdeal.nD Cert.RefQkvWinIdeal.τ).loc Cert.RefQkvWinIdeal.main_arg2) = m' ((c.tc : Thread Cert.RefQkvWinIdeal.nD Cert.RefQkvWinIdeal.τ).loc Cert.RefQkvWinIdeal.main_arg2)
          ∧ r.2.mem ((c.tc : Thread Cert.RefQkvWinIdeal.nD Cert.RefQkvWinIdeal.τ).loc Cert.RefQkvWinIdeal.main_arg3) = m' ((c.tc : Thread Cert.RefQkvWinIdeal.nD Cert.RefQkvWinIdeal.τ).loc Cert.RefQkvWinIdeal.main_arg3)
          ∧ r.2.mem ((c.tc : Thread Cert.RefQkvWinIdeal.nD Cert.RefQkvWinIdeal.τ).loc Cert.RefQkvWinIdeal.main_arg4) = m' ((c.tc : Thread Cert.RefQkvWinIdeal.nD Cert.RefQkvWinIdeal.τ).loc Cert.RefQkvWinIdeal.main_arg4)
          ∧ r.2.mem ((c.tc : Thread Cert.RefQkvWinIdeal.nD Cert.RefQkvWinIdeal.τ).loc Cert.RefQkvWinIdeal.main_arg5) = m' ((c.tc : Thread Cert.RefQkvWinIdeal.nD Cert.RefQkvWinIdeal.τ).loc Cert.RefQkvWinIdeal.main_arg5))

def preserves_QkvGlb_QkvGlbIdeal : Prop :=
  True

def algebraic_QkvGlbIdeal_RefQkvGlbIdeal [hQkvGlbIdeal : Cert.QkvGlbIdeal.Facts] [hRefQkvGlbIdeal : Cert.RefQkvGlbIdeal.Facts] : Prop :=
  ∀ (m : (ℓ : Loc Cert.QkvGlbIdeal.nD Cert.QkvGlbIdeal.τ Cert.QkvGlbIdeal.sig) → Buf (Elt Ideal) ℓ) (g : Dev Cert.QkvGlbIdeal.nD → PrngReg)
    (m' : (ℓ : Loc Cert.RefQkvGlbIdeal.nD Cert.RefQkvGlbIdeal.τ Cert.RefQkvGlbIdeal.sig) → Buf (Elt Ideal) ℓ) (g' : Dev Cert.RefQkvGlbIdeal.nD → PrngReg), Pre_QkvGlbIdeal m →
    (∀ c : Dev Cert.QkvGlbIdeal.nD,
      m' ((c.tc : Thread Cert.RefQkvGlbIdeal.nD Cert.RefQkvGlbIdeal.τ).loc Cert.RefQkvGlbIdeal.main_arg0) = m ((c.tc : Thread Cert.QkvGlbIdeal.nD Cert.QkvGlbIdeal.τ).loc Cert.QkvGlbIdeal.main_arg0)
      ∧ m' ((c.tc : Thread Cert.RefQkvGlbIdeal.nD Cert.RefQkvGlbIdeal.τ).loc Cert.RefQkvGlbIdeal.main_arg1) = m ((c.tc : Thread Cert.QkvGlbIdeal.nD Cert.QkvGlbIdeal.τ).loc Cert.QkvGlbIdeal.main_arg1)
      ∧ m' ((c.tc : Thread Cert.RefQkvGlbIdeal.nD Cert.RefQkvGlbIdeal.τ).loc Cert.RefQkvGlbIdeal.main_arg2) = m ((c.tc : Thread Cert.QkvGlbIdeal.nD Cert.QkvGlbIdeal.τ).loc Cert.QkvGlbIdeal.main_arg2)
      ∧ m' ((c.tc : Thread Cert.RefQkvGlbIdeal.nD Cert.RefQkvGlbIdeal.τ).loc Cert.RefQkvGlbIdeal.main_arg3) = m ((c.tc : Thread Cert.QkvGlbIdeal.nD Cert.QkvGlbIdeal.τ).loc Cert.QkvGlbIdeal.main_arg3)
      ∧ m' ((c.tc : Thread Cert.RefQkvGlbIdeal.nD Cert.RefQkvGlbIdeal.τ).loc Cert.RefQkvGlbIdeal.main_arg4) = m ((c.tc : Thread Cert.QkvGlbIdeal.nD Cert.QkvGlbIdeal.τ).loc Cert.QkvGlbIdeal.main_arg4)
      ∧ m' ((c.tc : Thread Cert.RefQkvGlbIdeal.nD Cert.RefQkvGlbIdeal.τ).loc Cert.RefQkvGlbIdeal.main_arg5) = m ((c.tc : Thread Cert.QkvGlbIdeal.nD Cert.QkvGlbIdeal.τ).loc Cert.QkvGlbIdeal.main_arg5)) →
    ∃ (v0 : (c : Dev Cert.QkvGlbIdeal.nD) → Buf (Elt Ideal) ((c.tc : Thread Cert.QkvGlbIdeal.nD Cert.QkvGlbIdeal.τ).loc Cert.QkvGlbIdeal.main_v0_0)) (v1 : (c : Dev Cert.QkvGlbIdeal.nD) → Buf (Elt Ideal) ((c.tc : Thread Cert.QkvGlbIdeal.nD Cert.QkvGlbIdeal.τ).loc Cert.QkvGlbIdeal.main_v0_1)) (v2 : (c : Dev Cert.QkvGlbIdeal.nD) → Buf (Elt Ideal) ((c.tc : Thread Cert.QkvGlbIdeal.nD Cert.QkvGlbIdeal.τ).loc Cert.QkvGlbIdeal.main_v0_2)) (v3 : (c : Dev Cert.QkvGlbIdeal.nD) → Buf (Elt Ideal) ((c.tc : Thread Cert.QkvGlbIdeal.nD Cert.QkvGlbIdeal.τ).loc Cert.QkvGlbIdeal.main_v0_3)),
      θ_run (Cert.QkvGlbIdeal.defs (F := Ideal)) (onTc (τ := Cert.QkvGlbIdeal.τ) (Cert.QkvGlbIdeal.main (F := Ideal))) ⟨m, fun _ => 0, g⟩ (fun r => ∀ c : Dev Cert.QkvGlbIdeal.nD,
          r.2.mem ((c.tc : Thread Cert.QkvGlbIdeal.nD Cert.QkvGlbIdeal.τ).loc Cert.QkvGlbIdeal.main_v0_0) = v0 c
          ∧ r.2.mem ((c.tc : Thread Cert.QkvGlbIdeal.nD Cert.QkvGlbIdeal.τ).loc Cert.QkvGlbIdeal.main_v0_1) = v1 c
          ∧ r.2.mem ((c.tc : Thread Cert.QkvGlbIdeal.nD Cert.QkvGlbIdeal.τ).loc Cert.QkvGlbIdeal.main_v0_2) = v2 c
          ∧ r.2.mem ((c.tc : Thread Cert.QkvGlbIdeal.nD Cert.QkvGlbIdeal.τ).loc Cert.QkvGlbIdeal.main_v0_3) = v3 c
          ∧ r.2.mem ((c.tc : Thread Cert.QkvGlbIdeal.nD Cert.QkvGlbIdeal.τ).loc Cert.QkvGlbIdeal.main_arg0) = m ((c.tc : Thread Cert.QkvGlbIdeal.nD Cert.QkvGlbIdeal.τ).loc Cert.QkvGlbIdeal.main_arg0)
          ∧ r.2.mem ((c.tc : Thread Cert.QkvGlbIdeal.nD Cert.QkvGlbIdeal.τ).loc Cert.QkvGlbIdeal.main_arg1) = m ((c.tc : Thread Cert.QkvGlbIdeal.nD Cert.QkvGlbIdeal.τ).loc Cert.QkvGlbIdeal.main_arg1)
          ∧ r.2.mem ((c.tc : Thread Cert.QkvGlbIdeal.nD Cert.QkvGlbIdeal.τ).loc Cert.QkvGlbIdeal.main_arg2) = m ((c.tc : Thread Cert.QkvGlbIdeal.nD Cert.QkvGlbIdeal.τ).loc Cert.QkvGlbIdeal.main_arg2)
          ∧ r.2.mem ((c.tc : Thread Cert.QkvGlbIdeal.nD Cert.QkvGlbIdeal.τ).loc Cert.QkvGlbIdeal.main_arg3) = m ((c.tc : Thread Cert.QkvGlbIdeal.nD Cert.QkvGlbIdeal.τ).loc Cert.QkvGlbIdeal.main_arg3)
          ∧ r.2.mem ((c.tc : Thread Cert.QkvGlbIdeal.nD Cert.QkvGlbIdeal.τ).loc Cert.QkvGlbIdeal.main_arg4) = m ((c.tc : Thread Cert.QkvGlbIdeal.nD Cert.QkvGlbIdeal.τ).loc Cert.QkvGlbIdeal.main_arg4)
          ∧ r.2.mem ((c.tc : Thread Cert.QkvGlbIdeal.nD Cert.QkvGlbIdeal.τ).loc Cert.QkvGlbIdeal.main_arg5) = m ((c.tc : Thread Cert.QkvGlbIdeal.nD Cert.QkvGlbIdeal.τ).loc Cert.QkvGlbIdeal.main_arg5))
      ∧ θ_run (Cert.RefQkvGlbIdeal.defs (F := Ideal)) (onTc (τ := Cert.RefQkvGlbIdeal.τ) (Cert.RefQkvGlbIdeal.main (F := Ideal))) ⟨m', fun _ => 0, g'⟩ (fun r => ∀ c : Dev Cert.RefQkvGlbIdeal.nD,
          r.2.mem ((c.tc : Thread Cert.RefQkvGlbIdeal.nD Cert.RefQkvGlbIdeal.τ).loc Cert.RefQkvGlbIdeal.main_v0_0) = v0 c
          ∧ r.2.mem ((c.tc : Thread Cert.RefQkvGlbIdeal.nD Cert.RefQkvGlbIdeal.τ).loc Cert.RefQkvGlbIdeal.main_v0_1) = v1 c
          ∧ r.2.mem ((c.tc : Thread Cert.RefQkvGlbIdeal.nD Cert.RefQkvGlbIdeal.τ).loc Cert.RefQkvGlbIdeal.main_v0_2) = v2 c
          ∧ r.2.mem ((c.tc : Thread Cert.RefQkvGlbIdeal.nD Cert.RefQkvGlbIdeal.τ).loc Cert.RefQkvGlbIdeal.main_v0_3) = v3 c
          ∧ r.2.mem ((c.tc : Thread Cert.RefQkvGlbIdeal.nD Cert.RefQkvGlbIdeal.τ).loc Cert.RefQkvGlbIdeal.main_arg0) = m' ((c.tc : Thread Cert.RefQkvGlbIdeal.nD Cert.RefQkvGlbIdeal.τ).loc Cert.RefQkvGlbIdeal.main_arg0)
          ∧ r.2.mem ((c.tc : Thread Cert.RefQkvGlbIdeal.nD Cert.RefQkvGlbIdeal.τ).loc Cert.RefQkvGlbIdeal.main_arg1) = m' ((c.tc : Thread Cert.RefQkvGlbIdeal.nD Cert.RefQkvGlbIdeal.τ).loc Cert.RefQkvGlbIdeal.main_arg1)
          ∧ r.2.mem ((c.tc : Thread Cert.RefQkvGlbIdeal.nD Cert.RefQkvGlbIdeal.τ).loc Cert.RefQkvGlbIdeal.main_arg2) = m' ((c.tc : Thread Cert.RefQkvGlbIdeal.nD Cert.RefQkvGlbIdeal.τ).loc Cert.RefQkvGlbIdeal.main_arg2)
          ∧ r.2.mem ((c.tc : Thread Cert.RefQkvGlbIdeal.nD Cert.RefQkvGlbIdeal.τ).loc Cert.RefQkvGlbIdeal.main_arg3) = m' ((c.tc : Thread Cert.RefQkvGlbIdeal.nD Cert.RefQkvGlbIdeal.τ).loc Cert.RefQkvGlbIdeal.main_arg3)
          ∧ r.2.mem ((c.tc : Thread Cert.RefQkvGlbIdeal.nD Cert.RefQkvGlbIdeal.τ).loc Cert.RefQkvGlbIdeal.main_arg4) = m' ((c.tc : Thread Cert.RefQkvGlbIdeal.nD Cert.RefQkvGlbIdeal.τ).loc Cert.RefQkvGlbIdeal.main_arg4)
          ∧ r.2.mem ((c.tc : Thread Cert.RefQkvGlbIdeal.nD Cert.RefQkvGlbIdeal.τ).loc Cert.RefQkvGlbIdeal.main_arg5) = m' ((c.tc : Thread Cert.RefQkvGlbIdeal.nD Cert.RefQkvGlbIdeal.τ).loc Cert.RefQkvGlbIdeal.main_arg5))

def preserves_MlpWin_MlpWinIdeal : Prop :=
  True

def algebraic_MlpWinIdeal_RefMlpWinIdeal [hMlpWinIdeal : Cert.MlpWinIdeal.Facts] [hRefMlpWinIdeal : Cert.RefMlpWinIdeal.Facts] : Prop :=
  ∀ (m : (ℓ : Loc Cert.MlpWinIdeal.nD Cert.MlpWinIdeal.τ Cert.MlpWinIdeal.sig) → Buf (Elt Ideal) ℓ) (g : Dev Cert.MlpWinIdeal.nD → PrngReg)
    (m' : (ℓ : Loc Cert.RefMlpWinIdeal.nD Cert.RefMlpWinIdeal.τ Cert.RefMlpWinIdeal.sig) → Buf (Elt Ideal) ℓ) (g' : Dev Cert.RefMlpWinIdeal.nD → PrngReg), Pre_MlpWinIdeal m →
    (∀ c : Dev Cert.MlpWinIdeal.nD,
      m' ((c.tc : Thread Cert.RefMlpWinIdeal.nD Cert.RefMlpWinIdeal.τ).loc Cert.RefMlpWinIdeal.main_arg0) = m ((c.tc : Thread Cert.MlpWinIdeal.nD Cert.MlpWinIdeal.τ).loc Cert.MlpWinIdeal.main_arg0)
      ∧ m' ((c.tc : Thread Cert.RefMlpWinIdeal.nD Cert.RefMlpWinIdeal.τ).loc Cert.RefMlpWinIdeal.main_arg1) = m ((c.tc : Thread Cert.MlpWinIdeal.nD Cert.MlpWinIdeal.τ).loc Cert.MlpWinIdeal.main_arg1)
      ∧ m' ((c.tc : Thread Cert.RefMlpWinIdeal.nD Cert.RefMlpWinIdeal.τ).loc Cert.RefMlpWinIdeal.main_arg2) = m ((c.tc : Thread Cert.MlpWinIdeal.nD Cert.MlpWinIdeal.τ).loc Cert.MlpWinIdeal.main_arg2)
      ∧ m' ((c.tc : Thread Cert.RefMlpWinIdeal.nD Cert.RefMlpWinIdeal.τ).loc Cert.RefMlpWinIdeal.main_arg3) = m ((c.tc : Thread Cert.MlpWinIdeal.nD Cert.MlpWinIdeal.τ).loc Cert.MlpWinIdeal.main_arg3)
      ∧ m' ((c.tc : Thread Cert.RefMlpWinIdeal.nD Cert.RefMlpWinIdeal.τ).loc Cert.RefMlpWinIdeal.main_arg4) = m ((c.tc : Thread Cert.MlpWinIdeal.nD Cert.MlpWinIdeal.τ).loc Cert.MlpWinIdeal.main_arg4)
      ∧ m' ((c.tc : Thread Cert.RefMlpWinIdeal.nD Cert.RefMlpWinIdeal.τ).loc Cert.RefMlpWinIdeal.main_arg5) = m ((c.tc : Thread Cert.MlpWinIdeal.nD Cert.MlpWinIdeal.τ).loc Cert.MlpWinIdeal.main_arg5)
      ∧ m' ((c.tc : Thread Cert.RefMlpWinIdeal.nD Cert.RefMlpWinIdeal.τ).loc Cert.RefMlpWinIdeal.main_arg6) = m ((c.tc : Thread Cert.MlpWinIdeal.nD Cert.MlpWinIdeal.τ).loc Cert.MlpWinIdeal.main_arg6)
      ∧ m' ((c.tc : Thread Cert.RefMlpWinIdeal.nD Cert.RefMlpWinIdeal.τ).loc Cert.RefMlpWinIdeal.main_arg7) = m ((c.tc : Thread Cert.MlpWinIdeal.nD Cert.MlpWinIdeal.τ).loc Cert.MlpWinIdeal.main_arg7)
      ∧ m' ((c.tc : Thread Cert.RefMlpWinIdeal.nD Cert.RefMlpWinIdeal.τ).loc Cert.RefMlpWinIdeal.main_arg8) = m ((c.tc : Thread Cert.MlpWinIdeal.nD Cert.MlpWinIdeal.τ).loc Cert.MlpWinIdeal.main_arg8)
      ∧ m' ((c.tc : Thread Cert.RefMlpWinIdeal.nD Cert.RefMlpWinIdeal.τ).loc Cert.RefMlpWinIdeal.main_arg9) = m ((c.tc : Thread Cert.MlpWinIdeal.nD Cert.MlpWinIdeal.τ).loc Cert.MlpWinIdeal.main_arg9)
      ∧ m' ((c.tc : Thread Cert.RefMlpWinIdeal.nD Cert.RefMlpWinIdeal.τ).loc Cert.RefMlpWinIdeal.main_arg10) = m ((c.tc : Thread Cert.MlpWinIdeal.nD Cert.MlpWinIdeal.τ).loc Cert.MlpWinIdeal.main_arg10)
      ∧ m' ((c.tc : Thread Cert.RefMlpWinIdeal.nD Cert.RefMlpWinIdeal.τ).loc Cert.RefMlpWinIdeal.main_arg11) = m ((c.tc : Thread Cert.MlpWinIdeal.nD Cert.MlpWinIdeal.τ).loc Cert.MlpWinIdeal.main_arg11)
      ∧ m' ((c.tc : Thread Cert.RefMlpWinIdeal.nD Cert.RefMlpWinIdeal.τ).loc Cert.RefMlpWinIdeal.main_arg12) = m ((c.tc : Thread Cert.MlpWinIdeal.nD Cert.MlpWinIdeal.τ).loc Cert.MlpWinIdeal.main_arg12)) →
    ∃ (v0 : (c : Dev Cert.MlpWinIdeal.nD) → Buf (Elt Ideal) ((c.tc : Thread Cert.MlpWinIdeal.nD Cert.MlpWinIdeal.τ).loc Cert.MlpWinIdeal.main_v0_0)) (v1 : (c : Dev Cert.MlpWinIdeal.nD) → Buf (Elt Ideal) ((c.tc : Thread Cert.MlpWinIdeal.nD Cert.MlpWinIdeal.τ).loc Cert.MlpWinIdeal.main_v0_1)) (v2 : (c : Dev Cert.MlpWinIdeal.nD) → Buf (Elt Ideal) ((c.tc : Thread Cert.MlpWinIdeal.nD Cert.MlpWinIdeal.τ).loc Cert.MlpWinIdeal.main_v0_2)) (v3 : (c : Dev Cert.MlpWinIdeal.nD) → Buf (Elt Ideal) ((c.tc : Thread Cert.MlpWinIdeal.nD Cert.MlpWinIdeal.τ).loc Cert.MlpWinIdeal.main_v0_3)) (v4 : (c : Dev Cert.MlpWinIdeal.nD) → Buf (Elt Ideal) ((c.tc : Thread Cert.MlpWinIdeal.nD Cert.MlpWinIdeal.τ).loc Cert.MlpWinIdeal.main_v0_4)) (v5 : (c : Dev Cert.MlpWinIdeal.nD) → Buf (Elt Ideal) ((c.tc : Thread Cert.MlpWinIdeal.nD Cert.MlpWinIdeal.τ).loc Cert.MlpWinIdeal.main_v0_5)) (v6 : (c : Dev Cert.MlpWinIdeal.nD) → Buf (Elt Ideal) ((c.tc : Thread Cert.MlpWinIdeal.nD Cert.MlpWinIdeal.τ).loc Cert.MlpWinIdeal.main_v0_6)),
      θ_run (Cert.MlpWinIdeal.defs (F := Ideal)) (onTc (τ := Cert.MlpWinIdeal.τ) (Cert.MlpWinIdeal.main (F := Ideal))) ⟨m, fun _ => 0, g⟩ (fun r => ∀ c : Dev Cert.MlpWinIdeal.nD,
          r.2.mem ((c.tc : Thread Cert.MlpWinIdeal.nD Cert.MlpWinIdeal.τ).loc Cert.MlpWinIdeal.main_v0_0) = v0 c
          ∧ r.2.mem ((c.tc : Thread Cert.MlpWinIdeal.nD Cert.MlpWinIdeal.τ).loc Cert.MlpWinIdeal.main_v0_1) = v1 c
          ∧ r.2.mem ((c.tc : Thread Cert.MlpWinIdeal.nD Cert.MlpWinIdeal.τ).loc Cert.MlpWinIdeal.main_v0_2) = v2 c
          ∧ r.2.mem ((c.tc : Thread Cert.MlpWinIdeal.nD Cert.MlpWinIdeal.τ).loc Cert.MlpWinIdeal.main_v0_3) = v3 c
          ∧ r.2.mem ((c.tc : Thread Cert.MlpWinIdeal.nD Cert.MlpWinIdeal.τ).loc Cert.MlpWinIdeal.main_v0_4) = v4 c
          ∧ r.2.mem ((c.tc : Thread Cert.MlpWinIdeal.nD Cert.MlpWinIdeal.τ).loc Cert.MlpWinIdeal.main_v0_5) = v5 c
          ∧ r.2.mem ((c.tc : Thread Cert.MlpWinIdeal.nD Cert.MlpWinIdeal.τ).loc Cert.MlpWinIdeal.main_v0_6) = v6 c
          ∧ r.2.mem ((c.tc : Thread Cert.MlpWinIdeal.nD Cert.MlpWinIdeal.τ).loc Cert.MlpWinIdeal.main_arg0) = m ((c.tc : Thread Cert.MlpWinIdeal.nD Cert.MlpWinIdeal.τ).loc Cert.MlpWinIdeal.main_arg0)
          ∧ r.2.mem ((c.tc : Thread Cert.MlpWinIdeal.nD Cert.MlpWinIdeal.τ).loc Cert.MlpWinIdeal.main_arg1) = m ((c.tc : Thread Cert.MlpWinIdeal.nD Cert.MlpWinIdeal.τ).loc Cert.MlpWinIdeal.main_arg1)
          ∧ r.2.mem ((c.tc : Thread Cert.MlpWinIdeal.nD Cert.MlpWinIdeal.τ).loc Cert.MlpWinIdeal.main_arg2) = m ((c.tc : Thread Cert.MlpWinIdeal.nD Cert.MlpWinIdeal.τ).loc Cert.MlpWinIdeal.main_arg2)
          ∧ r.2.mem ((c.tc : Thread Cert.MlpWinIdeal.nD Cert.MlpWinIdeal.τ).loc Cert.MlpWinIdeal.main_arg3) = m ((c.tc : Thread Cert.MlpWinIdeal.nD Cert.MlpWinIdeal.τ).loc Cert.MlpWinIdeal.main_arg3)
          ∧ r.2.mem ((c.tc : Thread Cert.MlpWinIdeal.nD Cert.MlpWinIdeal.τ).loc Cert.MlpWinIdeal.main_arg4) = m ((c.tc : Thread Cert.MlpWinIdeal.nD Cert.MlpWinIdeal.τ).loc Cert.MlpWinIdeal.main_arg4)
          ∧ r.2.mem ((c.tc : Thread Cert.MlpWinIdeal.nD Cert.MlpWinIdeal.τ).loc Cert.MlpWinIdeal.main_arg5) = m ((c.tc : Thread Cert.MlpWinIdeal.nD Cert.MlpWinIdeal.τ).loc Cert.MlpWinIdeal.main_arg5)
          ∧ r.2.mem ((c.tc : Thread Cert.MlpWinIdeal.nD Cert.MlpWinIdeal.τ).loc Cert.MlpWinIdeal.main_arg6) = m ((c.tc : Thread Cert.MlpWinIdeal.nD Cert.MlpWinIdeal.τ).loc Cert.MlpWinIdeal.main_arg6)
          ∧ r.2.mem ((c.tc : Thread Cert.MlpWinIdeal.nD Cert.MlpWinIdeal.τ).loc Cert.MlpWinIdeal.main_arg7) = m ((c.tc : Thread Cert.MlpWinIdeal.nD Cert.MlpWinIdeal.τ).loc Cert.MlpWinIdeal.main_arg7)
          ∧ r.2.mem ((c.tc : Thread Cert.MlpWinIdeal.nD Cert.MlpWinIdeal.τ).loc Cert.MlpWinIdeal.main_arg8) = m ((c.tc : Thread Cert.MlpWinIdeal.nD Cert.MlpWinIdeal.τ).loc Cert.MlpWinIdeal.main_arg8)
          ∧ r.2.mem ((c.tc : Thread Cert.MlpWinIdeal.nD Cert.MlpWinIdeal.τ).loc Cert.MlpWinIdeal.main_arg9) = m ((c.tc : Thread Cert.MlpWinIdeal.nD Cert.MlpWinIdeal.τ).loc Cert.MlpWinIdeal.main_arg9)
          ∧ r.2.mem ((c.tc : Thread Cert.MlpWinIdeal.nD Cert.MlpWinIdeal.τ).loc Cert.MlpWinIdeal.main_arg10) = m ((c.tc : Thread Cert.MlpWinIdeal.nD Cert.MlpWinIdeal.τ).loc Cert.MlpWinIdeal.main_arg10)
          ∧ r.2.mem ((c.tc : Thread Cert.MlpWinIdeal.nD Cert.MlpWinIdeal.τ).loc Cert.MlpWinIdeal.main_arg11) = m ((c.tc : Thread Cert.MlpWinIdeal.nD Cert.MlpWinIdeal.τ).loc Cert.MlpWinIdeal.main_arg11)
          ∧ r.2.mem ((c.tc : Thread Cert.MlpWinIdeal.nD Cert.MlpWinIdeal.τ).loc Cert.MlpWinIdeal.main_arg12) = m ((c.tc : Thread Cert.MlpWinIdeal.nD Cert.MlpWinIdeal.τ).loc Cert.MlpWinIdeal.main_arg12))
      ∧ θ_run (Cert.RefMlpWinIdeal.defs (F := Ideal)) (onTc (τ := Cert.RefMlpWinIdeal.τ) (Cert.RefMlpWinIdeal.main (F := Ideal))) ⟨m', fun _ => 0, g'⟩ (fun r => ∀ c : Dev Cert.RefMlpWinIdeal.nD,
          r.2.mem ((c.tc : Thread Cert.RefMlpWinIdeal.nD Cert.RefMlpWinIdeal.τ).loc Cert.RefMlpWinIdeal.main_v0_0) = v0 c
          ∧ r.2.mem ((c.tc : Thread Cert.RefMlpWinIdeal.nD Cert.RefMlpWinIdeal.τ).loc Cert.RefMlpWinIdeal.main_v0_1) = v1 c
          ∧ r.2.mem ((c.tc : Thread Cert.RefMlpWinIdeal.nD Cert.RefMlpWinIdeal.τ).loc Cert.RefMlpWinIdeal.main_v0_2) = v2 c
          ∧ r.2.mem ((c.tc : Thread Cert.RefMlpWinIdeal.nD Cert.RefMlpWinIdeal.τ).loc Cert.RefMlpWinIdeal.main_v0_3) = v3 c
          ∧ r.2.mem ((c.tc : Thread Cert.RefMlpWinIdeal.nD Cert.RefMlpWinIdeal.τ).loc Cert.RefMlpWinIdeal.main_v0_4) = v4 c
          ∧ r.2.mem ((c.tc : Thread Cert.RefMlpWinIdeal.nD Cert.RefMlpWinIdeal.τ).loc Cert.RefMlpWinIdeal.main_v0_5) = v5 c
          ∧ r.2.mem ((c.tc : Thread Cert.RefMlpWinIdeal.nD Cert.RefMlpWinIdeal.τ).loc Cert.RefMlpWinIdeal.main_v0_6) = v6 c
          ∧ r.2.mem ((c.tc : Thread Cert.RefMlpWinIdeal.nD Cert.RefMlpWinIdeal.τ).loc Cert.RefMlpWinIdeal.main_arg0) = m' ((c.tc : Thread Cert.RefMlpWinIdeal.nD Cert.RefMlpWinIdeal.τ).loc Cert.RefMlpWinIdeal.main_arg0)
          ∧ r.2.mem ((c.tc : Thread Cert.RefMlpWinIdeal.nD Cert.RefMlpWinIdeal.τ).loc Cert.RefMlpWinIdeal.main_arg1) = m' ((c.tc : Thread Cert.RefMlpWinIdeal.nD Cert.RefMlpWinIdeal.τ).loc Cert.RefMlpWinIdeal.main_arg1)
          ∧ r.2.mem ((c.tc : Thread Cert.RefMlpWinIdeal.nD Cert.RefMlpWinIdeal.τ).loc Cert.RefMlpWinIdeal.main_arg2) = m' ((c.tc : Thread Cert.RefMlpWinIdeal.nD Cert.RefMlpWinIdeal.τ).loc Cert.RefMlpWinIdeal.main_arg2)
          ∧ r.2.mem ((c.tc : Thread Cert.RefMlpWinIdeal.nD Cert.RefMlpWinIdeal.τ).loc Cert.RefMlpWinIdeal.main_arg3) = m' ((c.tc : Thread Cert.RefMlpWinIdeal.nD Cert.RefMlpWinIdeal.τ).loc Cert.RefMlpWinIdeal.main_arg3)
          ∧ r.2.mem ((c.tc : Thread Cert.RefMlpWinIdeal.nD Cert.RefMlpWinIdeal.τ).loc Cert.RefMlpWinIdeal.main_arg4) = m' ((c.tc : Thread Cert.RefMlpWinIdeal.nD Cert.RefMlpWinIdeal.τ).loc Cert.RefMlpWinIdeal.main_arg4)
          ∧ r.2.mem ((c.tc : Thread Cert.RefMlpWinIdeal.nD Cert.RefMlpWinIdeal.τ).loc Cert.RefMlpWinIdeal.main_arg5) = m' ((c.tc : Thread Cert.RefMlpWinIdeal.nD Cert.RefMlpWinIdeal.τ).loc Cert.RefMlpWinIdeal.main_arg5)
          ∧ r.2.mem ((c.tc : Thread Cert.RefMlpWinIdeal.nD Cert.RefMlpWinIdeal.τ).loc Cert.RefMlpWinIdeal.main_arg6) = m' ((c.tc : Thread Cert.RefMlpWinIdeal.nD Cert.RefMlpWinIdeal.τ).loc Cert.RefMlpWinIdeal.main_arg6)
          ∧ r.2.mem ((c.tc : Thread Cert.RefMlpWinIdeal.nD Cert.RefMlpWinIdeal.τ).loc Cert.RefMlpWinIdeal.main_arg7) = m' ((c.tc : Thread Cert.RefMlpWinIdeal.nD Cert.RefMlpWinIdeal.τ).loc Cert.RefMlpWinIdeal.main_arg7)
          ∧ r.2.mem ((c.tc : Thread Cert.RefMlpWinIdeal.nD Cert.RefMlpWinIdeal.τ).loc Cert.RefMlpWinIdeal.main_arg8) = m' ((c.tc : Thread Cert.RefMlpWinIdeal.nD Cert.RefMlpWinIdeal.τ).loc Cert.RefMlpWinIdeal.main_arg8)
          ∧ r.2.mem ((c.tc : Thread Cert.RefMlpWinIdeal.nD Cert.RefMlpWinIdeal.τ).loc Cert.RefMlpWinIdeal.main_arg9) = m' ((c.tc : Thread Cert.RefMlpWinIdeal.nD Cert.RefMlpWinIdeal.τ).loc Cert.RefMlpWinIdeal.main_arg9)
          ∧ r.2.mem ((c.tc : Thread Cert.RefMlpWinIdeal.nD Cert.RefMlpWinIdeal.τ).loc Cert.RefMlpWinIdeal.main_arg10) = m' ((c.tc : Thread Cert.RefMlpWinIdeal.nD Cert.RefMlpWinIdeal.τ).loc Cert.RefMlpWinIdeal.main_arg10)
          ∧ r.2.mem ((c.tc : Thread Cert.RefMlpWinIdeal.nD Cert.RefMlpWinIdeal.τ).loc Cert.RefMlpWinIdeal.main_arg11) = m' ((c.tc : Thread Cert.RefMlpWinIdeal.nD Cert.RefMlpWinIdeal.τ).loc Cert.RefMlpWinIdeal.main_arg11)
          ∧ r.2.mem ((c.tc : Thread Cert.RefMlpWinIdeal.nD Cert.RefMlpWinIdeal.τ).loc Cert.RefMlpWinIdeal.main_arg12) = m' ((c.tc : Thread Cert.RefMlpWinIdeal.nD Cert.RefMlpWinIdeal.τ).loc Cert.RefMlpWinIdeal.main_arg12))

def preserves_MlpGlb_MlpGlbIdeal : Prop :=
  True

def algebraic_MlpGlbIdeal_RefMlpGlbIdeal [hMlpGlbIdeal : Cert.MlpGlbIdeal.Facts] [hRefMlpGlbIdeal : Cert.RefMlpGlbIdeal.Facts] : Prop :=
  ∀ (m : (ℓ : Loc Cert.MlpGlbIdeal.nD Cert.MlpGlbIdeal.τ Cert.MlpGlbIdeal.sig) → Buf (Elt Ideal) ℓ) (g : Dev Cert.MlpGlbIdeal.nD → PrngReg)
    (m' : (ℓ : Loc Cert.RefMlpGlbIdeal.nD Cert.RefMlpGlbIdeal.τ Cert.RefMlpGlbIdeal.sig) → Buf (Elt Ideal) ℓ) (g' : Dev Cert.RefMlpGlbIdeal.nD → PrngReg), Pre_MlpGlbIdeal m →
    (∀ c : Dev Cert.MlpGlbIdeal.nD,
      m' ((c.tc : Thread Cert.RefMlpGlbIdeal.nD Cert.RefMlpGlbIdeal.τ).loc Cert.RefMlpGlbIdeal.main_arg0) = m ((c.tc : Thread Cert.MlpGlbIdeal.nD Cert.MlpGlbIdeal.τ).loc Cert.MlpGlbIdeal.main_arg0)
      ∧ m' ((c.tc : Thread Cert.RefMlpGlbIdeal.nD Cert.RefMlpGlbIdeal.τ).loc Cert.RefMlpGlbIdeal.main_arg1) = m ((c.tc : Thread Cert.MlpGlbIdeal.nD Cert.MlpGlbIdeal.τ).loc Cert.MlpGlbIdeal.main_arg1)
      ∧ m' ((c.tc : Thread Cert.RefMlpGlbIdeal.nD Cert.RefMlpGlbIdeal.τ).loc Cert.RefMlpGlbIdeal.main_arg2) = m ((c.tc : Thread Cert.MlpGlbIdeal.nD Cert.MlpGlbIdeal.τ).loc Cert.MlpGlbIdeal.main_arg2)
      ∧ m' ((c.tc : Thread Cert.RefMlpGlbIdeal.nD Cert.RefMlpGlbIdeal.τ).loc Cert.RefMlpGlbIdeal.main_arg3) = m ((c.tc : Thread Cert.MlpGlbIdeal.nD Cert.MlpGlbIdeal.τ).loc Cert.MlpGlbIdeal.main_arg3)
      ∧ m' ((c.tc : Thread Cert.RefMlpGlbIdeal.nD Cert.RefMlpGlbIdeal.τ).loc Cert.RefMlpGlbIdeal.main_arg4) = m ((c.tc : Thread Cert.MlpGlbIdeal.nD Cert.MlpGlbIdeal.τ).loc Cert.MlpGlbIdeal.main_arg4)
      ∧ m' ((c.tc : Thread Cert.RefMlpGlbIdeal.nD Cert.RefMlpGlbIdeal.τ).loc Cert.RefMlpGlbIdeal.main_arg5) = m ((c.tc : Thread Cert.MlpGlbIdeal.nD Cert.MlpGlbIdeal.τ).loc Cert.MlpGlbIdeal.main_arg5)
      ∧ m' ((c.tc : Thread Cert.RefMlpGlbIdeal.nD Cert.RefMlpGlbIdeal.τ).loc Cert.RefMlpGlbIdeal.main_arg6) = m ((c.tc : Thread Cert.MlpGlbIdeal.nD Cert.MlpGlbIdeal.τ).loc Cert.MlpGlbIdeal.main_arg6)
      ∧ m' ((c.tc : Thread Cert.RefMlpGlbIdeal.nD Cert.RefMlpGlbIdeal.τ).loc Cert.RefMlpGlbIdeal.main_arg7) = m ((c.tc : Thread Cert.MlpGlbIdeal.nD Cert.MlpGlbIdeal.τ).loc Cert.MlpGlbIdeal.main_arg7)
      ∧ m' ((c.tc : Thread Cert.RefMlpGlbIdeal.nD Cert.RefMlpGlbIdeal.τ).loc Cert.RefMlpGlbIdeal.main_arg8) = m ((c.tc : Thread Cert.MlpGlbIdeal.nD Cert.MlpGlbIdeal.τ).loc Cert.MlpGlbIdeal.main_arg8)
      ∧ m' ((c.tc : Thread Cert.RefMlpGlbIdeal.nD Cert.RefMlpGlbIdeal.τ).loc Cert.RefMlpGlbIdeal.main_arg9) = m ((c.tc : Thread Cert.MlpGlbIdeal.nD Cert.MlpGlbIdeal.τ).loc Cert.MlpGlbIdeal.main_arg9)
      ∧ m' ((c.tc : Thread Cert.RefMlpGlbIdeal.nD Cert.RefMlpGlbIdeal.τ).loc Cert.RefMlpGlbIdeal.main_arg10) = m ((c.tc : Thread Cert.MlpGlbIdeal.nD Cert.MlpGlbIdeal.τ).loc Cert.MlpGlbIdeal.main_arg10)
      ∧ m' ((c.tc : Thread Cert.RefMlpGlbIdeal.nD Cert.RefMlpGlbIdeal.τ).loc Cert.RefMlpGlbIdeal.main_arg11) = m ((c.tc : Thread Cert.MlpGlbIdeal.nD Cert.MlpGlbIdeal.τ).loc Cert.MlpGlbIdeal.main_arg11)
      ∧ m' ((c.tc : Thread Cert.RefMlpGlbIdeal.nD Cert.RefMlpGlbIdeal.τ).loc Cert.RefMlpGlbIdeal.main_arg12) = m ((c.tc : Thread Cert.MlpGlbIdeal.nD Cert.MlpGlbIdeal.τ).loc Cert.MlpGlbIdeal.main_arg12)) →
    ∃ (v0 : (c : Dev Cert.MlpGlbIdeal.nD) → Buf (Elt Ideal) ((c.tc : Thread Cert.MlpGlbIdeal.nD Cert.MlpGlbIdeal.τ).loc Cert.MlpGlbIdeal.main_v0_0)) (v1 : (c : Dev Cert.MlpGlbIdeal.nD) → Buf (Elt Ideal) ((c.tc : Thread Cert.MlpGlbIdeal.nD Cert.MlpGlbIdeal.τ).loc Cert.MlpGlbIdeal.main_v0_1)) (v2 : (c : Dev Cert.MlpGlbIdeal.nD) → Buf (Elt Ideal) ((c.tc : Thread Cert.MlpGlbIdeal.nD Cert.MlpGlbIdeal.τ).loc Cert.MlpGlbIdeal.main_v0_2)) (v3 : (c : Dev Cert.MlpGlbIdeal.nD) → Buf (Elt Ideal) ((c.tc : Thread Cert.MlpGlbIdeal.nD Cert.MlpGlbIdeal.τ).loc Cert.MlpGlbIdeal.main_v0_3)) (v4 : (c : Dev Cert.MlpGlbIdeal.nD) → Buf (Elt Ideal) ((c.tc : Thread Cert.MlpGlbIdeal.nD Cert.MlpGlbIdeal.τ).loc Cert.MlpGlbIdeal.main_v0_4)) (v5 : (c : Dev Cert.MlpGlbIdeal.nD) → Buf (Elt Ideal) ((c.tc : Thread Cert.MlpGlbIdeal.nD Cert.MlpGlbIdeal.τ).loc Cert.MlpGlbIdeal.main_v0_5)) (v6 : (c : Dev Cert.MlpGlbIdeal.nD) → Buf (Elt Ideal) ((c.tc : Thread Cert.MlpGlbIdeal.nD Cert.MlpGlbIdeal.τ).loc Cert.MlpGlbIdeal.main_v0_6)),
      θ_run (Cert.MlpGlbIdeal.defs (F := Ideal)) (onTc (τ := Cert.MlpGlbIdeal.τ) (Cert.MlpGlbIdeal.main (F := Ideal))) ⟨m, fun _ => 0, g⟩ (fun r => ∀ c : Dev Cert.MlpGlbIdeal.nD,
          r.2.mem ((c.tc : Thread Cert.MlpGlbIdeal.nD Cert.MlpGlbIdeal.τ).loc Cert.MlpGlbIdeal.main_v0_0) = v0 c
          ∧ r.2.mem ((c.tc : Thread Cert.MlpGlbIdeal.nD Cert.MlpGlbIdeal.τ).loc Cert.MlpGlbIdeal.main_v0_1) = v1 c
          ∧ r.2.mem ((c.tc : Thread Cert.MlpGlbIdeal.nD Cert.MlpGlbIdeal.τ).loc Cert.MlpGlbIdeal.main_v0_2) = v2 c
          ∧ r.2.mem ((c.tc : Thread Cert.MlpGlbIdeal.nD Cert.MlpGlbIdeal.τ).loc Cert.MlpGlbIdeal.main_v0_3) = v3 c
          ∧ r.2.mem ((c.tc : Thread Cert.MlpGlbIdeal.nD Cert.MlpGlbIdeal.τ).loc Cert.MlpGlbIdeal.main_v0_4) = v4 c
          ∧ r.2.mem ((c.tc : Thread Cert.MlpGlbIdeal.nD Cert.MlpGlbIdeal.τ).loc Cert.MlpGlbIdeal.main_v0_5) = v5 c
          ∧ r.2.mem ((c.tc : Thread Cert.MlpGlbIdeal.nD Cert.MlpGlbIdeal.τ).loc Cert.MlpGlbIdeal.main_v0_6) = v6 c
          ∧ r.2.mem ((c.tc : Thread Cert.MlpGlbIdeal.nD Cert.MlpGlbIdeal.τ).loc Cert.MlpGlbIdeal.main_arg0) = m ((c.tc : Thread Cert.MlpGlbIdeal.nD Cert.MlpGlbIdeal.τ).loc Cert.MlpGlbIdeal.main_arg0)
          ∧ r.2.mem ((c.tc : Thread Cert.MlpGlbIdeal.nD Cert.MlpGlbIdeal.τ).loc Cert.MlpGlbIdeal.main_arg1) = m ((c.tc : Thread Cert.MlpGlbIdeal.nD Cert.MlpGlbIdeal.τ).loc Cert.MlpGlbIdeal.main_arg1)
          ∧ r.2.mem ((c.tc : Thread Cert.MlpGlbIdeal.nD Cert.MlpGlbIdeal.τ).loc Cert.MlpGlbIdeal.main_arg2) = m ((c.tc : Thread Cert.MlpGlbIdeal.nD Cert.MlpGlbIdeal.τ).loc Cert.MlpGlbIdeal.main_arg2)
          ∧ r.2.mem ((c.tc : Thread Cert.MlpGlbIdeal.nD Cert.MlpGlbIdeal.τ).loc Cert.MlpGlbIdeal.main_arg3) = m ((c.tc : Thread Cert.MlpGlbIdeal.nD Cert.MlpGlbIdeal.τ).loc Cert.MlpGlbIdeal.main_arg3)
          ∧ r.2.mem ((c.tc : Thread Cert.MlpGlbIdeal.nD Cert.MlpGlbIdeal.τ).loc Cert.MlpGlbIdeal.main_arg4) = m ((c.tc : Thread Cert.MlpGlbIdeal.nD Cert.MlpGlbIdeal.τ).loc Cert.MlpGlbIdeal.main_arg4)
          ∧ r.2.mem ((c.tc : Thread Cert.MlpGlbIdeal.nD Cert.MlpGlbIdeal.τ).loc Cert.MlpGlbIdeal.main_arg5) = m ((c.tc : Thread Cert.MlpGlbIdeal.nD Cert.MlpGlbIdeal.τ).loc Cert.MlpGlbIdeal.main_arg5)
          ∧ r.2.mem ((c.tc : Thread Cert.MlpGlbIdeal.nD Cert.MlpGlbIdeal.τ).loc Cert.MlpGlbIdeal.main_arg6) = m ((c.tc : Thread Cert.MlpGlbIdeal.nD Cert.MlpGlbIdeal.τ).loc Cert.MlpGlbIdeal.main_arg6)
          ∧ r.2.mem ((c.tc : Thread Cert.MlpGlbIdeal.nD Cert.MlpGlbIdeal.τ).loc Cert.MlpGlbIdeal.main_arg7) = m ((c.tc : Thread Cert.MlpGlbIdeal.nD Cert.MlpGlbIdeal.τ).loc Cert.MlpGlbIdeal.main_arg7)
          ∧ r.2.mem ((c.tc : Thread Cert.MlpGlbIdeal.nD Cert.MlpGlbIdeal.τ).loc Cert.MlpGlbIdeal.main_arg8) = m ((c.tc : Thread Cert.MlpGlbIdeal.nD Cert.MlpGlbIdeal.τ).loc Cert.MlpGlbIdeal.main_arg8)
          ∧ r.2.mem ((c.tc : Thread Cert.MlpGlbIdeal.nD Cert.MlpGlbIdeal.τ).loc Cert.MlpGlbIdeal.main_arg9) = m ((c.tc : Thread Cert.MlpGlbIdeal.nD Cert.MlpGlbIdeal.τ).loc Cert.MlpGlbIdeal.main_arg9)
          ∧ r.2.mem ((c.tc : Thread Cert.MlpGlbIdeal.nD Cert.MlpGlbIdeal.τ).loc Cert.MlpGlbIdeal.main_arg10) = m ((c.tc : Thread Cert.MlpGlbIdeal.nD Cert.MlpGlbIdeal.τ).loc Cert.MlpGlbIdeal.main_arg10)
          ∧ r.2.mem ((c.tc : Thread Cert.MlpGlbIdeal.nD Cert.MlpGlbIdeal.τ).loc Cert.MlpGlbIdeal.main_arg11) = m ((c.tc : Thread Cert.MlpGlbIdeal.nD Cert.MlpGlbIdeal.τ).loc Cert.MlpGlbIdeal.main_arg11)
          ∧ r.2.mem ((c.tc : Thread Cert.MlpGlbIdeal.nD Cert.MlpGlbIdeal.τ).loc Cert.MlpGlbIdeal.main_arg12) = m ((c.tc : Thread Cert.MlpGlbIdeal.nD Cert.MlpGlbIdeal.τ).loc Cert.MlpGlbIdeal.main_arg12))
      ∧ θ_run (Cert.RefMlpGlbIdeal.defs (F := Ideal)) (onTc (τ := Cert.RefMlpGlbIdeal.τ) (Cert.RefMlpGlbIdeal.main (F := Ideal))) ⟨m', fun _ => 0, g'⟩ (fun r => ∀ c : Dev Cert.RefMlpGlbIdeal.nD,
          r.2.mem ((c.tc : Thread Cert.RefMlpGlbIdeal.nD Cert.RefMlpGlbIdeal.τ).loc Cert.RefMlpGlbIdeal.main_v0_0) = v0 c
          ∧ r.2.mem ((c.tc : Thread Cert.RefMlpGlbIdeal.nD Cert.RefMlpGlbIdeal.τ).loc Cert.RefMlpGlbIdeal.main_v0_1) = v1 c
          ∧ r.2.mem ((c.tc : Thread Cert.RefMlpGlbIdeal.nD Cert.RefMlpGlbIdeal.τ).loc Cert.RefMlpGlbIdeal.main_v0_2) = v2 c
          ∧ r.2.mem ((c.tc : Thread Cert.RefMlpGlbIdeal.nD Cert.RefMlpGlbIdeal.τ).loc Cert.RefMlpGlbIdeal.main_v0_3) = v3 c
          ∧ r.2.mem ((c.tc : Thread Cert.RefMlpGlbIdeal.nD Cert.RefMlpGlbIdeal.τ).loc Cert.RefMlpGlbIdeal.main_v0_4) = v4 c
          ∧ r.2.mem ((c.tc : Thread Cert.RefMlpGlbIdeal.nD Cert.RefMlpGlbIdeal.τ).loc Cert.RefMlpGlbIdeal.main_v0_5) = v5 c
          ∧ r.2.mem ((c.tc : Thread Cert.RefMlpGlbIdeal.nD Cert.RefMlpGlbIdeal.τ).loc Cert.RefMlpGlbIdeal.main_v0_6) = v6 c
          ∧ r.2.mem ((c.tc : Thread Cert.RefMlpGlbIdeal.nD Cert.RefMlpGlbIdeal.τ).loc Cert.RefMlpGlbIdeal.main_arg0) = m' ((c.tc : Thread Cert.RefMlpGlbIdeal.nD Cert.RefMlpGlbIdeal.τ).loc Cert.RefMlpGlbIdeal.main_arg0)
          ∧ r.2.mem ((c.tc : Thread Cert.RefMlpGlbIdeal.nD Cert.RefMlpGlbIdeal.τ).loc Cert.RefMlpGlbIdeal.main_arg1) = m' ((c.tc : Thread Cert.RefMlpGlbIdeal.nD Cert.RefMlpGlbIdeal.τ).loc Cert.RefMlpGlbIdeal.main_arg1)
          ∧ r.2.mem ((c.tc : Thread Cert.RefMlpGlbIdeal.nD Cert.RefMlpGlbIdeal.τ).loc Cert.RefMlpGlbIdeal.main_arg2) = m' ((c.tc : Thread Cert.RefMlpGlbIdeal.nD Cert.RefMlpGlbIdeal.τ).loc Cert.RefMlpGlbIdeal.main_arg2)
          ∧ r.2.mem ((c.tc : Thread Cert.RefMlpGlbIdeal.nD Cert.RefMlpGlbIdeal.τ).loc Cert.RefMlpGlbIdeal.main_arg3) = m' ((c.tc : Thread Cert.RefMlpGlbIdeal.nD Cert.RefMlpGlbIdeal.τ).loc Cert.RefMlpGlbIdeal.main_arg3)
          ∧ r.2.mem ((c.tc : Thread Cert.RefMlpGlbIdeal.nD Cert.RefMlpGlbIdeal.τ).loc Cert.RefMlpGlbIdeal.main_arg4) = m' ((c.tc : Thread Cert.RefMlpGlbIdeal.nD Cert.RefMlpGlbIdeal.τ).loc Cert.RefMlpGlbIdeal.main_arg4)
          ∧ r.2.mem ((c.tc : Thread Cert.RefMlpGlbIdeal.nD Cert.RefMlpGlbIdeal.τ).loc Cert.RefMlpGlbIdeal.main_arg5) = m' ((c.tc : Thread Cert.RefMlpGlbIdeal.nD Cert.RefMlpGlbIdeal.τ).loc Cert.RefMlpGlbIdeal.main_arg5)
          ∧ r.2.mem ((c.tc : Thread Cert.RefMlpGlbIdeal.nD Cert.RefMlpGlbIdeal.τ).loc Cert.RefMlpGlbIdeal.main_arg6) = m' ((c.tc : Thread Cert.RefMlpGlbIdeal.nD Cert.RefMlpGlbIdeal.τ).loc Cert.RefMlpGlbIdeal.main_arg6)
          ∧ r.2.mem ((c.tc : Thread Cert.RefMlpGlbIdeal.nD Cert.RefMlpGlbIdeal.τ).loc Cert.RefMlpGlbIdeal.main_arg7) = m' ((c.tc : Thread Cert.RefMlpGlbIdeal.nD Cert.RefMlpGlbIdeal.τ).loc Cert.RefMlpGlbIdeal.main_arg7)
          ∧ r.2.mem ((c.tc : Thread Cert.RefMlpGlbIdeal.nD Cert.RefMlpGlbIdeal.τ).loc Cert.RefMlpGlbIdeal.main_arg8) = m' ((c.tc : Thread Cert.RefMlpGlbIdeal.nD Cert.RefMlpGlbIdeal.τ).loc Cert.RefMlpGlbIdeal.main_arg8)
          ∧ r.2.mem ((c.tc : Thread Cert.RefMlpGlbIdeal.nD Cert.RefMlpGlbIdeal.τ).loc Cert.RefMlpGlbIdeal.main_arg9) = m' ((c.tc : Thread Cert.RefMlpGlbIdeal.nD Cert.RefMlpGlbIdeal.τ).loc Cert.RefMlpGlbIdeal.main_arg9)
          ∧ r.2.mem ((c.tc : Thread Cert.RefMlpGlbIdeal.nD Cert.RefMlpGlbIdeal.τ).loc Cert.RefMlpGlbIdeal.main_arg10) = m' ((c.tc : Thread Cert.RefMlpGlbIdeal.nD Cert.RefMlpGlbIdeal.τ).loc Cert.RefMlpGlbIdeal.main_arg10)
          ∧ r.2.mem ((c.tc : Thread Cert.RefMlpGlbIdeal.nD Cert.RefMlpGlbIdeal.τ).loc Cert.RefMlpGlbIdeal.main_arg11) = m' ((c.tc : Thread Cert.RefMlpGlbIdeal.nD Cert.RefMlpGlbIdeal.τ).loc Cert.RefMlpGlbIdeal.main_arg11)
          ∧ r.2.mem ((c.tc : Thread Cert.RefMlpGlbIdeal.nD Cert.RefMlpGlbIdeal.τ).loc Cert.RefMlpGlbIdeal.main_arg12) = m' ((c.tc : Thread Cert.RefMlpGlbIdeal.nD Cert.RefMlpGlbIdeal.τ).loc Cert.RefMlpGlbIdeal.main_arg12))

def Claim : Prop :=
  ∃ (hQkvWin : Cert.QkvWin.Facts) (hQkvWinIdeal : Cert.QkvWinIdeal.Facts) (hRefQkvWinIdeal : Cert.RefQkvWinIdeal.Facts) (hQkvGlb : Cert.QkvGlb.Facts) (hQkvGlbIdeal : Cert.QkvGlbIdeal.Facts) (hRefQkvGlbIdeal : Cert.RefQkvGlbIdeal.Facts) (hMlpWin : Cert.MlpWin.Facts) (hMlpWinIdeal : Cert.MlpWinIdeal.Facts) (hRefMlpWinIdeal : Cert.RefMlpWinIdeal.Facts) (hMlpGlb : Cert.MlpGlb.Facts) (hMlpGlbIdeal : Cert.MlpGlbIdeal.Facts) (hRefMlpGlbIdeal : Cert.RefMlpGlbIdeal.Facts),
    quiescent_QkvWin (hQkvWin := hQkvWin)
    ∧ quiescent_QkvWinIdeal (hQkvWinIdeal := hQkvWinIdeal)
    ∧ quiescent_RefQkvWinIdeal (hRefQkvWinIdeal := hRefQkvWinIdeal)
    ∧ quiescent_QkvGlb (hQkvGlb := hQkvGlb)
    ∧ quiescent_QkvGlbIdeal (hQkvGlbIdeal := hQkvGlbIdeal)
    ∧ quiescent_RefQkvGlbIdeal (hRefQkvGlbIdeal := hRefQkvGlbIdeal)
    ∧ quiescent_MlpWin (hMlpWin := hMlpWin)
    ∧ quiescent_MlpWinIdeal (hMlpWinIdeal := hMlpWinIdeal)
    ∧ quiescent_RefMlpWinIdeal (hRefMlpWinIdeal := hRefMlpWinIdeal)
    ∧ quiescent_MlpGlb (hMlpGlb := hMlpGlb)
    ∧ quiescent_MlpGlbIdeal (hMlpGlbIdeal := hMlpGlbIdeal)
    ∧ quiescent_RefMlpGlbIdeal (hRefMlpGlbIdeal := hRefMlpGlbIdeal)
    ∧ preserves_QkvWin_QkvWinIdeal
    ∧ algebraic_QkvWinIdeal_RefQkvWinIdeal (hQkvWinIdeal := hQkvWinIdeal) (hRefQkvWinIdeal := hRefQkvWinIdeal)
    ∧ preserves_QkvGlb_QkvGlbIdeal
    ∧ algebraic_QkvGlbIdeal_RefQkvGlbIdeal (hQkvGlbIdeal := hQkvGlbIdeal) (hRefQkvGlbIdeal := hRefQkvGlbIdeal)
    ∧ preserves_MlpWin_MlpWinIdeal
    ∧ algebraic_MlpWinIdeal_RefMlpWinIdeal (hMlpWinIdeal := hMlpWinIdeal) (hRefMlpWinIdeal := hRefMlpWinIdeal)
    ∧ preserves_MlpGlb_MlpGlbIdeal
    ∧ algebraic_MlpGlbIdeal_RefMlpGlbIdeal (hMlpGlbIdeal := hMlpGlbIdeal) (hRefMlpGlbIdeal := hRefMlpGlbIdeal)
-- ==== QkvWin.lean ====
abbrev S6400x1024 : Shape := ⟨2, ![6400, 1024]⟩
abbrev S1024 : Shape := ⟨1, ![1024]⟩
abbrev S1024x3072 : Shape := ⟨2, ![1024, 3072]⟩
abbrev S3072 : Shape := ⟨1, ![3072]⟩
abbrev S1x6400 : Shape := ⟨2, ![1, 6400]⟩
abbrev S6400x3072 : Shape := ⟨2, ![6400, 3072]⟩
abbrev S1024x6400 : Shape := ⟨2, ![1024, 6400]⟩
abbrev S640x1024 : Shape := ⟨2, ![640, 1024]⟩
abbrev S1x640 : Shape := ⟨2, ![1, 640]⟩
abbrev S640x3072 : Shape := ⟨2, ![640, 3072]⟩
abbrev S1024x640 : Shape := ⟨2, ![1024, 640]⟩
abbrev S1x1024 : Shape := ⟨2, ![1, 1024]⟩
abbrev S640 : Shape := ⟨1, ![640]⟩
abbrev S640x1 : Shape := ⟨2, ![640, 1]⟩
abbrev S640x128 : Shape := ⟨2, ![640, 128]⟩
abbrev S128x640 : Shape := ⟨2, ![128, 640]⟩
abbrev S1024x256 : Shape := ⟨2, ![1024, 256]⟩
abbrev S256 : Shape := ⟨1, ![256]⟩
abbrev S1x256 : Shape := ⟨2, ![1, 256]⟩
abbrev S640x256 : Shape := ⟨2, ![640, 256]⟩
abbrev S256x640 : Shape := ⟨2, ![256, 640]⟩

abbrev nBuf : Space → Nat
  | .hbm => 10
  | .vmem => 16
  | .smem => 0
  | _ => 0

abbrev bufTy : (tb : Table) → Fin (tcTables nBuf tb) → BufTy
  | .hbm, ⟨0, _⟩ => ⟨S6400x1024, .bf16⟩
  | .hbm, ⟨1, _⟩ => ⟨S1024, .f32⟩
  | .hbm, ⟨2, _⟩ => ⟨S1024, .f32⟩
  | .hbm, ⟨3, _⟩ => ⟨S1024x3072, .i8⟩
  | .hbm, ⟨4, _⟩ => ⟨S3072, .f32⟩
  | .hbm, ⟨5, _⟩ => ⟨S3072, .f32⟩
  | .hbm, ⟨6, _⟩ => ⟨S6400x1024, .i8⟩
  | .hbm, ⟨7, _⟩ => ⟨S1x6400, .f32⟩
  | .hbm, ⟨8, _⟩ => ⟨S6400x3072, .bf16⟩
  | .hbm, ⟨9, _⟩ => ⟨S1024x6400, .bf16⟩
  | .local _ .vmem, ⟨0, _⟩ => ⟨S640x1024, .bf16⟩
  | .local _ .vmem, ⟨1, _⟩ => ⟨S640x1024, .bf16⟩
  | .local _ .vmem, ⟨2, _⟩ => ⟨S1024, .f32⟩
  | .local _ .vmem, ⟨3, _⟩ => ⟨S1024, .f32⟩
  | .local _ .vmem, ⟨4, _⟩ => ⟨S1024x3072, .i8⟩
  | .local _ .vmem, ⟨5, _⟩ => ⟨S3072, .f32⟩
  | .local _ .vmem, ⟨6, _⟩ => ⟨S3072, .f32⟩
  | .local _ .vmem, ⟨7, _⟩ => ⟨S640x1024, .i8⟩
  | .local _ .vmem, ⟨8, _⟩ => ⟨S640x1024, .i8⟩
  | .local _ .vmem, ⟨9, _⟩ => ⟨S1x640, .f32⟩
  | .local _ .vmem, ⟨10, _⟩ => ⟨S1x640, .f32⟩
  | .local _ .vmem, ⟨11, _⟩ => ⟨S640x3072, .bf16⟩
  | .local _ .vmem, ⟨12, _⟩ => ⟨S640x3072, .bf16⟩
  | .local _ .vmem, ⟨13, _⟩ => ⟨S1024x640, .bf16⟩
  | .local _ .vmem, ⟨14, _⟩ => ⟨S1024x640, .bf16⟩
  | .local _ .vmem, ⟨15, _⟩ => ⟨S1024x3072, .bf16⟩
  | _, _ => ⟨S6400x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S640x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3072 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S640x1024 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x640 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S640x3072 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x640 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== RefQkvWinIdeal.lean ====
abbrev S6400x1024 : Shape := ⟨2, ![6400, 1024]⟩
abbrev S1024 : Shape := ⟨1, ![1024]⟩
abbrev S1024x3072 : Shape := ⟨2, ![1024, 3072]⟩
abbrev S3072 : Shape := ⟨1, ![3072]⟩
abbrev S1x6400 : Shape := ⟨2, ![1, 6400]⟩
abbrev S6400x3072 : Shape := ⟨2, ![6400, 3072]⟩
abbrev S1024x6400 : Shape := ⟨2, ![1024, 6400]⟩
abbrev S6400 : Shape := ⟨1, ![6400]⟩
abbrev S6400x1 : Shape := ⟨2, ![6400, 1]⟩
abbrev S1x1024 : Shape := ⟨2, ![1, 1024]⟩
abbrev S1x3072 : Shape := ⟨2, ![1, 3072]⟩

abbrev nBuf : Space → Nat
  | .hbm => 10
  | .vmem => 10
  | .smem => 0
  | _ => 0

abbrev bufTy : (tb : Table) → Fin (tcTables nBuf tb) → BufTy
  | .hbm, ⟨0, _⟩ => ⟨S6400x1024, .bf16⟩
  | .hbm, ⟨1, _⟩ => ⟨S1024, .f32⟩
  | .hbm, ⟨2, _⟩ => ⟨S1024, .f32⟩
  | .hbm, ⟨3, _⟩ => ⟨S1024x3072, .i8⟩
  | .hbm, ⟨4, _⟩ => ⟨S3072, .f32⟩
  | .hbm, ⟨5, _⟩ => ⟨S3072, .f32⟩
  | .hbm, ⟨6, _⟩ => ⟨S6400x1024, .i8⟩
  | .hbm, ⟨7, _⟩ => ⟨S1x6400, .f32⟩
  | .hbm, ⟨8, _⟩ => ⟨S6400x3072, .bf16⟩
  | .hbm, ⟨9, _⟩ => ⟨S1024x6400, .bf16⟩
  | .local _ .vmem, ⟨0, _⟩ => ⟨S6400x1024, .bf16⟩
  | .local _ .vmem, ⟨1, _⟩ => ⟨S1024, .f32⟩
  | .local _ .vmem, ⟨2, _⟩ => ⟨S1024, .f32⟩
  | .local _ .vmem, ⟨3, _⟩ => ⟨S1024x3072, .i8⟩
  | .local _ .vmem, ⟨4, _⟩ => ⟨S3072, .f32⟩
  | .local _ .vmem, ⟨5, _⟩ => ⟨S3072, .f32⟩
  | .local _ .vmem, ⟨6, _⟩ => ⟨S6400x1024, .i8⟩
  | .local _ .vmem, ⟨7, _⟩ => ⟨S1x6400, .f32⟩
  | .local _ .vmem, ⟨8, _⟩ => ⟨S6400x3072, .bf16⟩
  | .local _ .vmem, ⟨9, _⟩ => ⟨S1024x6400, .bf16⟩
  | _, _ => ⟨S6400x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S6400x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x3072 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6400x1024 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x6400 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S6400x3072 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1024x6400 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== QkvGlb.lean ====
abbrev S6400x1024 : Shape := ⟨2, ![6400, 1024]⟩
abbrev S1024 : Shape := ⟨1, ![1024]⟩
abbrev S1024x3072 : Shape := ⟨2, ![1024, 3072]⟩
abbrev S3072 : Shape := ⟨1, ![3072]⟩
abbrev S1x6400 : Shape := ⟨2, ![1, 6400]⟩
abbrev S6400x3072 : Shape := ⟨2, ![6400, 3072]⟩
abbrev S1024x6400 : Shape := ⟨2, ![1024, 6400]⟩
abbrev S640x1024 : Shape := ⟨2, ![640, 1024]⟩
abbrev S1x640 : Shape := ⟨2, ![1, 640]⟩
abbrev S640x3072 : Shape := ⟨2, ![640, 3072]⟩
abbrev S1024x640 : Shape := ⟨2, ![1024, 640]⟩
abbrev S1x1024 : Shape := ⟨2, ![1, 1024]⟩
abbrev S640 : Shape := ⟨1, ![640]⟩
abbrev S640x1 : Shape := ⟨2, ![640, 1]⟩
abbrev S640x128 : Shape := ⟨2, ![640, 128]⟩
abbrev S128x640 : Shape := ⟨2, ![128, 640]⟩
abbrev S1024x256 : Shape := ⟨2, ![1024, 256]⟩
abbrev S256 : Shape := ⟨1, ![256]⟩
abbrev S1x256 : Shape := ⟨2, ![1, 256]⟩
abbrev S640x256 : Shape := ⟨2, ![640, 256]⟩
abbrev S256x640 : Shape := ⟨2, ![256, 640]⟩

abbrev nBuf : Space → Nat
  | .hbm => 10
  | .vmem => 16
  | .smem => 0
  | _ => 0

abbrev bufTy : (tb : Table) → Fin (tcTables nBuf tb) → BufTy
  | .hbm, ⟨0, _⟩ => ⟨S6400x1024, .f32⟩
  | .hbm, ⟨1, _⟩ => ⟨S1024, .f32⟩
  | .hbm, ⟨2, _⟩ => ⟨S1024, .f32⟩
  | .hbm, ⟨3, _⟩ => ⟨S1024x3072, .i8⟩
  | .hbm, ⟨4, _⟩ => ⟨S3072, .f32⟩
  | .hbm, ⟨5, _⟩ => ⟨S3072, .f32⟩
  | .hbm, ⟨6, _⟩ => ⟨S6400x1024, .i8⟩
  | .hbm, ⟨7, _⟩ => ⟨S1x6400, .f32⟩
  | .hbm, ⟨8, _⟩ => ⟨S6400x3072, .bf16⟩
  | .hbm, ⟨9, _⟩ => ⟨S1024x6400, .bf16⟩
  | .local _ .vmem, ⟨0, _⟩ => ⟨S640x1024, .f32⟩
  | .local _ .vmem, ⟨1, _⟩ => ⟨S640x1024, .f32⟩
  | .local _ .vmem, ⟨2, _⟩ => ⟨S1024, .f32⟩
  | .local _ .vmem, ⟨3, _⟩ => ⟨S1024, .f32⟩
  | .local _ .vmem, ⟨4, _⟩ => ⟨S1024x3072, .i8⟩
  | .local _ .vmem, ⟨5, _⟩ => ⟨S3072, .f32⟩
  | .local _ .vmem, ⟨6, _⟩ => ⟨S3072, .f32⟩
  | .local _ .vmem, ⟨7, _⟩ => ⟨S640x1024, .i8⟩
  | .local _ .vmem, ⟨8, _⟩ => ⟨S640x1024, .i8⟩
  | .local _ .vmem, ⟨9, _⟩ => ⟨S1x640, .f32⟩
  | .local _ .vmem, ⟨10, _⟩ => ⟨S1x640, .f32⟩
  | .local _ .vmem, ⟨11, _⟩ => ⟨S640x3072, .bf16⟩
  | .local _ .vmem, ⟨12, _⟩ => ⟨S640x3072, .bf16⟩
  | .local _ .vmem, ⟨13, _⟩ => ⟨S1024x640, .bf16⟩
  | .local _ .vmem, ⟨14, _⟩ => ⟨S1024x640, .bf16⟩
  | .local _ .vmem, ⟨15, _⟩ => ⟨S1024x3072, .bf16⟩
  | _, _ => ⟨S6400x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3072 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S640x1024 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x640 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S640x3072 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x640 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== RefQkvGlbIdeal.lean ====
abbrev S6400x1024 : Shape := ⟨2, ![6400, 1024]⟩
abbrev S1024 : Shape := ⟨1, ![1024]⟩
abbrev S1024x3072 : Shape := ⟨2, ![1024, 3072]⟩
abbrev S3072 : Shape := ⟨1, ![3072]⟩
abbrev S1x6400 : Shape := ⟨2, ![1, 6400]⟩
abbrev S6400x3072 : Shape := ⟨2, ![6400, 3072]⟩
abbrev S1024x6400 : Shape := ⟨2, ![1024, 6400]⟩
abbrev S6400 : Shape := ⟨1, ![6400]⟩
abbrev S6400x1 : Shape := ⟨2, ![6400, 1]⟩
abbrev S1x1024 : Shape := ⟨2, ![1, 1024]⟩
abbrev S1x3072 : Shape := ⟨2, ![1, 3072]⟩

abbrev nBuf : Space → Nat
  | .hbm => 10
  | .vmem => 10
  | .smem => 0
  | _ => 0

abbrev bufTy : (tb : Table) → Fin (tcTables nBuf tb) → BufTy
  | .hbm, ⟨0, _⟩ => ⟨S6400x1024, .f32⟩
  | .hbm, ⟨1, _⟩ => ⟨S1024, .f32⟩
  | .hbm, ⟨2, _⟩ => ⟨S1024, .f32⟩
  | .hbm, ⟨3, _⟩ => ⟨S1024x3072, .i8⟩
  | .hbm, ⟨4, _⟩ => ⟨S3072, .f32⟩
  | .hbm, ⟨5, _⟩ => ⟨S3072, .f32⟩
  | .hbm, ⟨6, _⟩ => ⟨S6400x1024, .i8⟩
  | .hbm, ⟨7, _⟩ => ⟨S1x6400, .f32⟩
  | .hbm, ⟨8, _⟩ => ⟨S6400x3072, .bf16⟩
  | .hbm, ⟨9, _⟩ => ⟨S1024x6400, .bf16⟩
  | .local _ .vmem, ⟨0, _⟩ => ⟨S6400x1024, .f32⟩
  | .local _ .vmem, ⟨1, _⟩ => ⟨S1024, .f32⟩
  | .local _ .vmem, ⟨2, _⟩ => ⟨S1024, .f32⟩
  | .local _ .vmem, ⟨3, _⟩ => ⟨S1024x3072, .i8⟩
  | .local _ .vmem, ⟨4, _⟩ => ⟨S3072, .f32⟩
  | .local _ .vmem, ⟨5, _⟩ => ⟨S3072, .f32⟩
  | .local _ .vmem, ⟨6, _⟩ => ⟨S6400x1024, .i8⟩
  | .local _ .vmem, ⟨7, _⟩ => ⟨S1x6400, .f32⟩
  | .local _ .vmem, ⟨8, _⟩ => ⟨S6400x3072, .bf16⟩
  | .local _ .vmem, ⟨9, _⟩ => ⟨S1024x6400, .bf16⟩
  | _, _ => ⟨S6400x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S6400x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x3072 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6400x1024 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x6400 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S6400x3072 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1024x6400 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== MlpWin.lean ====
abbrev S6400x1024 : Shape := ⟨2, ![6400, 1024]⟩
abbrev S1024x1024 : Shape := ⟨2, ![1024, 1024]⟩
abbrev S1024 : Shape := ⟨1, ![1024]⟩
abbrev S1024x4096 : Shape := ⟨2, ![1024, 4096]⟩
abbrev S4096 : Shape := ⟨1, ![4096]⟩
abbrev S4096x1024 : Shape := ⟨2, ![4096, 1024]⟩
abbrev S1x6400 : Shape := ⟨2, ![1, 6400]⟩
abbrev S6400x4096 : Shape := ⟨2, ![6400, 4096]⟩
abbrev S256x1024 : Shape := ⟨2, ![256, 1024]⟩
abbrev S1x256 : Shape := ⟨2, ![1, 256]⟩
abbrev S256x4096 : Shape := ⟨2, ![256, 4096]⟩
abbrev S256 : Shape := ⟨1, ![256]⟩
abbrev S256x1 : Shape := ⟨2, ![256, 1]⟩
abbrev S256x128 : Shape := ⟨2, ![256, 128]⟩
abbrev S128x256 : Shape := ⟨2, ![128, 256]⟩
abbrev S1x1024 : Shape := ⟨2, ![1, 1024]⟩
abbrev S1024x512 : Shape := ⟨2, ![1024, 512]⟩
abbrev S512 : Shape := ⟨1, ![512]⟩
abbrev S1x512 : Shape := ⟨2, ![1, 512]⟩
abbrev S256x512 : Shape := ⟨2, ![256, 512]⟩
abbrev S512x1024 : Shape := ⟨2, ![512, 1024]⟩

abbrev nBuf : Space → Nat
  | .hbm => 20
  | .vmem => 33
  | .smem => 0
  | _ => 0

abbrev bufTy : (tb : Table) → Fin (tcTables nBuf tb) → BufTy
  | .hbm, ⟨0, _⟩ => ⟨S6400x1024, .f32⟩
  | .hbm, ⟨1, _⟩ => ⟨S6400x1024, .bf16⟩
  | .hbm, ⟨2, _⟩ => ⟨S1024x1024, .i8⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024x4096, .i8⟩
  | .hbm, ⟨8, _⟩ => ⟨S4096, .f32⟩
  | .hbm, ⟨9, _⟩ => ⟨S4096, .f32⟩
  | .hbm, ⟨10, _⟩ => ⟨S4096x1024, .i8⟩
  | .hbm, ⟨11, _⟩ => ⟨S1024, .f32⟩
  | .hbm, ⟨12, _⟩ => ⟨S1024, .f32⟩
  | .hbm, ⟨13, _⟩ => ⟨S6400x1024, .i8⟩
  | .hbm, ⟨14, _⟩ => ⟨S1x6400, .f32⟩
  | .hbm, ⟨15, _⟩ => ⟨S6400x1024, .i8⟩
  | .hbm, ⟨16, _⟩ => ⟨S1x6400, .f32⟩
  | .hbm, ⟨17, _⟩ => ⟨S6400x4096, .i8⟩
  | .hbm, ⟨18, _⟩ => ⟨S1x6400, .f32⟩
  | .hbm, ⟨19, _⟩ => ⟨S6400x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S1024x1024, .i8⟩
  | .local _ .vmem, ⟨5, _⟩ => ⟨S1024, .f32⟩
  | .local _ .vmem, ⟨6, _⟩ => ⟨S1024, .f32⟩
  | .local _ .vmem, ⟨7, _⟩ => ⟨S1024, .f32⟩
  | .local _ .vmem, ⟨8, _⟩ => ⟨S1024, .f32⟩
  | .local _ .vmem, ⟨9, _⟩ => ⟨S1024x4096, .i8⟩
  | .local _ .vmem, ⟨10, _⟩ => ⟨S4096, .f32⟩
  | .local _ .vmem, ⟨11, _⟩ => ⟨S4096, .f32⟩
  | .local _ .vmem, ⟨12, _⟩ => ⟨S4096x1024, .i8⟩
  | .local _ .vmem, ⟨13, _⟩ => ⟨S1024, .f32⟩
  | .local _ .vmem, ⟨14, _⟩ => ⟨S1024, .f32⟩
  | .local _ .vmem, ⟨15, _⟩ => ⟨S256x1024, .i8⟩
  | .local _ .vmem, ⟨16, _⟩ => ⟨S256x1024, .i8⟩
  | .local _ .vmem, ⟨17, _⟩ => ⟨S1x256, .f32⟩
  | .local _ .vmem, ⟨18, _⟩ => ⟨S1x256, .f32⟩
  | .local _ .vmem, ⟨19, _⟩ => ⟨S256x1024, .i8⟩
  | .local _ .vmem, ⟨20, _⟩ => ⟨S256x1024, .i8⟩
  | .local _ .vmem, ⟨21, _⟩ => ⟨S1x256, .f32⟩
  | .local _ .vmem, ⟨22, _⟩ => ⟨S1x256, .f32⟩
  | .local _ .vmem, ⟨23, _⟩ => ⟨S256x4096, .i8⟩
  | .local _ .vmem, ⟨24, _⟩ => ⟨S256x4096, .i8⟩
  | .local _ .vmem, ⟨25, _⟩ => ⟨S1x256, .f32⟩
  | .local _ .vmem, ⟨26, _⟩ => ⟨S1x256, .f32⟩
  | .local _ .vmem, ⟨27, _⟩ => ⟨S256x1024, .f32⟩
  | .local _ .vmem, ⟨28, _⟩ => ⟨S256x1024, .f32⟩
  | .local _ .vmem, ⟨29, _⟩ => ⟨S1024x1024, .bf16⟩
  | .local _ .vmem, ⟨30, _⟩ => ⟨S1024x4096, .bf16⟩
  | .local _ .vmem, ⟨31, _⟩ => ⟨S4096x1024, .bf16⟩
  | .local _ .vmem, ⟨32, _⟩ => ⟨S256x4096, .f32⟩
  | _, _ => ⟨S6400x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0_0 : Ref sig .tc := ⟨.hbm, 13, rfl⟩
abbrev main_v0_1 : Ref sig .tc := ⟨.hbm, 14, rfl⟩
abbrev main_v0_2 : Ref sig .tc := ⟨.hbm, 15, rfl⟩
abbrev main_v0_3 : Ref sig .tc := ⟨.hbm, 16, rfl⟩
abbrev main_v0_4 : Ref sig .tc := ⟨.hbm, 17, rfl⟩
abbrev main_v0_5 : Ref sig .tc := ⟨.hbm, 18, rfl⟩
abbrev main_v0_6 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_stg19_0 : Ref sig .tc := ⟨.vmem, 27, rfl⟩
abbrev cc0_stg19_1 : Ref sig .tc := ⟨.vmem, 28, rfl⟩
abbrev cc0_scratch0 : Ref sig .tc := ⟨.vmem, 29, rfl⟩
abbrev cc0_scratch1 : Ref sig .tc := ⟨.vmem, 30, rfl⟩
abbrev cc0_scratch2 : Ref sig .tc := ⟨.vmem, 31, rfl⟩
abbrev cc0_scratch3 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem13_1 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26
abbrev cc0_sem19_0 : DmaSem sig := 27
abbrev cc0_sem19_1 : DmaSem sig := 28

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x4096 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4096x1024 .i8 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .i8 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .i8 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x4096 .i8 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== RefMlpWinIdeal.lean ====
abbrev S6400x1024 : Shape := ⟨2, ![6400, 1024]⟩
abbrev S1024x1024 : Shape := ⟨2, ![1024, 1024]⟩
abbrev S1024 : Shape := ⟨1, ![1024]⟩
abbrev S1024x4096 : Shape := ⟨2, ![1024, 4096]⟩
abbrev S4096 : Shape := ⟨1, ![4096]⟩
abbrev S4096x1024 : Shape := ⟨2, ![4096, 1024]⟩
abbrev S1x6400 : Shape := ⟨2, ![1, 6400]⟩
abbrev S6400x4096 : Shape := ⟨2, ![6400, 4096]⟩
abbrev S6400 : Shape := ⟨1, ![6400]⟩
abbrev S6400x1 : Shape := ⟨2, ![6400, 1]⟩
abbrev S1x1024 : Shape := ⟨2, ![1, 1024]⟩
abbrev S1x4096 : Shape := ⟨2, ![1, 4096]⟩

abbrev nBuf : Space → Nat
  | .hbm => 20
  | .vmem => 20
  | .smem => 0
  | _ => 0

abbrev bufTy : (tb : Table) → Fin (tcTables nBuf tb) → BufTy
  | .hbm, ⟨0, _⟩ => ⟨S6400x1024, .f32⟩
  | .hbm, ⟨1, _⟩ => ⟨S6400x1024, .bf16⟩
  | .hbm, ⟨2, _⟩ => ⟨S1024x1024, .i8⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024x4096, .i8⟩
  | .hbm, ⟨8, _⟩ => ⟨S4096, .f32⟩
  | .hbm, ⟨9, _⟩ => ⟨S4096, .f32⟩
  | .hbm, ⟨10, _⟩ => ⟨S4096x1024, .i8⟩
  | .hbm, ⟨11, _⟩ => ⟨S1024, .f32⟩
  | .hbm, ⟨12, _⟩ => ⟨S1024, .f32⟩
  | .hbm, ⟨13, _⟩ => ⟨S6400x1024, .i8⟩
  | .hbm, ⟨14, _⟩ => ⟨S1x6400, .f32⟩
  | .hbm, ⟨15, _⟩ => ⟨S6400x1024, .i8⟩
  | .hbm, ⟨16, _⟩ => ⟨S1x6400, .f32⟩
  | .hbm, ⟨17, _⟩ => ⟨S6400x4096, .i8⟩
  | .hbm, ⟨18, _⟩ => ⟨S1x6400, .f32⟩
  | .hbm, ⟨19, _⟩ => ⟨S6400x1024, .f32⟩
  | .local _ .vmem, ⟨0, _⟩ => ⟨S6400x1024, .f32⟩
  | .local _ .vmem, ⟨1, _⟩ => ⟨S6400x1024, .bf16⟩
  | .local _ .vmem, ⟨2, _⟩ => ⟨S1024x1024, .i8⟩
  | .local _ .vmem, ⟨3, _⟩ => ⟨S1024, .f32⟩
  | .local _ .vmem, ⟨4, _⟩ => ⟨S1024, .f32⟩
  | .local _ .vmem, ⟨5, _⟩ => ⟨S1024, .f32⟩
  | .local _ .vmem, ⟨6, _⟩ => ⟨S1024, .f32⟩
  | .local _ .vmem, ⟨7, _⟩ => ⟨S1024x4096, .i8⟩
  | .local _ .vmem, ⟨8, _⟩ => ⟨S4096, .f32⟩
  | .local _ .vmem, ⟨9, _⟩ => ⟨S4096, .f32⟩
  | .local _ .vmem, ⟨10, _⟩ => ⟨S4096x1024, .i8⟩
  | .local _ .vmem, ⟨11, _⟩ => ⟨S1024, .f32⟩
  | .local _ .vmem, ⟨12, _⟩ => ⟨S1024, .f32⟩
  | .local _ .vmem, ⟨13, _⟩ => ⟨S6400x1024, .i8⟩
  | .local _ .vmem, ⟨14, _⟩ => ⟨S1x6400, .f32⟩
  | .local _ .vmem, ⟨15, _⟩ => ⟨S6400x1024, .i8⟩
  | .local _ .vmem, ⟨16, _⟩ => ⟨S1x6400, .f32⟩
  | .local _ .vmem, ⟨17, _⟩ => ⟨S6400x4096, .i8⟩
  | .local _ .vmem, ⟨18, _⟩ => ⟨S1x6400, .f32⟩
  | .local _ .vmem, ⟨19, _⟩ => ⟨S6400x1024, .f32⟩
  | _, _ => ⟨S6400x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0_0 : Ref sig .tc := ⟨.hbm, 13, rfl⟩
abbrev main_v0_1 : Ref sig .tc := ⟨.hbm, 14, rfl⟩
abbrev main_v0_2 : Ref sig .tc := ⟨.hbm, 15, rfl⟩
abbrev main_v0_3 : Ref sig .tc := ⟨.hbm, 16, rfl⟩
abbrev main_v0_4 : Ref sig .tc := ⟨.hbm, 17, rfl⟩
abbrev main_v0_5 : Ref sig .tc := ⟨.hbm, 18, rfl⟩
abbrev main_v0_6 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19

abbrev nD : Nat := 1
abbrev τ : Topo := Topo.v7x

variable {F : FTy → Type} [FloatOps F]

abbrev grid0 : Pipeline.Grid := .none

abbrev stage0_0 : Fin 1 → Memref sig .tc .vmem S6400x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6400x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x4096 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S4096x1024 .i8 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S6400x1024 .i8 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x6400 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S6400x1024 .i8 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x6400 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S6400x4096 .i8 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x6400 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S6400x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
-- ==== MlpGlb.lean ====
abbrev S6400x1024 : Shape := ⟨2, ![6400, 1024]⟩
abbrev S1024x1024 : Shape := ⟨2, ![1024, 1024]⟩
abbrev S1024 : Shape := ⟨1, ![1024]⟩
abbrev S1024x4096 : Shape := ⟨2, ![1024, 4096]⟩
abbrev S4096 : Shape := ⟨1, ![4096]⟩
abbrev S4096x1024 : Shape := ⟨2, ![4096, 1024]⟩
abbrev S1x6400 : Shape := ⟨2, ![1, 6400]⟩
abbrev S6400x4096 : Shape := ⟨2, ![6400, 4096]⟩
abbrev S256x1024 : Shape := ⟨2, ![256, 1024]⟩
abbrev S1x256 : Shape := ⟨2, ![1, 256]⟩
abbrev S256x4096 : Shape := ⟨2, ![256, 4096]⟩
abbrev S256 : Shape := ⟨1, ![256]⟩
abbrev S256x1 : Shape := ⟨2, ![256, 1]⟩
abbrev S256x128 : Shape := ⟨2, ![256, 128]⟩
abbrev S128x256 : Shape := ⟨2, ![128, 256]⟩
abbrev S1x1024 : Shape := ⟨2, ![1, 1024]⟩
abbrev S1024x512 : Shape := ⟨2, ![1024, 512]⟩
abbrev S512 : Shape := ⟨1, ![512]⟩
abbrev S1x512 : Shape := ⟨2, ![1, 512]⟩
abbrev S256x512 : Shape := ⟨2, ![256, 512]⟩
abbrev S512x1024 : Shape := ⟨2, ![512, 1024]⟩

abbrev nBuf : Space → Nat
  | .hbm => 20
  | .vmem => 33
  | .smem => 0
  | _ => 0

abbrev bufTy : (tb : Table) → Fin (tcTables nBuf tb) → BufTy
  | .hbm, ⟨0, _⟩ => ⟨S6400x1024, .f32⟩
  | .hbm, ⟨1, _⟩ => ⟨S6400x1024, .f32⟩
  | .hbm, ⟨2, _⟩ => ⟨S1024x1024, .i8⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024x4096, .i8⟩
  | .hbm, ⟨8, _⟩ => ⟨S4096, .f32⟩
  | .hbm, ⟨9, _⟩ => ⟨S4096, .f32⟩
  | .hbm, ⟨10, _⟩ => ⟨S4096x1024, .i8⟩
  | .hbm, ⟨11, _⟩ => ⟨S1024, .f32⟩
  | .hbm, ⟨12, _⟩ => ⟨S1024, .f32⟩
  | .hbm, ⟨13, _⟩ => ⟨S6400x1024, .i8⟩
  | .hbm, ⟨14, _⟩ => ⟨S1x6400, .f32⟩
  | .hbm, ⟨15, _⟩ => ⟨S6400x1024, .i8⟩
  | .hbm, ⟨16, _⟩ => ⟨S1x6400, .f32⟩
  | .hbm, ⟨17, _⟩ => ⟨S6400x4096, .i8⟩
  | .hbm, ⟨18, _⟩ => ⟨S1x6400, .f32⟩
  | .hbm, ⟨19, _⟩ => ⟨S6400x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1024x1024, .i8⟩
  | .local _ .vmem, ⟨5, _⟩ => ⟨S1024, .f32⟩
  | .local _ .vmem, ⟨6, _⟩ => ⟨S1024, .f32⟩
  | .local _ .vmem, ⟨7, _⟩ => ⟨S1024, .f32⟩
  | .local _ .vmem, ⟨8, _⟩ => ⟨S1024, .f32⟩
  | .local _ .vmem, ⟨9, _⟩ => ⟨S1024x4096, .i8⟩
  | .local _ .vmem, ⟨10, _⟩ => ⟨S4096, .f32⟩
  | .local _ .vmem, ⟨11, _⟩ => ⟨S4096, .f32⟩
  | .local _ .vmem, ⟨12, _⟩ => ⟨S4096x1024, .i8⟩
  | .local _ .vmem, ⟨13, _⟩ => ⟨S1024, .f32⟩
  | .local _ .vmem, ⟨14, _⟩ => ⟨S1024, .f32⟩
  | .local _ .vmem, ⟨15, _⟩ => ⟨S256x1024, .i8⟩
  | .local _ .vmem, ⟨16, _⟩ => ⟨S256x1024, .i8⟩
  | .local _ .vmem, ⟨17, _⟩ => ⟨S1x256, .f32⟩
  | .local _ .vmem, ⟨18, _⟩ => ⟨S1x256, .f32⟩
  | .local _ .vmem, ⟨19, _⟩ => ⟨S256x1024, .i8⟩
  | .local _ .vmem, ⟨20, _⟩ => ⟨S256x1024, .i8⟩
  | .local _ .vmem, ⟨21, _⟩ => ⟨S1x256, .f32⟩
  | .local _ .vmem, ⟨22, _⟩ => ⟨S1x256, .f32⟩
  | .local _ .vmem, ⟨23, _⟩ => ⟨S256x4096, .i8⟩
  | .local _ .vmem, ⟨24, _⟩ => ⟨S256x4096, .i8⟩
  | .local _ .vmem, ⟨25, _⟩ => ⟨S1x256, .f32⟩
  | .local _ .vmem, ⟨26, _⟩ => ⟨S1x256, .f32⟩
  | .local _ .vmem, ⟨27, _⟩ => ⟨S256x1024, .bf16⟩
  | .local _ .vmem, ⟨28, _⟩ => ⟨S256x1024, .bf16⟩
  | .local _ .vmem, ⟨29, _⟩ => ⟨S1024x1024, .bf16⟩
  | .local _ .vmem, ⟨30, _⟩ => ⟨S1024x4096, .bf16⟩
  | .local _ .vmem, ⟨31, _⟩ => ⟨S4096x1024, .bf16⟩
  | .local _ .vmem, ⟨32, _⟩ => ⟨S256x4096, .f32⟩
  | _, _ => ⟨S6400x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0_0 : Ref sig .tc := ⟨.hbm, 13, rfl⟩
abbrev main_v0_1 : Ref sig .tc := ⟨.hbm, 14, rfl⟩
abbrev main_v0_2 : Ref sig .tc := ⟨.hbm, 15, rfl⟩
abbrev main_v0_3 : Ref sig .tc := ⟨.hbm, 16, rfl⟩
abbrev main_v0_4 : Ref sig .tc := ⟨.hbm, 17, rfl⟩
abbrev main_v0_5 : Ref sig .tc := ⟨.hbm, 18, rfl⟩
abbrev main_v0_6 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_stg19_0 : Ref sig .tc := ⟨.vmem, 27, rfl⟩
abbrev cc0_stg19_1 : Ref sig .tc := ⟨.vmem, 28, rfl⟩
abbrev cc0_scratch0 : Ref sig .tc := ⟨.vmem, 29, rfl⟩
abbrev cc0_scratch1 : Ref sig .tc := ⟨.vmem, 30, rfl⟩
abbrev cc0_scratch2 : Ref sig .tc := ⟨.vmem, 31, rfl⟩
abbrev cc0_scratch3 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem13_1 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26
abbrev cc0_sem19_0 : DmaSem sig := 27
abbrev cc0_sem19_1 : DmaSem sig := 28

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x4096 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4096x1024 .i8 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .i8 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .i8 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x4096 .i8 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== RefMlpGlbIdeal.lean ====
abbrev S6400x1024 : Shape := ⟨2, ![6400, 1024]⟩
abbrev S1024x1024 : Shape := ⟨2, ![1024, 1024]⟩
abbrev S1024 : Shape := ⟨1, ![1024]⟩
abbrev S1024x4096 : Shape := ⟨2, ![1024, 4096]⟩
abbrev S4096 : Shape := ⟨1, ![4096]⟩
abbrev S4096x1024 : Shape := ⟨2, ![4096, 1024]⟩
abbrev S1x6400 : Shape := ⟨2, ![1, 6400]⟩
abbrev S6400x4096 : Shape := ⟨2, ![6400, 4096]⟩
abbrev S6400 : Shape := ⟨1, ![6400]⟩
abbrev S6400x1 : Shape := ⟨2, ![6400, 1]⟩
abbrev S1x1024 : Shape := ⟨2, ![1, 1024]⟩
abbrev S1x4096 : Shape := ⟨2, ![1, 4096]⟩

abbrev nBuf : Space → Nat
  | .hbm => 20
  | .vmem => 20
  | .smem => 0
  | _ => 0

abbrev bufTy : (tb : Table) → Fin (tcTables nBuf tb) → BufTy
  | .hbm, ⟨0, _⟩ => ⟨S6400x1024, .f32⟩
  | .hbm, ⟨1, _⟩ => ⟨S6400x1024, .f32⟩
  | .hbm, ⟨2, _⟩ => ⟨S1024x1024, .i8⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024x4096, .i8⟩
  | .hbm, ⟨8, _⟩ => ⟨S4096, .f32⟩
  | .hbm, ⟨9, _⟩ => ⟨S4096, .f32⟩
  | .hbm, ⟨10, _⟩ => ⟨S4096x1024, .i8⟩
  | .hbm, ⟨11, _⟩ => ⟨S1024, .f32⟩
  | .hbm, ⟨12, _⟩ => ⟨S1024, .f32⟩
  | .hbm, ⟨13, _⟩ => ⟨S6400x1024, .i8⟩
  | .hbm, ⟨14, _⟩ => ⟨S1x6400, .f32⟩
  | .hbm, ⟨15, _⟩ => ⟨S6400x1024, .i8⟩
  | .hbm, ⟨16, _⟩ => ⟨S1x6400, .f32⟩
  | .hbm, ⟨17, _⟩ => ⟨S6400x4096, .i8⟩
  | .hbm, ⟨18, _⟩ => ⟨S1x6400, .f32⟩
  | .hbm, ⟨19, _⟩ => ⟨S6400x1024, .bf16⟩
  | .local _ .vmem, ⟨0, _⟩ => ⟨S6400x1024, .f32⟩
  | .local _ .vmem, ⟨1, _⟩ => ⟨S6400x1024, .f32⟩
  | .local _ .vmem, ⟨2, _⟩ => ⟨S1024x1024, .i8⟩
  | .local _ .vmem, ⟨3, _⟩ => ⟨S1024, .f32⟩
  | .local _ .vmem, ⟨4, _⟩ => ⟨S1024, .f32⟩
  | .local _ .vmem, ⟨5, _⟩ => ⟨S1024, .f32⟩
  | .local _ .vmem, ⟨6, _⟩ => ⟨S1024, .f32⟩
  | .local _ .vmem, ⟨7, _⟩ => ⟨S1024x4096, .i8⟩
  | .local _ .vmem, ⟨8, _⟩ => ⟨S4096, .f32⟩
  | .local _ .vmem, ⟨9, _⟩ => ⟨S4096, .f32⟩
  | .local _ .vmem, ⟨10, _⟩ => ⟨S4096x1024, .i8⟩
  | .local _ .vmem, ⟨11, _⟩ => ⟨S1024, .f32⟩
  | .local _ .vmem, ⟨12, _⟩ => ⟨S1024, .f32⟩
  | .local _ .vmem, ⟨13, _⟩ => ⟨S6400x1024, .i8⟩
  | .local _ .vmem, ⟨14, _⟩ => ⟨S1x6400, .f32⟩
  | .local _ .vmem, ⟨15, _⟩ => ⟨S6400x1024, .i8⟩
  | .local _ .vmem, ⟨16, _⟩ => ⟨S1x6400, .f32⟩
  | .local _ .vmem, ⟨17, _⟩ => ⟨S6400x4096, .i8⟩
  | .local _ .vmem, ⟨18, _⟩ => ⟨S1x6400, .f32⟩
  | .local _ .vmem, ⟨19, _⟩ => ⟨S6400x1024, .bf16⟩
  | _, _ => ⟨S6400x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0_0 : Ref sig .tc := ⟨.hbm, 13, rfl⟩
abbrev main_v0_1 : Ref sig .tc := ⟨.hbm, 14, rfl⟩
abbrev main_v0_2 : Ref sig .tc := ⟨.hbm, 15, rfl⟩
abbrev main_v0_3 : Ref sig .tc := ⟨.hbm, 16, rfl⟩
abbrev main_v0_4 : Ref sig .tc := ⟨.hbm, 17, rfl⟩
abbrev main_v0_5 : Ref sig .tc := ⟨.hbm, 18, rfl⟩
abbrev main_v0_6 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19

abbrev nD : Nat := 1
abbrev τ : Topo := Topo.v7x

variable {F : FTy → Type} [FloatOps F]

abbrev grid0 : Pipeline.Grid := .none

abbrev stage0_0 : Fin 1 → Memref sig .tc .vmem S6400x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6400x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x4096 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S4096x1024 .i8 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S6400x1024 .i8 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x6400 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S6400x1024 .i8 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x6400 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S6400x4096 .i8 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x6400 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S6400x1024 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
-- ==== Proof.Rows.lean ====
/- One token's row, over the extended reals: what the projections of an encoder block compute from a row of 1024
   (or 4096) numbers. Nothing here speaks of a program: both a kernel's blocks and its reference's arrays are read as
   these functions of their rows (the modules beside this one), so each fact about the arithmetic is stated once. -/
module

public import Idealize.ShloMosaic.Lib.ValueIdx
public import Idealize.ShloMosaic.Lib.MatmulPlain
public import Idealize.ShloMosaic.Lib.IdealHost
public import Idealize.ShloMosaic.Lib.Pipeline.Value

@[expose] public section

noncomputable section

namespace Cert.Rows

open Idealize.ShloMosaic

/-! ## The functions of a row -/

/-- The mean of a row of 1024. -/
def mean (v : Fin 1024 → EReal) : EReal := Ideal.div (∑ k, v k) (Ideal.ofBits .f32 0x44800000#32)

/-- Layer normalization of a row: the deviation from the mean over the root of the variance plus 1e-6, times the gain,
    plus the offset. -/
def lnorm (v g b : Fin 1024 → EReal) (j : Fin 1024) : EReal :=
  Ideal.div (v j - mean v)
      (Ideal.sqrt (mean (fun k => (v k - mean v) * (v k - mean v)) + Ideal.ofBits .f32 0x358637BD#32)) * g j + b j

/-- The greatest absolute value of a row, from -∞. -/
def amax {n : Nat} (v : Fin n → EReal) : EReal :=
  Finset.univ.fold max (Ideal.ofBits .f32 0xFF800000#32) fun k => max (v k) (-(v k))

/-- The quantiser's scale for a row whose greatest absolute value is `a`: `a / 127`, and 1 where `a` is zero. -/
def scaleOf (a : EReal) : EReal :=
  Scalar.select (Ideal.cmp .oeq a 0) 1 (Ideal.div a (Ideal.ofBits .f32 0x42FE0000#32))

/-- The quantiser's scale of a row. -/
def scale {n : Nat} (v : Fin n → EReal) : EReal := scaleOf (amax v)

/-- A number rounded to the nearest integer, ties to even, and clipped to `[-127, 127]`. -/
def level (z : EReal) : EReal :=
  min (Ideal.ofBits .f32 0x42FE0000#32)
    (max (Ideal.ofBits .f32 0xC2FE0000#32) (Ideal.liftRound Ideal.roundHalfEven z))

/-- The quantised row, as numbers. -/
def qrow {n : Nat} (v : Fin n → EReal) (k : Fin n) : EReal := level (Ideal.div (v k) (scale v))

/-- The quantised row, as int8 codes. -/
def code {n : Nat} (v : Fin n → EReal) (k : Fin n) : BitVec 8 := Ideal.fptosi 8 (qrow v k)

/-- One output of a linear layer on a quantised row: the product of the codes with one column of the int8 weight, times
    the row's scale, times the column's scale, plus the bias. -/
def linear {n : Nat} (v : Fin n → EReal) (w : Fin n → BitVec 8) (ws b : EReal) : EReal :=
  (∑ k, qrow v k * (((w k).toInt : ℝ) : EReal)) * scale v * ws + b

/-- The gelu with the error function. -/
def gelu (z : EReal) : EReal :=
  Ideal.ofBits .f32 0x3F000000#32 * z * (1 + Ideal.erf (Ideal.div z (Ideal.ofBits .f32 0x3FB504F3#32)))

/-- A residual around a linear layer: `h` plus the linear layer of the quantised row `v`; `w j` is column `j` of the
    weight. -/
def resid {n : Nat} (h : Fin 1024 → EReal) (v : Fin n → EReal) (w : Fin 1024 → Fin n → BitVec 8) (ws b : Fin 1024 → EReal)
    (j : Fin 1024) : EReal :=
  h j + linear v (w j) (ws j) (b j)

/-- The hidden row of the MLP: the gelu of the first linear layer. -/
def hidden (v : Fin 1024 → EReal) (w : Fin 4096 → Fin 1024 → BitVec 8) (ws b : Fin 4096 → EReal) (j : Fin 4096) : EReal :=
  gelu (linear v (w j) (ws j) (b j))

/-! ## The greatest absolute value, lane by lane, and a sum in chunks -/

/-- `A` is the greatest absolute value of the entries of `v` in lane `l` (of 128) among the first `128 n`, from 0: said by
    its upper bounds. -/
def Upto (v : Fin 4096 → EReal) (l n : Nat) (A : EReal) : Prop :=
  ∀ u, A ≤ u ↔ 0 ≤ u ∧ ∀ j : Fin 4096, j.val % 128 = l → j.val < 128 * n → max (v j) (-(v j)) ≤ u

/-- An absolute value is not negative. -/
theorem abs_nonneg (z : EReal) : 0 ≤ max z (-z) := by
  rcases le_total 0 z with h | h
  · exact le_max_of_le_left h
  · exact le_max_of_le_right (by simpa using EReal.neg_le_neg_iff.mpr h)

/-- Nothing is covered by zero. -/
theorem Upto.start (v : Fin 4096 → EReal) (l : Nat) : Upto v l 0 0 := fun u => by simp

/-- One more chunk of 128 under the running maximum. -/
theorem Upto.step {v : Fin 4096 → EReal} {l n : Nat} {A c : EReal} (hl : l < 128) (hn : 128 * n + l < 4096) (h : Upto v l n A)
    (hc : c = v ⟨128 * n + l, hn⟩) : Upto v l (n + 1) (max A (max c (-c))) := fun u => by
  rw [max_le_iff, h u, hc]
  constructor
  · rintro ⟨⟨h0, hj⟩, hn'⟩
    refine ⟨h0, fun j hl' hlt => ?_⟩
    by_cases hj' : j.val < 128 * n
    · exact hj j hl' hj'
    · obtain rfl : j = ⟨128 * n + l, hn⟩ := Fin.ext (by show j.val = 128 * n + l; omega)
      exact hn'
  · rintro ⟨h0, hj⟩
    exact ⟨⟨h0, fun j hl' hlt => hj j hl' (by omega)⟩, hj _ (by show (128 * n + l) % 128 = l; omega) (by show 128 * n + l < _; omega)⟩

/-- The word of minus infinity. -/
theorem ofBits_negInf : Ideal.ofBits .f32 0xFF800000#32 = ⊥ := by
  simp [Ideal.ofBits, Ideal.ieee]

/-- The greatest over the lanes is the greatest absolute value of the row. -/
theorem amax_of_lanes (v : Fin 4096 → EReal) (A : Fin 128 → EReal) (h : ∀ l, Upto v l.val 32 (A l)) :
    Finset.univ.fold max (Ideal.ofBits .f32 0xFF800000#32) A = amax v := by
  refine eq_of_forall_ge_iff fun u => ?_
  unfold amax
  rw [Finset.fold_max_le, Finset.fold_max_le]
  refine and_congr_right fun _ => ⟨fun hA j _ => ?_, fun hv l _ => (h l u).mpr ⟨?_, fun j _ _ => hv j (Finset.mem_univ j)⟩⟩
  · exact ((h ⟨j.val % 128, Nat.mod_lt _ (by omega)⟩ u).mp (hA _ (Finset.mem_univ _))).2 j rfl (by have := j.isLt; omega)
  · exact (abs_nonneg (v 0)).trans (hv 0 (Finset.mem_univ _))

/-- `A` is the sum of the first `512 n` terms of `f`. -/
def SumTo (f : Fin 4096 → EReal) (n : Nat) (A : EReal) : Prop :=
  A = ∑ x ∈ Finset.range (512 * n), if h : x < 4096 then f ⟨x, h⟩ else 0

/-- One more part of the running sum. -/
theorem SumTo.step {f : Fin 4096 → EReal} {n : Nat} {A : EReal} (hn : n < 8) (h : SumTo f n A) :
    SumTo f (n + 1) (A + ∑ q : Fin 512, f ⟨512 * n + q.val, by omega⟩) := by
  unfold SumTo at *
  rw [show 512 * (n + 1) = 512 * n + 512 from by omega, Finset.sum_range_add, ← h, Finset.sum_range]
  refine congrArg (A + ·) (Finset.sum_congr rfl fun q _ => ?_)
  rw [dif_pos (by omega)]

/-- The first part of the running sum. -/
theorem SumTo.first (f : Fin 4096 → EReal) : SumTo f 1 (∑ q : Fin 512, f ⟨512 * 0 + q.val, by omega⟩) := by
  have h := SumTo.step (f := f) (n := 0) (A := 0) (by omega) (by unfold SumTo; simp)
  rw [zero_add, zero_add] at h
  exact h

/-- After eight parts the running sum is the whole sum. -/
theorem SumTo.all {f : Fin 4096 → EReal} {A : EReal} (h : SumTo f 8 A) : A = ∑ k, f k := by
  unfold SumTo at h
  rw [h, Finset.sum_range]
  exact Finset.sum_congr rfl fun q _ => dif_pos q.isLt

/-! ## The int8 code holds the clipped number exactly -/

theorem ofBits_127 : Ideal.ofBits .f32 0x42FE0000#32 = ((127 : ℝ) : EReal) := by
  simp [Ideal.ofBits, Ideal.ieee, -EReal.coe_mul]; norm_num

/-- The word of -127. -/
theorem ofBits_neg127 : Ideal.ofBits .f32 0xC2FE0000#32 = ((-127 : ℝ) : EReal) := by
  simp [Ideal.ofBits, Ideal.ieee, -EReal.coe_mul]; norm_num

/-- A clipped level is an integer between -127 and 127. -/
theorem level_int (z : EReal) : ∃ n : ℤ, -127 ≤ n ∧ n ≤ 127 ∧ level z = ((n : ℝ) : EReal) := by
  unfold level
  rw [ofBits_127, ofBits_neg127]
  induction z using EReal.rec with
  | bot => exact ⟨-127, by norm_num, by norm_num, by simp; norm_cast⟩
  | top => exact ⟨127, by norm_num, by norm_num, by simp⟩
  | coe r =>
    refine ⟨min 127 (max (-127) (Ideal.roundHalfEven r)), by omega, by omega, ?_⟩
    rw [Ideal.liftRound_coe]
    push_cast
    rfl

/-- Storing a level as int8 and reading it back gives the level. -/
theorem toInt_fptosi_level (z : EReal) : (((Ideal.fptosi 8 (level z)).toInt : ℝ) : EReal) = level z := by
  obtain ⟨n, h1, h2, h⟩ := level_int z
  have hc : Ideal.toIntClamped (-(2 ^ (8 - 1) : Nat)) ((2 ^ (8 - 1) : Nat) - 1) ((n : ℝ) : EReal) = n := by
    show max _ (min _ (if 0 ≤ (n : ℝ) then ⌊(n : ℝ)⌋ else ⌈(n : ℝ)⌉)) = n
    rw [Int.floor_intCast, Int.ceil_intCast, ite_self]
    norm_num
    omega
  rw [h, Ideal.fptosi, hc, BitVec.toInt_ofInt, Int.bmod_eq_of_le (by norm_num; omega) (by norm_num; omega)]

/-- The codes of a row, read back as numbers, are the quantised row. -/
theorem toInt_code {n : Nat} (v : Fin n → EReal) (k : Fin n) : (((code v k).toInt : ℝ) : EReal) = qrow v k :=
  toInt_fptosi_level _

end Cert.Rows

end
-- ==== Proof.Vecs.lean ====
/- The vector expressions in which kernels and references compute the functions of a row (Rows.lean), read at an
   index, for any number of rows `M`: a block of the kernel and the whole array of its reference are instances of the
   same lemma. -/
module

public import proofs.«01_k».proof.Proof.Rows

@[expose] public section

noncomputable section

namespace Cert.Vecs

open Idealize.ShloMosaic Idealize.ShloMosaic.ValueIdx Cert.Rows

variable {M N K : Nat} {α : Type}

/-! ## Layout operations -/

/-- A column repeated along the lanes. -/
theorem bcCol (v : (⟨2, ![M, 1]⟩ : Shape).Idx → α) (h : (⟨2, ![M, 1]⟩ : Shape).Broadcasts ⟨2, ![M, N]⟩) (r : Fin M) (j : Fin N) :
    broadcastTo ⟨2, ![M, N]⟩ v h (ix2 r j) = v (ix2 r 0) := by
  refine broadcastTo_apply _ _ _ _ fun a => ?_
  match a with
  | ⟨0, _⟩ =>
    show r.val = if M = 1 then 0 else r.val
    split
    · omega
    · rfl
  | ⟨1, _⟩ => rfl

/-- A row repeated down the rows. -/
theorem bcRow (v : (⟨2, ![1, N]⟩ : Shape).Idx → α) (h : (⟨2, ![1, N]⟩ : Shape).Broadcasts ⟨2, ![M, N]⟩) (r : Fin M) (j : Fin N) :
    broadcastTo ⟨2, ![M, N]⟩ v h (ix2 r j) = v (ix2 0 j) := by
  refine broadcastTo_apply _ _ _ _ fun a => ?_
  match a with
  | ⟨0, _⟩ => rfl
  | ⟨1, _⟩ =>
    show j.val = if N = 1 then 0 else j.val
    split
    · omega
    · rfl

/-- A vector as a column. -/
theorem castCol (v : (⟨1, ![M]⟩ : Shape).Idx → α) (h : (⟨1, ![M]⟩ : Shape).ShapeCasts ⟨2, ![M, 1]⟩) (r : Fin M) (j : Fin 1) :
    shapeCast ⟨2, ![M, 1]⟩ v h (ix2 r j) = v (ix1 r) := by
  refine shapeCast_apply _ _ _ _ ?_
  rw [Shape.rowMajor_val_one, Shape.rowMajor_val_two]
  show r.val = r.val * 1 + j.val
  omega

/-- A vector as a row. -/
theorem castRow (v : (⟨1, ![N]⟩ : Shape).Idx → α) (h : (⟨1, ![N]⟩ : Shape).ShapeCasts ⟨2, ![1, N]⟩) (i : Fin 1) (j : Fin N) :
    shapeCast ⟨2, ![1, N]⟩ v h (ix2 i j) = v (ix1 j) := by
  refine shapeCast_apply _ _ _ _ ?_
  rw [Shape.rowMajor_val_one, Shape.rowMajor_val_two]
  show j.val = i.val * N + j.val
  have : i.val = 0 := by omega
  rw [this]; omega

/-- A shape cast to the same shape. -/
theorem castSelf {s : Shape} (v : s.Idx → α) (h : s.ShapeCasts s) : shapeCast s v h = v :=
  funext fun i => shapeCast_apply _ _ _ _ rfl

/-- A matrix transposed. -/
theorem transp (v : (⟨2, ![M, N]⟩ : Shape).Idx → α) (h : (⟨2, ![M, N]⟩ : Shape).Transposes [1, 0] ⟨2, ![N, M]⟩) (j : Fin N) (r : Fin M) :
    transpose ⟨2, ![N, M]⟩ [1, 0] v h (ix2 j r) = v (ix2 r j) := by
  refine transpose_apply _ _ _ _ _ fun b => ?_
  match b with
  | ⟨0, _⟩ => rfl
  | ⟨1, _⟩ => rfl

/-- Columns `o, o+1, …` of a matrix. -/
theorem sliceCols {o : Nat} (v : (⟨2, ![M, K]⟩ : Shape).Idx → α) (h : (⟨2, ![M, K]⟩ : Shape).Slices ![0, o] ⟨2, ![M, N]⟩) (r : Fin M) (j : Fin N)
    (hj : o + j.val < K) : extractStridedSlice ⟨2, ![M, N]⟩ ![0, o] v h (ix2 r j) = v (ix2 r ⟨o + j.val, hj⟩) := by
  refine extractStridedSlice_apply _ _ _ _ _ fun a => ?_
  match a with
  | ⟨0, _⟩ => show r.val = 0 + r.val; omega
  | ⟨1, _⟩ => rfl

/-- The first row of a matrix. -/
theorem sliceRow0 (v : (⟨2, ![K, N]⟩ : Shape).Idx → α) (h : (⟨2, ![K, N]⟩ : Shape).Slices ![0, 0] ⟨2, ![1, N]⟩) (i : Fin 1) (j : Fin N)
    (hK : 0 < K) : extractStridedSlice ⟨2, ![1, N]⟩ ![0, 0] v h (ix2 i j) = v (ix2 ⟨0, hK⟩ j) := by
  refine extractStridedSlice_apply _ _ _ _ _ fun a => ?_
  match a with
  | ⟨0, _⟩ => show 0 = 0 + i.val; omega
  | ⟨1, _⟩ => show j.val = 0 + j.val; omega

/-! ## Reductions along a row, products -/

theorem lift_eq (h : (⟨2, ![M, N]⟩ : Shape).Reduces [1] ⟨1, ![M]⟩) (r : Fin M) (k : Fin N) :
    h.lift (ix1 r) k = ix2 r k := by
  funext a
  match a with
  | ⟨0, _⟩ => rfl
  | ⟨1, _⟩ => rfl

/-- The sum of a row. -/
theorem rowSum (v : FVec Ideal ⟨2, ![M, N]⟩ .f32) (h : (⟨2, ![M, N]⟩ : Shape).Reduces [1] ⟨1, ![M]⟩) (hφ : FKind.Formats .f32)
    (hacc : 0x00000000#32 = FKind.add.neutral .f32 hφ) (r : Fin M) :
    multiReduction .add [1] ⟨1, ![M]⟩ v 0x00000000#32 h hφ hacc (ix1 r) = ∑ k : Fin N, v (ix2 r k) :=
  (Ideal.multiReduction_add_single v _ h hφ hacc (ix1 r)).trans (Finset.sum_congr rfl fun k _ => congrArg v (lift_eq h r k))

/-- The maximum of a row. -/
theorem rowMax (v : FVec Ideal ⟨2, ![M, N]⟩ .f32) (h : (⟨2, ![M, N]⟩ : Shape).Reduces [1] ⟨1, ![M]⟩) (hφ : FKind.Formats .f32)
    (hacc : 0xFF800000#32 = FKind.maximumf.neutral .f32 hφ) (r : Fin M) :
    multiReduction .maximumf [1] ⟨1, ![M]⟩ v 0xFF800000#32 h hφ hacc (ix1 r)
      = Finset.univ.fold max (Ideal.ofBits .f32 0xFF800000#32) fun k : Fin N => v (ix2 r k) :=
  (Ideal.multiReduction_maximumf_single v _ h hφ hacc (ix1 r)).trans
    (congrArg (Finset.fold max _ · _) (funext fun k => congrArg v (lift_eq h r k)))

/-- A matrix product into zero. -/
theorem prod {φ₁ φ₂ : FTy} (d : DotDims ⟨2, ![M, K]⟩ ⟨2, ![K, N]⟩ ⟨2, ![M, N]⟩) (hd : d = DotDims.plain M K N)
    (a : FVec Ideal ⟨2, ![M, K]⟩ φ₁) (w : FVec Ideal ⟨2, ![K, N]⟩ φ₂) (r : Fin M) (j : Fin N) :
    matmul d none a w (constant ⟨2, ![M, N]⟩ .f32 0x00000000#32) (ix2 r j) = ∑ k, a (ix2 r k) * w (ix2 k j) := by
  subst hd
  refine (Ideal.matmul_plain_apply none a w _ r j).trans ?_
  show Ideal.ofBits .f32 0x00000000#32 + _ = _
  rw [Ideal.ofBits_zero_f32, zero_add]

/-! ## The row functions as vector expressions -/

/-- Row `r` of a matrix. -/
def row {φ : FTy} (x : FVec Ideal ⟨2, ![M, N]⟩ φ) (r : Fin M) (k : Fin N) : EReal := x (ix2 r k)

/-- A vector of 1-dimensional shape as a function of its one coordinate. -/
def vec (g : (⟨1, ![N]⟩ : Shape).Idx → α) (k : Fin N) : α := g (ix1 k)

/-- Column `j` of a matrix. -/
def col (w : (⟨2, ![K, N]⟩ : Shape).Idx → α) (j : Fin N) (k : Fin K) : α := w (ix2 k j)

section LayerNorm

variable (hr : (⟨2, ![M, 1024]⟩ : Shape).Reduces [1] ⟨1, ![M]⟩) (hc : (⟨1, ![M]⟩ : Shape).ShapeCasts ⟨2, ![M, 1]⟩)
  (hb : (⟨2, ![M, 1]⟩ : Shape).Broadcasts ⟨2, ![M, 1024]⟩) (hg : (⟨1, ![1024]⟩ : Shape).ShapeCasts ⟨2, ![1, 1024]⟩)
  (hgb : (⟨2, ![1, 1024]⟩ : Shape).Broadcasts ⟨2, ![M, 1024]⟩)

/-- The row sums, as a column. -/
def sumC (x : FVec Ideal ⟨2, ![M, 1024]⟩ .f32) : FVec Ideal ⟨2, ![M, 1]⟩ .f32 :=
  shapeCast ⟨2, ![M, 1]⟩ (multiReduction .add [1] ⟨1, ![M]⟩ x 0x00000000#32 hr (.inl rfl) rfl) hc

/-- Layer normalization of the rows of `x` with given row sums `s`. -/
def lnormOf (x : FVec Ideal ⟨2, ![M, 1024]⟩ .f32) (s : FVec Ideal ⟨2, ![M, 1]⟩ .f32) (g b : FVec Ideal ⟨1, ![1024]⟩ .f32) :
    FVec Ideal ⟨2, ![M, 1024]⟩ .f32 :=
  have n : FVec Ideal ⟨2, ![M, 1]⟩ .f32 := broadcast ⟨2, ![M, 1]⟩ (Scalar.ofBits (F := Ideal) .f32 0x44800000#32)
  have d : FVec Ideal ⟨2, ![M, 1024]⟩ .f32 := subf x (broadcastTo ⟨2, ![M, 1024]⟩ (divf s n) hb)
  addf (mulf (divf d (broadcastTo ⟨2, ![M, 1024]⟩
      (sqrt (addf (divf (sumC hr hc (mulf d d)) n) (broadcast ⟨2, ![M, 1]⟩ (Scalar.ofBits (F := Ideal) .f32 0x358637BD#32)))) hb))
    (broadcastTo ⟨2, ![M, 1024]⟩ (shapeCast ⟨2, ![1, 1024]⟩ g hg) hgb)) (broadcastTo ⟨2, ![M, 1024]⟩ (shapeCast ⟨2, ![1, 1024]⟩ b hg) hgb)

/-- Row sums as a column. -/
theorem sumC_apply (x : FVec Ideal ⟨2, ![M, 1024]⟩ .f32) (r : Fin M) (i : Fin 1) : sumC hr hc x (ix2 r i) = ∑ k : Fin 1024, x (ix2 r k) :=
  (castCol _ hc r i).trans (rowSum x hr _ _ r)

/-- Layer normalization at an index: the layer normalization of that row. -/
theorem lnormOf_apply (x : FVec Ideal ⟨2, ![M, 1024]⟩ .f32) (g b : FVec Ideal ⟨1, ![1024]⟩ .f32) (r : Fin M) (j : Fin 1024) :
    lnormOf hr hc hb hg hgb x (sumC hr hc x) g b (ix2 r j) = lnorm (row x r) (vec g) (vec b) j := by
  have hm : ∀ k : Fin 1024, subf (F := Ideal) x (broadcastTo ⟨2, ![M, 1024]⟩ (divf (F := Ideal) (sumC hr hc x)
      (broadcast ⟨2, ![M, 1]⟩ (Scalar.ofBits (F := Ideal) .f32 0x44800000#32))) hb) (ix2 r k) = x (ix2 r k) - mean (row x r) := fun k => by
    show x (ix2 r k) - broadcastTo _ _ hb (ix2 r k) = _
    rw [bcCol]
    show x (ix2 r k) - Ideal.div (sumC hr hc x (ix2 r 0)) _ = _
    rw [sumC_apply]; rfl
  unfold lnormOf
  show Ideal.div (subf (F := Ideal) _ _ (ix2 r j)) (broadcastTo _ _ hb (ix2 r j)) * broadcastTo _ _ hgb (ix2 r j) + broadcastTo _ _ hgb (ix2 r j) = _
  rw [hm, bcCol, bcRow, bcRow, castRow, castRow]
  show Ideal.div _ (Ideal.sqrt (Ideal.div (sumC hr hc _ (ix2 r 0)) _ + _)) * _ + _ = _
  rw [sumC_apply]
  unfold lnorm
  refine congrArg₂ (fun s t => Ideal.div s t * g (ix1 j) + b (ix1 j)) rfl ?_
  refine congrArg (fun s => Ideal.sqrt (Ideal.div s _ + _)) (Finset.sum_congr rfl fun k _ => ?_)
  exact congrArg₂ (fun a b : EReal => a * b) (hm k) (hm k)

end LayerNorm

section Scale

variable (hr : (⟨2, ![M, N]⟩ : Shape).Reduces [1] ⟨1, ![M]⟩)

/-- The quantiser's scale from the greatest absolute values, for any shape. -/
def scaleA {s : Shape} (a : FVec Ideal s .f32) : FVec Ideal s .f32 :=
  select (cmpf .oeq a (broadcast s (Scalar.ofBits (F := Ideal) .f32 0x00000000#32)))
    (broadcast s (Scalar.ofBits (F := Ideal) .f32 0x3F800000#32))
    (divf a (broadcast s (Scalar.ofBits (F := Ideal) .f32 0x42FE0000#32)))

/-- The scale of greatest absolute values. -/
theorem scaleA_apply {s : Shape} (a : FVec Ideal s .f32) (i : s.Idx) : scaleA a i = scaleOf (a i) := by
  show Scalar.select (Ideal.cmp .oeq (a i) (Ideal.ofBits .f32 0x00000000#32)) (Ideal.ofBits .f32 0x3F800000#32) _ = _
  rw [Ideal.ofBits_zero_f32, Ideal.ofBits_one_f32]; rfl

/-- The greatest absolute value of each row. -/
def amaxV (x : FVec Ideal ⟨2, ![M, N]⟩ .f32) : FVec Ideal ⟨1, ![M]⟩ .f32 :=
  multiReduction .maximumf [1] ⟨1, ![M]⟩ (absf x) 0xFF800000#32 hr (.inl rfl) rfl

/-- The greatest absolute value of a row. -/
theorem amaxV_apply (x : FVec Ideal ⟨2, ![M, N]⟩ .f32) (r : Fin M) : amaxV hr x (ix1 r) = amax (row x r) :=
  rowMax _ hr _ _ r

/-- The scales of the rows, as a vector. -/
theorem scaleV_apply (x : FVec Ideal ⟨2, ![M, N]⟩ .f32) (r : Fin M) : scaleA (amaxV hr x) (ix1 r) = scale (row x r) := by
  rw [scaleA_apply, amaxV_apply]; rfl

/-- The scales of the rows, as a column. -/
theorem scaleC_apply (x : FVec Ideal ⟨2, ![M, N]⟩ .f32) (hc : (⟨1, ![M]⟩ : Shape).ShapeCasts ⟨2, ![M, 1]⟩) (r : Fin M) (i : Fin 1) :
    scaleA (shapeCast ⟨2, ![M, 1]⟩ (amaxV hr x) hc) (ix2 r i) = scale (row x r) := by
  rw [scaleA_apply, castCol, amaxV_apply]; rfl

/-- The column of scales turned into a row of 128 equal rows, of which the first is kept. -/
theorem rowOf_apply (s : FVec Ideal ⟨2, ![M, 1]⟩ .f32) (h₁ : (⟨2, ![M, 1]⟩ : Shape).ShapeCasts ⟨2, ![M, 1]⟩)
    (h₂ : (⟨2, ![M, 1]⟩ : Shape).Broadcasts ⟨2, ![M, 128]⟩) (h₃ : (⟨2, ![M, 128]⟩ : Shape).Transposes [1, 0] ⟨2, ![128, M]⟩)
    (h₄ : (⟨2, ![128, M]⟩ : Shape).Slices ![0, 0] ⟨2, ![1, M]⟩) (i : Fin 1) (r : Fin M) :
    extractStridedSlice ⟨2, ![1, M]⟩ ![0, 0]
      (transpose ⟨2, ![128, M]⟩ [1, 0] (broadcastTo ⟨2, ![M, 128]⟩ (shapeCast ⟨2, ![M, 1]⟩ s h₁) h₂) h₃) h₄ (ix2 i r) = s (ix2 r 0) := by
  rw [sliceRow0 _ _ _ _ (by omega), transp, bcCol, castSelf]

end Scale

section Levels

/-- The matrix divided by a column of scales, rounded and clipped. -/
def levelV (hb : (⟨2, ![M, 1]⟩ : Shape).Broadcasts ⟨2, ![M, N]⟩) (lo hi : Ideal .f32) (x : FVec Ideal ⟨2, ![M, N]⟩ .f32)
    (s : FVec Ideal ⟨2, ![M, 1]⟩ .f32) : FVec Ideal ⟨2, ![M, N]⟩ .f32 :=
  minimumf (broadcast ⟨2, ![M, N]⟩ hi)
    (maximumf (broadcast ⟨2, ![M, N]⟩ lo) (roundeven (divf x (broadcastTo ⟨2, ![M, N]⟩ s hb))))

/-- The levels of a row: divided by its scale, rounded, clipped. -/
theorem levelV_apply (hb : (⟨2, ![M, 1]⟩ : Shape).Broadcasts ⟨2, ![M, N]⟩) {lo hi : Ideal .f32} (hlo : lo = Ideal.ofBits .f32 0xC2FE0000#32)
    (hhi : hi = Ideal.ofBits .f32 0x42FE0000#32) (x : FVec Ideal ⟨2, ![M, N]⟩ .f32)
    (s : FVec Ideal ⟨2, ![M, 1]⟩ .f32) (r : Fin M) (hs : s (ix2 r 0) = scale (row x r)) (k : Fin N) :
    levelV hb lo hi x s (ix2 r k) = qrow (row x r) k := by
  subst hlo hhi
  show min _ (max _ (Ideal.liftRound _ (Ideal.div (x (ix2 r k)) (broadcastTo _ s hb (ix2 r k))))) = _
  rw [bcCol, hs]; rfl

/-- One entry, from the entry and its row's scale. -/
theorem levelV_entry (hb : (⟨2, ![M, 1]⟩ : Shape).Broadcasts ⟨2, ![M, N]⟩) (x : FVec Ideal ⟨2, ![M, N]⟩ .f32)
    (s : FVec Ideal ⟨2, ![M, 1]⟩ .f32) (r : Fin M) (k : Fin N) {K : Nat} (v : Fin K → EReal) (i : Fin K) (hs : s (ix2 r 0) = scale v)
    (hx : x (ix2 r k) = v i) :
    levelV hb (Ideal.ofBits .f32 0xC2FE0000#32) (Ideal.ofBits .f32 0x42FE0000#32) x s (ix2 r k) = qrow v i := by
  show min _ (max _ (Ideal.liftRound _ (Ideal.div (x (ix2 r k)) (broadcastTo _ s hb (ix2 r k))))) = _
  rw [bcCol, hs, hx]; rfl

/-- The bounds -127 and 127 converted from integers are the same numbers. -/
theorem sitofp_neg127 : Scalar.sitofp (F := Ideal) .f32 4294967169#32 = Ideal.ofBits .f32 0xC2FE0000#32 := by
  rw [ofBits_neg127]
  show (((4294967169#32 : BitVec 32).toInt : ℝ) : EReal) = _
  rw [show (4294967169#32 : BitVec 32).toInt = -127 by decide]; norm_num

/-- The integer 127 as a number. -/
theorem sitofp_127 : Scalar.sitofp (F := Ideal) .f32 127#32 = Ideal.ofBits .f32 0x42FE0000#32 := by
  rw [ofBits_127]
  show (((127#32 : BitVec 32).toInt : ℝ) : EReal) = _
  rw [show (127#32 : BitVec 32).toInt = 127 by decide]; norm_num

end Levels

section Linear

/-- The product with the weights, times the column of row scales, times the row of weight scales, plus the bias. -/
def linearV {φ₁ φ₂ : FTy} (d : DotDims ⟨2, ![M, K]⟩ ⟨2, ![K, N]⟩ ⟨2, ![M, N]⟩) (hb : (⟨2, ![M, 1]⟩ : Shape).Broadcasts ⟨2, ![M, N]⟩)
    (hg : (⟨1, ![N]⟩ : Shape).ShapeCasts ⟨2, ![1, N]⟩) (hgb : (⟨2, ![1, N]⟩ : Shape).Broadcasts ⟨2, ![M, N]⟩)
    (a : FVec Ideal ⟨2, ![M, K]⟩ φ₁) (s : FVec Ideal ⟨2, ![M, 1]⟩ .f32) (w : FVec Ideal ⟨2, ![K, N]⟩ φ₂)
    (ws b : FVec Ideal ⟨1, ![N]⟩ .f32) : FVec Ideal ⟨2, ![M, N]⟩ .f32 :=
  addf (mulf (mulf (matmul d none a w (constant ⟨2, ![M, N]⟩ .f32 0x00000000#32)) (broadcastTo ⟨2, ![M, N]⟩ s hb))
    (broadcastTo ⟨2, ![M, N]⟩ (shapeCast ⟨2, ![1, N]⟩ ws hg) hgb)) (broadcastTo ⟨2, ![M, N]⟩ (shapeCast ⟨2, ![1, N]⟩ b hg) hgb)

/-- It is the linear layer of the row whose levels and scale it is given. -/
theorem linearV_apply {φ₁ φ₂ : FTy} (d : DotDims ⟨2, ![M, K]⟩ ⟨2, ![K, N]⟩ ⟨2, ![M, N]⟩) (hd : d = DotDims.plain M K N)
    (hb : (⟨2, ![M, 1]⟩ : Shape).Broadcasts ⟨2, ![M, N]⟩)
    (hg : (⟨1, ![N]⟩ : Shape).ShapeCasts ⟨2, ![1, N]⟩) (hgb : (⟨2, ![1, N]⟩ : Shape).Broadcasts ⟨2, ![M, N]⟩)
    (a : FVec Ideal ⟨2, ![M, K]⟩ φ₁) (s : FVec Ideal ⟨2, ![M, 1]⟩ .f32) (w : FVec Ideal ⟨2, ![K, N]⟩ φ₂)
    (ws b : FVec Ideal ⟨1, ![N]⟩ .f32) (r : Fin M) (j : Fin N) (v : Fin K → EReal) (c : Fin K → BitVec 8)
    (ha : ∀ k, a (ix2 r k) = qrow v k) (hs : s (ix2 r 0) = scale v) (hw : ∀ k, w (ix2 k j) = (((c k).toInt : ℝ) : EReal)) :
    linearV d hb hg hgb a s w ws b (ix2 r j) = linear v c (ws (ix1 j)) (b (ix1 j)) := by
  show matmul d none a w _ (ix2 r j) * broadcastTo _ s hb (ix2 r j) * broadcastTo _ _ hgb (ix2 r j) + broadcastTo _ _ hgb (ix2 r j) = _
  rw [prod d hd, bcCol, bcRow, bcRow, castRow, castRow, hs]
  unfold linear
  refine congrArg (fun t => t * scale v * ws (ix1 j) + b (ix1 j)) (Finset.sum_congr rfl fun k _ => ?_)
  rw [ha, hw]

end Linear

section Mlp

/-! The rows of the MLP call: `o` is a row of the attention's output and `x` the same row of the block's input. -/

section Rows

variable (o x : Fin 1024 → EReal) (wp : IVec ⟨2, ![1024, 1024]⟩ 8) (wps bp g b : FVec Ideal ⟨1, ![1024]⟩ .f32) (w1 : IVec ⟨2, ![1024, 4096]⟩ 8)
  (w1s b1 : FVec Ideal ⟨1, ![4096]⟩ .f32) (w2 : IVec ⟨2, ![4096, 1024]⟩ 8) (w2s b2 : FVec Ideal ⟨1, ![1024]⟩ .f32)

/-- The residual around the attention. -/
def hRow : Fin 1024 → EReal := resid x o (col wp) (vec wps) (vec bp)

/-- Its layer normalization. -/
def nRow : Fin 1024 → EReal := lnorm (hRow o x wp wps bp) (vec g) (vec b)

/-- The hidden row. -/
def fRow : Fin 4096 → EReal := hidden (nRow o x wp wps bp g b) (col w1) (vec w1s) (vec b1)

/-- The block's output row. -/
def yRow : Fin 1024 → EReal :=
  resid (hRow o x wp wps bp) (fRow o x wp wps bp g b w1 w1s b1) (col w2) (vec w2s) (vec b2)

end Rows

/-- The gelu of every entry. -/
def geluV {s : Shape} (z : FVec Ideal s .f32) : FVec Ideal s .f32 :=
  mulf (mulf (broadcast s (Scalar.ofBits (F := Ideal) .f32 0x3F000000#32)) z)
    (addf (broadcast s (Scalar.ofBits (F := Ideal) .f32 0x3F800000#32))
      (erf (divf z (broadcast s (Scalar.ofBits (F := Ideal) .f32 0x3FB504F3#32)))))

/-- The activation, place by place. -/
theorem geluV_apply {s : Shape} (z : FVec Ideal s .f32) (i : s.Idx) : geluV z i = gelu (z i) := by
  show Ideal.ofBits .f32 0x3F000000#32 * z i * (Ideal.ofBits .f32 0x3F800000#32 + _) = _
  rw [Ideal.ofBits_one_f32]; rfl

/-- The running greatest absolute values of the lanes with 128 more columns of `H`, from column `o` on. -/
theorem uptoV {o : Nat} (A : FVec Ideal ⟨2, ![M, 128]⟩ .f32) (H : FVec Ideal ⟨2, ![M, 512]⟩ .f32)
    (h : (⟨2, ![M, 512]⟩ : Shape).Slices ![0, o] ⟨2, ![M, 128]⟩) (r : Fin M) (l : Fin 128) (v : Fin 4096 → EReal) (n k : Nat)
    (hA : Upto v l.val n (A (ix2 r l))) (ho : 128 * n = 512 * k + o) (hk : k < 8) (ho' : o + 128 ≤ 512)
    (hH : ∀ q : Fin 512, H (ix2 r q) = v ⟨512 * k + q.val, by omega⟩) :
    Upto v l.val (n + 1) (maximumf A (absf (extractStridedSlice ⟨2, ![M, 128]⟩ ![0, o] H h)) (ix2 r l)) := by
  show Upto v l.val (n + 1) (max (A (ix2 r l)) (max (extractStridedSlice _ _ H h (ix2 r l)) (-(extractStridedSlice _ _ H h (ix2 r l)))))
  refine Upto.step l.isLt (by omega) hA ?_
  rw [sliceCols H h r l (by omega), hH]
  exact congrArg v (Fin.ext (by show 512 * k + (o + l.val) = 128 * n + l.val; omega))

/-- The scale of a row from the greatest absolute values of its lanes. -/
theorem scaleLanes_apply (A : FVec Ideal ⟨2, ![M, 128]⟩ .f32) (hr : (⟨2, ![M, 128]⟩ : Shape).Reduces [1] ⟨1, ![M]⟩)
    (hc : (⟨1, ![M]⟩ : Shape).ShapeCasts ⟨2, ![M, 1]⟩) (r : Fin M) (i : Fin 1) (v : Fin 4096 → EReal)
    (hA : ∀ l, Upto v l.val 32 (A (ix2 r l))) :
    scaleA (shapeCast ⟨2, ![M, 1]⟩ (multiReduction .maximumf [1] ⟨1, ![M]⟩ A 0xFF800000#32 hr (.inl rfl) rfl) hc) (ix2 r i) = scale v := by
  rw [scaleA_apply, castCol]
  exact congrArg scaleOf ((rowMax A hr _ _ r).trans (amax_of_lanes v _ hA))

end Mlp

end Cert.Vecs

end
-- ==== Proof.QkvKer.lean ====
/- One block of the kernel's first projection, read at an index: 640 rows of the input. Each payload is one of the
   functions of those rows (Rows.lean). -/
module

public import proofs.«01_k».proof.Proof.Vecs
public import proofs.«01_k».proof.Proof.Gen.QkvGlbIdeal.Value
public import Idealize.ShloMosaic.Lib.Pipeline.ValueKit
public import Idealize.ShloMosaic.Lib.Pipeline.ValueKit.Held
public import Idealize.ShloMosaic.Lib.Pipeline.ReadBack

@[expose] public section

set_option maxRecDepth 16384

noncomputable section

namespace Cert.QkvKer

open Idealize.ShloMosaic hiding ix1 ix2
open Idealize.ShloMosaic.TcCoe Idealize.ShloMosaic.ValueIdx Cert.Rows Cert.Vecs
open Cert.QkvGlbIdeal Cert.QkvGlbIdeal.Gen

section Block

variable (x : FVec Ideal S640x1024 .f32) (g b : FVec Ideal S1024 .f32) (w : IVec S1024x3072 8) (ws wb : FVec Ideal S3072 .f32)

/-- The layer-normalized block. -/
theorem pay2_row (r : Fin 640) : row (k0_pay2 (F := Ideal) x g b) r = lnorm (row x r) (vec g) (vec b) :=
  funext fun k => lnormOf_apply reduces_S640x1024_S640 shapeCasts_S640_S640x1 broadcasts_S640x1_S640x1024 shapeCasts_S1024_S1x1024
    broadcasts_S1x1024_S640x1024 x g b r k

/-- Its scales. -/
theorem pay3_apply (r : Fin 640) (i : Fin 1) : k0_pay3 (F := Ideal) x g b (ix2 r i) = scale (lnorm (row x r) (vec g) (vec b)) := by
  rw [← pay2_row]
  exact scaleC_apply reduces_S640x1024_S640 (k0_pay2 (F := Ideal) x g b) shapeCasts_S640_S640x1 r i

/-- Its levels. -/
theorem pay6_apply (r : Fin 640) (k : Fin 1024) :
    k0_pay6 (F := Ideal) (k0_pay4 (F := Ideal) x g b) (FloatOps.ofBits .f32 0x42FE0000#32) (k0_pay5 (F := Ideal)) (ix2 r k)
      = qrow (lnorm (row x r) (vec g) (vec b)) k := by
  rw [← pay2_row]
  refine levelV_apply broadcasts_S640x1_S640x1024 rfl rfl (k0_pay2 (F := Ideal) x g b) (k0_pay3 (F := Ideal) x g b) r ?_ k
  rw [pay2_row]
  exact pay3_apply x g b r 0

/-- The codes. -/
theorem pay7_apply (r : Fin 640) (k : Fin 1024) :
    k0_pay7 (F := Ideal) (k0_pay4 (F := Ideal) x g b) (FloatOps.ofBits .f32 0x42FE0000#32) (k0_pay5 (F := Ideal)) (ix2 r k)
      = code (lnorm (row x r) (vec g) (vec b)) k :=
  congrArg (Ideal.fptosi 8) (pay6_apply x g b r k)

/-- The row of scales. -/
theorem pay8_apply (i : Fin 1) (r : Fin 640) :
    k0_pay8 (F := Ideal) (k0_pay3 (F := Ideal) x g b) (ix2 i r) = scale (lnorm (row x r) (vec g) (vec b)) := by
  refine (rowOf_apply (k0_pay3 (F := Ideal) x g b) shapeCasts_S640x1_S640x1 broadcasts_S640x1_S640x128 transposes_S640x128_p1_0_S128x640
    slices_S128x640_o0_0_S1x640 i r).trans (pay3_apply x g b r 0)

/-- The weights as numbers. -/
theorem pay1_apply (k : Fin 1024) (j : Fin 3072) : k0_pay1 (F := Ideal) w (ix2 k j) = (((w (ix2 k j)).toInt : ℝ) : EReal) :=
  congrFun (castSelf (sitofp (F := Ideal) .bf16 w) shapeCasts_S1024x3072_S1024x3072) (ix2 k j)

/-- 256 columns of the projection, from column `o` on. -/
theorem chunk (o : Nat) (h₁ : ∀ a, (![0, o] : Fin 2 → Nat) a + (![1024, 256] : Fin 2 → Nat) a ≤ S1024x3072.size a)
    (h₂ : ∀ a, (![o] : Fin 1 → Nat) a + (![256] : Fin 1 → Nat) a ≤ S3072.size a) (r : Fin 640) (j : Fin 3072) (p : S640x256.Idx)
    (hr : r.val = (p 0).val) (hj : j.val = o + (p 1).val) :
    k0_pay12 (F := Ideal) (k0_pay3 (F := Ideal) x g b)
      (k0_pay9 (F := Ideal) (k0_pay4 (F := Ideal) x g b) (FloatOps.ofBits .f32 0x42FE0000#32) (k0_pay5 (F := Ideal)))
      (View.ld (k0_pay1 (F := Ideal) w) (Rect.unit (s := S1024x3072) ![0, o] ![1024, 256] h₁))
      (View.ld ws (Rect.unit (s := S3072) ![o] ![256] h₂)) (View.ld wb (Rect.unit (s := S3072) ![o] ![256] h₂)) p
      = linear (lnorm (row x r) (vec g) (vec b)) (col w j) (vec ws j) (vec wb j) := by
  obtain ⟨q, rfl⟩ : ∃ q : Fin 256, p = ix2 r q := ⟨p 1, funext fun a => match a with
    | ⟨0, _⟩ => Fin.ext hr.symm
    | ⟨1, _⟩ => rfl⟩
  refine (linearV_apply (φ₁ := .bf16) (φ₂ := .bf16) dot_S640x1024_S1024x256_S640x256_1_0_0_1_n_n rfl broadcasts_S640x1_S640x256
    shapeCasts_S256_S1x256 broadcasts_S1x256_S640x256 _ (k0_pay3 (F := Ideal) x g b) _ _ _ r _ _ (col w j)
    (fun k => pay6_apply x g b r k) (pay3_apply x g b r 0) (fun k => ?_)).trans ?_
  · refine (View.ld_unit_apply_of _ _ _ _ _ (ix2 k j) fun a => ?_).trans (pay1_apply w k j)
    match a with
    | ⟨0, _⟩ => show k.val = 0 + k.val; omega
    | ⟨1, _⟩ => exact hj
  · refine congrArg₂ _ (View.ld_unit_apply_of _ _ _ _ _ (ix1 j) fun a => ?_) (View.ld_unit_apply_of _ _ _ _ _ (ix1 j) fun a => ?_)
    all_goals match a with
      | ⟨0, _⟩ => exact hj

/-- 256 rows of the transposed keys. -/
theorem chunkT (o : Nat) (h₁ : ∀ a, (![0, o] : Fin 2 → Nat) a + (![1024, 256] : Fin 2 → Nat) a ≤ S1024x3072.size a)
    (h₂ : ∀ a, (![o] : Fin 1 → Nat) a + (![256] : Fin 1 → Nat) a ≤ S3072.size a) (r : Fin 640) (j : Fin 3072) (p : S256x640.Idx)
    (hr : r.val = (p 1).val) (hj : j.val = o + (p 0).val) :
    k0_pay19 (F := Ideal) (k0_pay3 (F := Ideal) x g b)
      (k0_pay9 (F := Ideal) (k0_pay4 (F := Ideal) x g b) (FloatOps.ofBits .f32 0x42FE0000#32) (k0_pay5 (F := Ideal)))
      (View.ld (k0_pay1 (F := Ideal) w) (Rect.unit (s := S1024x3072) ![0, o] ![1024, 256] h₁))
      (View.ld ws (Rect.unit (s := S3072) ![o] ![256] h₂)) (View.ld wb (Rect.unit (s := S3072) ![o] ![256] h₂)) p
      = linear (lnorm (row x r) (vec g) (vec b)) (col w j) (vec ws j) (vec wb j) := by
  obtain ⟨q, rfl⟩ : ∃ q : Fin 256, p = ix2 q r := ⟨p 0, funext fun a => match a with
    | ⟨0, _⟩ => rfl
    | ⟨1, _⟩ => Fin.ext hr.symm⟩
  unfold k0_pay19
  refine (transp _ transposes_S640x256_p1_0_S256x640 q r).trans ?_
  exact (chunk x g b w ws wb o h₁ h₂ r j (ix2 r q) rfl hj)

end Block

end Cert.QkvKer

end
-- ==== Proof.QkvWinGrid.lean ====
/- The windowed block's first projection over its grid: what each block leaves in the outputs, and the outputs after the run. -/
module

public import proofs.«01_k».proof.Proof.QkvKer
public import proofs.«01_k».proof.Proof.Gen.QkvWinIdeal.Value
public import Idealize.ShloMosaic.Lib.Pipeline.ValueKit
public import Idealize.ShloMosaic.Lib.Pipeline.ValueKit.Held
public import Idealize.ShloMosaic.Lib.Pipeline.ReadBack

@[expose] public section

set_option maxRecDepth 16384

noncomputable section

namespace Cert.QkvWinKer

open Idealize.ShloMosaic hiding ix1 ix2
open Idealize.ShloMosaic.TcCoe Idealize.ShloMosaic.ValueIdx Cert.Rows Cert.Vecs
open Cert.QkvKer (pay7_apply pay8_apply chunk chunkT)
open Cert.QkvWinIdeal Cert.QkvWinIdeal.Gen

section Grid

variable (m : (ℓ : Loc nD τ sig) → Buf (Elt Ideal) ℓ) (c : Dev nD)

/-- Where the windows' blocks lie: block `t` of the row-blocked windows, the whole array for the others. -/
theorem idx : ∀ t : Fin grid0.N, win0_0.index t = ![t.val, 0] ∧ win0_1.index t = ![0] ∧ win0_2.index t = ![0] ∧ win0_3.index t = ![0, 0]
    ∧ win0_4.index t = ![0] ∧ win0_5.index t = ![0] ∧ win0_6.index t = ![t.val, 0] ∧ win0_7.index t = ![0, t.val]
    ∧ win0_8.index t = ![t.val, 0] ∧ win0_9.index t = ![0, t.val] := by decide +kernel

/-- Block `t` of the input is rows `640 t` and on. -/
theorem iblk0 (t : Fin cfg0.N) (r : Fin 640) (i : Fin 6400) (hi : i.val = t.val * 640 + r.val) :
    row (φ := .f32) (iblk m c 0 t) r = row (φ := .f32) (m ((c : Thread nD τ).loc main_arg0)) i := by
  funext k
  show iblk m c 0 t (ix2 r k) = m ((c : Thread nD τ).loc main_arg0) (ix2 i k)
  blk_ext [iblk, V, (idx t).1]
  exact hi.symm

/-- The block of argument 1, at every point, is the whole argument. -/
theorem iblk1 (t : Fin cfg0.N) : iblk m c 1 t = m ((c : Thread nD τ).loc main_arg1) := by
  funext y; blk_ext [iblk, V, idx t]
/-- The block of argument 2, at every point, is the whole argument. -/
theorem iblk2 (t : Fin cfg0.N) : iblk m c 2 t = m ((c : Thread nD τ).loc main_arg2) := by
  funext y; blk_ext [iblk, V, idx t]
/-- The block of argument 3, at every point, is the whole argument. -/
theorem iblk3 (t : Fin cfg0.N) : iblk m c 3 t = m ((c : Thread nD τ).loc main_arg3) := by
  funext y; blk_ext [iblk, V, idx t]
/-- The block of argument 4, at every point, is the whole argument. -/
theorem iblk4 (t : Fin cfg0.N) : iblk m c 4 t = m ((c : Thread nD τ).loc main_arg4) := by
  funext y; blk_ext [iblk, V, idx t]
/-- The block of argument 5, at every point, is the whole argument. -/
theorem iblk5 (t : Fin cfg0.N) : iblk m c 5 t = m ((c : Thread nD τ).loc main_arg5) := by
  funext y; blk_ext [iblk, V, idx t]

/-- The weights kept between points: the converted weights, from the first point on. -/
theorem kept (t : Fin cfg0.N) : (outsAt0 (F := Ideal) m c t.val t.isLt).2.2.2.2 = k0_pay1 (F := Ideal) (m ((c : Thread nD τ).loc main_arg3)) := by
  refine Pipeline.eq_of_write_hold (fun n h => (outsAt0 (F := Ideal) m c n h).2.2.2.2) 10 (fun _ => k0_pay1 (F := Ideal) (m ((c : Thread nD τ).loc main_arg3)))
    (fun t h0 => ?_) (fun t h0 => ?_) t
  · rw [outsAt0_A m c t h0]
    frame_out
    rw [iblk3]
  · rw [outsAt0_B m c t h0]
    rfl

/-- The normalized row `i` of the input. -/
def nrow (i : Fin 6400) : Fin 1024 → EReal :=
  lnorm (row (φ := .f32) (m ((c : Thread nD τ).loc main_arg0)) i) (vec (m ((c : Thread nD τ).loc main_arg1))) (vec (m ((c : Thread nD τ).loc main_arg2)))

/-- Output `j` of the projection of row `i`. -/
def prow (i : Fin 6400) (j : Fin 3072) : EReal :=
  linear (nrow m c i) (col (m ((c : Thread nD τ).loc main_arg3)) j) (vec (m ((c : Thread nD τ).loc main_arg4)) j) (vec (m ((c : Thread nD τ).loc main_arg5)) j)

/-- Row `r` of block `t`, normalized, is the normalized row of the array that it is. -/
theorem nrow_blk (t : Fin cfg0.N) (r : Fin 640) (i : Fin 6400) (hi : i.val = t.val * 640 + r.val) :
    lnorm (row (φ := .f32) (iblk m c 0 t) r) (vec (m ((c : Thread nD τ).loc main_arg1))) (vec (m ((c : Thread nD τ).loc main_arg2))) = nrow m c i := by
  rw [iblk0 m c t r i hi]; rfl

/-- What the body leaves in each output's buffer at point `t`, at an index of the block. -/
theorem at6 (t : Fin cfg0.N) (y : S640x1024.Idx) (i : Fin 6400) (hi : i.val = t.val * 640 + (y 0).val) :
    (outsAt0 (F := Ideal) m c t.val t.isLt).1 y = code (nrow m c i) (y 1) := by
  rw [← nrow_blk m c t (y 0) i hi]
  by_cases h0 : t.val % 10 = 0
  · rw [outsAt0_A m c t h0]
    frame_out
    rw [iblk1, iblk2, ValueIdx.eq_ix2 y]
    exact pay7_apply _ _ _ _ _
  · rw [outsAt0_B m c t h0]
    frame_out
    rw [iblk1, iblk2, ValueIdx.eq_ix2 y]
    exact pay7_apply _ _ _ _ _

/-- The scales that a point leaves. -/
theorem at7 (t : Fin cfg0.N) (y : S1x640.Idx) (i : Fin 6400) (hi : i.val = t.val * 640 + (y 1).val) :
    (outsAt0 (F := Ideal) m c t.val t.isLt).2.1 y = scale (nrow m c i) := by
  rw [← nrow_blk m c t (y 1) i hi]
  by_cases h0 : t.val % 10 = 0
  · rw [outsAt0_A m c t h0]
    frame_out
    rw [iblk1, iblk2, ValueIdx.eq_ix2 y]
    exact pay8_apply _ _ _ _ _
  · rw [outsAt0_B m c t h0]
    frame_out
    rw [iblk1, iblk2, ValueIdx.eq_ix2 y]
    exact pay8_apply _ _ _ _ _

/-- The rows of the projection that a point leaves. -/
theorem at8 (t : Fin cfg0.N) (y : S640x3072.Idx) (i : Fin 6400) (hi : i.val = t.val * 640 + (y 0).val) :
    (outsAt0 (F := Ideal) m c t.val t.isLt).2.2.1 y = prow m c i (y 1) := by
  unfold prow
  rw [← nrow_blk m c t (y 0) i hi]
  by_cases h0 : t.val % 10 = 0
  · rw [outsAt0_A m c t h0, iblk1, iblk2, iblk3, iblk4, iblk5]
    dsimp only
    frame_out
    simp (disch := decide) only [View.readCov_fill, read_unread_whole]
    canon_tiles p h
    all_goals exact chunk (iblk m c 0 t) (m ((c : Thread nD τ).loc main_arg1)) (m ((c : Thread nD τ).loc main_arg2)) (m ((c : Thread nD τ).loc main_arg3)) (m ((c : Thread nD τ).loc main_arg4)) (m ((c : Thread nD τ).loc main_arg5)) _ _ _ (y 0) (y 1) p (by omega) (by omega)
  · rw [outsAt0_B m c t h0, kept m c ⟨t.val - 1, Nat.lt_of_le_of_lt (Nat.sub_le _ _) t.isLt⟩, iblk1, iblk2, iblk3, iblk4, iblk5]
    dsimp only
    frame_out
    simp (disch := decide) only [View.readCov_fill, read_unread_whole]
    canon_tiles p h
    all_goals exact chunk (iblk m c 0 t) (m ((c : Thread nD τ).loc main_arg1)) (m ((c : Thread nD τ).loc main_arg2)) (m ((c : Thread nD τ).loc main_arg3)) (m ((c : Thread nD τ).loc main_arg4)) (m ((c : Thread nD τ).loc main_arg5)) _ _ _ (y 0) (y 1) p (by omega) (by omega)

/-- The columns of the transposed keys that a point leaves. -/
theorem at9 (t : Fin cfg0.N) (y : S1024x640.Idx) (i : Fin 6400) (j : Fin 3072) (hi : i.val = t.val * 640 + (y 1).val) (hj : j.val = 1024 + (y 0).val) :
    (outsAt0 (F := Ideal) m c t.val t.isLt).2.2.2.1 y = prow m c i j := by
  unfold prow
  rw [← nrow_blk m c t (y 1) i hi]
  by_cases h0 : t.val % 10 = 0
  · rw [outsAt0_A m c t h0, iblk1, iblk2, iblk3, iblk4, iblk5]
    dsimp only
    frame_out
    simp (disch := decide) only [View.readCov_fill, read_unread_whole]
    canon_tiles p h
    all_goals exact chunkT (iblk m c 0 t) (m ((c : Thread nD τ).loc main_arg1)) (m ((c : Thread nD τ).loc main_arg2)) (m ((c : Thread nD τ).loc main_arg3)) (m ((c : Thread nD τ).loc main_arg4)) (m ((c : Thread nD τ).loc main_arg5)) _ _ _ (y 1) j p (by omega) (by omega)
  · rw [outsAt0_B m c t h0, kept m c ⟨t.val - 1, Nat.lt_of_le_of_lt (Nat.sub_le _ _) t.isLt⟩, iblk1, iblk2, iblk3, iblk4, iblk5]
    dsimp only
    frame_out
    simp (disch := decide) only [View.readCov_fill, read_unread_whole]
    canon_tiles p h
    all_goals exact chunkT (iblk m c 0 t) (m ((c : Thread nD τ).loc main_arg1)) (m ((c : Thread nD τ).loc main_arg2)) (m ((c : Thread nD τ).loc main_arg3)) (m ((c : Thread nD τ).loc main_arg4)) (m ((c : Thread nD τ).loc main_arg5)) _ _ _ (y 1) j p (by omega) (by omega)

/-- The codes after the run. -/
theorem final6 : (dats m 0 c).arrAt 6 cfg0.N = fun y : S6400x1024.Idx => code (nrow m c (y 0)) (y 1) := by
  refine (dats m 0 c).arrAt_eq_of_covers 6 _ (by decide +kernel) fun t hf y => ?_
  have h := idx t
  rw [show ((cfg0.win 6).blk t).view.emb y 1 = y 1 from Fin.ext (by blk_simp [h])]
  blk_simp
  rw [after0_6]
  exact at6 m c t y _ (by blk_simp [h])

/-- The scales after the run. -/
theorem final7 : (dats m 0 c).arrAt 7 cfg0.N = fun y : S1x6400.Idx => scale (nrow m c (y 1)) := by
  refine (dats m 0 c).arrAt_eq_of_covers 7 _ (by decide +kernel) fun t hf y => ?_
  have h := idx t
  blk_simp
  rw [after0_7]
  exact at7 m c t y _ (by blk_simp [h])

/-- The projection after the run. -/
theorem final8 : (dats m 0 c).arrAt 8 cfg0.N = fun y : S6400x3072.Idx => prow m c (y 0) (y 1) := by
  refine (dats m 0 c).arrAt_eq_of_covers 8 _ (by decide +kernel) fun t hf y => ?_
  have h := idx t
  rw [show ((cfg0.win 8).blk t).view.emb y 1 = y 1 from Fin.ext (by blk_simp [h])]
  blk_simp
  rw [after0_8]
  exact at8 m c t y _ (by blk_simp [h])

/-- The transposed keys after the run. -/
theorem final9 : (dats m 0 c).arrAt 9 cfg0.N = fun y : S1024x6400.Idx => prow m c (y 1) ⟨1024 + (y 0).val, by have : (y 0).val < 1024 := (y 0).isLt; omega⟩ := by
  refine (dats m 0 c).arrAt_eq_of_covers 9 _ (by decide +kernel) fun t hf y => ?_
  have h := idx t
  blk_simp
  rw [after0_9]
  exact at9 m c t y _ _ (by blk_simp [h]) (by blk_simp [h])

end Grid

end Cert.QkvWinKer

end
-- ==== Proof.QkvGrid.lean ====
/- The global block's first projection over its grid: what each block leaves in the outputs, and the outputs after the run. -/
module

public import proofs.«01_k».proof.Proof.QkvKer
public import Idealize.ShloMosaic.Lib.Pipeline.ValueKit
public import Idealize.ShloMosaic.Lib.Pipeline.ValueKit.Held
public import Idealize.ShloMosaic.Lib.Pipeline.ReadBack

@[expose] public section

set_option maxRecDepth 16384

noncomputable section

namespace Cert.QkvKer

open Idealize.ShloMosaic hiding ix1 ix2
open Idealize.ShloMosaic.TcCoe Idealize.ShloMosaic.ValueIdx Cert.Rows Cert.Vecs
open Cert.QkvGlbIdeal Cert.QkvGlbIdeal.Gen

section Grid

variable (m : (ℓ : Loc nD τ sig) → Buf (Elt Ideal) ℓ) (c : Dev nD)

/-- Where the windows' blocks lie: block `t` of the row-blocked windows, the whole array for the others. -/
theorem idx : ∀ t : Fin grid0.N, win0_0.index t = ![t.val, 0] ∧ win0_1.index t = ![0] ∧ win0_2.index t = ![0] ∧ win0_3.index t = ![0, 0]
    ∧ win0_4.index t = ![0] ∧ win0_5.index t = ![0] ∧ win0_6.index t = ![t.val, 0] ∧ win0_7.index t = ![0, t.val]
    ∧ win0_8.index t = ![t.val, 0] ∧ win0_9.index t = ![0, t.val] := by decide +kernel

/-- Block `t` of the input is rows `640 t` and on. -/
theorem iblk0 (t : Fin cfg0.N) (r : Fin 640) (i : Fin 6400) (hi : i.val = t.val * 640 + r.val) :
    row (φ := .f32) (iblk m c 0 t) r = row (φ := .f32) (m ((c : Thread nD τ).loc main_arg0)) i := by
  funext k
  show iblk m c 0 t (ix2 r k) = m ((c : Thread nD τ).loc main_arg0) (ix2 i k)
  blk_ext [iblk, V, (idx t).1]
  exact hi.symm

/-- The block of argument 1, at every point, is the whole argument. -/
theorem iblk1 (t : Fin cfg0.N) : iblk m c 1 t = m ((c : Thread nD τ).loc main_arg1) := by
  funext y; blk_ext [iblk, V, idx t]
/-- The block of argument 2, at every point, is the whole argument. -/
theorem iblk2 (t : Fin cfg0.N) : iblk m c 2 t = m ((c : Thread nD τ).loc main_arg2) := by
  funext y; blk_ext [iblk, V, idx t]
/-- The block of argument 3, at every point, is the whole argument. -/
theorem iblk3 (t : Fin cfg0.N) : iblk m c 3 t = m ((c : Thread nD τ).loc main_arg3) := by
  funext y; blk_ext [iblk, V, idx t]
/-- The block of argument 4, at every point, is the whole argument. -/
theorem iblk4 (t : Fin cfg0.N) : iblk m c 4 t = m ((c : Thread nD τ).loc main_arg4) := by
  funext y; blk_ext [iblk, V, idx t]
/-- The block of argument 5, at every point, is the whole argument. -/
theorem iblk5 (t : Fin cfg0.N) : iblk m c 5 t = m ((c : Thread nD τ).loc main_arg5) := by
  funext y; blk_ext [iblk, V, idx t]

/-- The weights kept between points: the converted weights, from the first point on. -/
theorem kept (t : Fin cfg0.N) : (outsAt0 (F := Ideal) m c t.val t.isLt).2.2.2.2 = k0_pay1 (F := Ideal) (m ((c : Thread nD τ).loc main_arg3)) := by
  refine Pipeline.eq_of_write_hold (fun n h => (outsAt0 (F := Ideal) m c n h).2.2.2.2) 10 (fun _ => k0_pay1 (F := Ideal) (m ((c : Thread nD τ).loc main_arg3)))
    (fun t h0 => ?_) (fun t h0 => ?_) t
  · rw [outsAt0_A m c t h0]
    frame_out
    rw [iblk3]
  · rw [outsAt0_B m c t h0]
    rfl

/-- The normalized row `i` of the input. -/
def nrow (i : Fin 6400) : Fin 1024 → EReal :=
  lnorm (row (φ := .f32) (m ((c : Thread nD τ).loc main_arg0)) i) (vec (m ((c : Thread nD τ).loc main_arg1))) (vec (m ((c : Thread nD τ).loc main_arg2)))

/-- Output `j` of the projection of row `i`. -/
def prow (i : Fin 6400) (j : Fin 3072) : EReal :=
  linear (nrow m c i) (col (m ((c : Thread nD τ).loc main_arg3)) j) (vec (m ((c : Thread nD τ).loc main_arg4)) j) (vec (m ((c : Thread nD τ).loc main_arg5)) j)

/-- Row `r` of block `t`, normalized, is the normalized row of the array that it is. -/
theorem nrow_blk (t : Fin cfg0.N) (r : Fin 640) (i : Fin 6400) (hi : i.val = t.val * 640 + r.val) :
    lnorm (row (φ := .f32) (iblk m c 0 t) r) (vec (m ((c : Thread nD τ).loc main_arg1))) (vec (m ((c : Thread nD τ).loc main_arg2))) = nrow m c i := by
  rw [iblk0 m c t r i hi]; rfl

/-- What the body leaves in each output's buffer at point `t`, at an index of the block. -/
theorem at6 (t : Fin cfg0.N) (y : S640x1024.Idx) (i : Fin 6400) (hi : i.val = t.val * 640 + (y 0).val) :
    (outsAt0 (F := Ideal) m c t.val t.isLt).1 y = code (nrow m c i) (y 1) := by
  rw [← nrow_blk m c t (y 0) i hi]
  by_cases h0 : t.val % 10 = 0
  · rw [outsAt0_A m c t h0]
    frame_out
    rw [iblk1, iblk2, ValueIdx.eq_ix2 y]
    exact pay7_apply _ _ _ _ _
  · rw [outsAt0_B m c t h0]
    frame_out
    rw [iblk1, iblk2, ValueIdx.eq_ix2 y]
    exact pay7_apply _ _ _ _ _

/-- The scales that a point leaves. -/
theorem at7 (t : Fin cfg0.N) (y : S1x640.Idx) (i : Fin 6400) (hi : i.val = t.val * 640 + (y 1).val) :
    (outsAt0 (F := Ideal) m c t.val t.isLt).2.1 y = scale (nrow m c i) := by
  rw [← nrow_blk m c t (y 1) i hi]
  by_cases h0 : t.val % 10 = 0
  · rw [outsAt0_A m c t h0]
    frame_out
    rw [iblk1, iblk2, ValueIdx.eq_ix2 y]
    exact pay8_apply _ _ _ _ _
  · rw [outsAt0_B m c t h0]
    frame_out
    rw [iblk1, iblk2, ValueIdx.eq_ix2 y]
    exact pay8_apply _ _ _ _ _

/-- The rows of the projection that a point leaves. -/
theorem at8 (t : Fin cfg0.N) (y : S640x3072.Idx) (i : Fin 6400) (hi : i.val = t.val * 640 + (y 0).val) :
    (outsAt0 (F := Ideal) m c t.val t.isLt).2.2.1 y = prow m c i (y 1) := by
  unfold prow
  rw [← nrow_blk m c t (y 0) i hi]
  by_cases h0 : t.val % 10 = 0
  · rw [outsAt0_A m c t h0, iblk1, iblk2, iblk3, iblk4, iblk5]
    dsimp only
    frame_out
    simp (disch := decide) only [View.readCov_fill, read_unread_whole]
    canon_tiles p h
    all_goals exact chunk (iblk m c 0 t) (m ((c : Thread nD τ).loc main_arg1)) (m ((c : Thread nD τ).loc main_arg2)) (m ((c : Thread nD τ).loc main_arg3)) (m ((c : Thread nD τ).loc main_arg4)) (m ((c : Thread nD τ).loc main_arg5)) _ _ _ (y 0) (y 1) p (by omega) (by omega)
  · rw [outsAt0_B m c t h0, kept m c ⟨t.val - 1, Nat.lt_of_le_of_lt (Nat.sub_le _ _) t.isLt⟩, iblk1, iblk2, iblk3, iblk4, iblk5]
    dsimp only
    frame_out
    simp (disch := decide) only [View.readCov_fill, read_unread_whole]
    canon_tiles p h
    all_goals exact chunk (iblk m c 0 t) (m ((c : Thread nD τ).loc main_arg1)) (m ((c : Thread nD τ).loc main_arg2)) (m ((c : Thread nD τ).loc main_arg3)) (m ((c : Thread nD τ).loc main_arg4)) (m ((c : Thread nD τ).loc main_arg5)) _ _ _ (y 0) (y 1) p (by omega) (by omega)

/-- The columns of the transposed keys that a point leaves. -/
theorem at9 (t : Fin cfg0.N) (y : S1024x640.Idx) (i : Fin 6400) (j : Fin 3072) (hi : i.val = t.val * 640 + (y 1).val) (hj : j.val = 1024 + (y 0).val) :
    (outsAt0 (F := Ideal) m c t.val t.isLt).2.2.2.1 y = prow m c i j := by
  unfold prow
  rw [← nrow_blk m c t (y 1) i hi]
  by_cases h0 : t.val % 10 = 0
  · rw [outsAt0_A m c t h0, iblk1, iblk2, iblk3, iblk4, iblk5]
    dsimp only
    frame_out
    simp (disch := decide) only [View.readCov_fill, read_unread_whole]
    canon_tiles p h
    all_goals exact chunkT (iblk m c 0 t) (m ((c : Thread nD τ).loc main_arg1)) (m ((c : Thread nD τ).loc main_arg2)) (m ((c : Thread nD τ).loc main_arg3)) (m ((c : Thread nD τ).loc main_arg4)) (m ((c : Thread nD τ).loc main_arg5)) _ _ _ (y 1) j p (by omega) (by omega)
  · rw [outsAt0_B m c t h0, kept m c ⟨t.val - 1, Nat.lt_of_le_of_lt (Nat.sub_le _ _) t.isLt⟩, iblk1, iblk2, iblk3, iblk4, iblk5]
    dsimp only
    frame_out
    simp (disch := decide) only [View.readCov_fill, read_unread_whole]
    canon_tiles p h
    all_goals exact chunkT (iblk m c 0 t) (m ((c : Thread nD τ).loc main_arg1)) (m ((c : Thread nD τ).loc main_arg2)) (m ((c : Thread nD τ).loc main_arg3)) (m ((c : Thread nD τ).loc main_arg4)) (m ((c : Thread nD τ).loc main_arg5)) _ _ _ (y 1) j p (by omega) (by omega)

/-- The codes after the run. -/
theorem final6 : (dats m 0 c).arrAt 6 cfg0.N = fun y : S6400x1024.Idx => code (nrow m c (y 0)) (y 1) := by
  refine (dats m 0 c).arrAt_eq_of_covers 6 _ (by decide +kernel) fun t hf y => ?_
  have h := idx t
  rw [show ((cfg0.win 6).blk t).view.emb y 1 = y 1 from Fin.ext (by blk_simp [h])]
  blk_simp
  rw [after0_6]
  exact at6 m c t y _ (by blk_simp [h])

/-- The scales after the run. -/
theorem final7 : (dats m 0 c).arrAt 7 cfg0.N = fun y : S1x6400.Idx => scale (nrow m c (y 1)) := by
  refine (dats m 0 c).arrAt_eq_of_covers 7 _ (by decide +kernel) fun t hf y => ?_
  have h := idx t
  blk_simp
  rw [after0_7]
  exact at7 m c t y _ (by blk_simp [h])

/-- The projection after the run. -/
theorem final8 : (dats m 0 c).arrAt 8 cfg0.N = fun y : S6400x3072.Idx => prow m c (y 0) (y 1) := by
  refine (dats m 0 c).arrAt_eq_of_covers 8 _ (by decide +kernel) fun t hf y => ?_
  have h := idx t
  rw [show ((cfg0.win 8).blk t).view.emb y 1 = y 1 from Fin.ext (by blk_simp [h])]
  blk_simp
  rw [after0_8]
  exact at8 m c t y _ (by blk_simp [h])

/-- The transposed keys after the run. -/
theorem final9 : (dats m 0 c).arrAt 9 cfg0.N = fun y : S1024x6400.Idx => prow m c (y 1) ⟨1024 + (y 0).val, by have : (y 0).val < 1024 := (y 0).isLt; omega⟩ := by
  refine (dats m 0 c).arrAt_eq_of_covers 9 _ (by decide +kernel) fun t hf y => ?_
  have h := idx t
  blk_simp
  rw [after0_9]
  exact at9 m c t y _ _ (by blk_simp [h]) (by blk_simp [h])

end Grid

end Cert.QkvKer

end
-- ==== Proof.QkvRef.lean ====
/- The reference of the attention's first projection, read at an index: each of its results is a function of one row
   of the input (Rows.lean). -/
module

public import proofs.«01_k».proof.Proof.Vecs
public import proofs.«01_k».proof.Proof.Gen.RefQkvGlbIdeal.Skeleton

@[expose] public section

set_option maxRecDepth 16384

noncomputable section

namespace Cert.QkvRef

open Idealize.ShloMosaic Idealize.ShloMosaic.ValueIdx Cert.Rows Cert.Vecs
open Cert.RefQkvGlbIdeal Cert.RefQkvGlbIdeal.Gen

variable (x : FVec Ideal S6400x1024 .f32) (g b : FVec Ideal S1024 .f32) (w : IVec S1024x3072 8) (ws wb : FVec Ideal S3072 .f32)

/-- The layer-normalized input. -/
theorem pay4_apply (r : Fin 6400) (k : Fin 1024) :
    k0_pay4 (F := Ideal) x g b (ix2 r k) = lnorm (row x r) (vec g) (vec b) k :=
  lnormOf_apply reduces_S6400x1024_S6400 shapeCasts_S6400_S6400x1 broadcasts_S6400x1_S6400x1024 shapeCasts_S1024_S1x1024
    broadcasts_S1x1024_S6400x1024 x g b r k

/-- The layer-normalized rows. -/
theorem pay4_row (r : Fin 6400) : row (k0_pay4 (F := Ideal) x g b) r = lnorm (row x r) (vec g) (vec b) :=
  funext fun k => pay4_apply x g b r k

/-- Its scales. -/
theorem pay5_apply (r : Fin 6400) : k0_pay5 (F := Ideal) x g b (ix1 r) = scale (lnorm (row x r) (vec g) (vec b)) := by
  rw [← pay4_row]
  exact scaleV_apply reduces_S6400x1024_S6400 (k0_pay4 (F := Ideal) x g b) r

/-- Its codes. -/
theorem pay6_apply (r : Fin 6400) (k : Fin 1024) :
    k0_pay6 (F := Ideal) x g b (ix2 r k) = code (lnorm (row x r) (vec g) (vec b)) k := by
  rw [← pay4_row]
  refine congrArg (Ideal.fptosi 8) (levelV_apply broadcasts_S6400x1_S6400x1024 sitofp_neg127 sitofp_127
    (k0_pay4 (F := Ideal) x g b) (shapeCast S6400x1 (k0_pay5 (F := Ideal) x g b) shapeCasts_S6400_S6400x1) r ?_ k)
  rw [pay4_row]
  exact (castCol _ _ r 0).trans (pay5_apply x g b r)

/-- The projection of the codes. -/
theorem pay1_apply (r : Fin 6400) (j : Fin 3072) :
    k0_pay1 (F := Ideal) (k0_pay5 (F := Ideal) x g b) (k0_pay6 (F := Ideal) x g b) w ws wb (ix2 r j)
      = linear (lnorm (row x r) (vec g) (vec b)) (col w j) (vec ws j) (vec wb j) := by
  refine linearV_apply (φ₁ := .bf16) (φ₂ := .bf16) dot_S6400x1024_S1024x3072_S6400x3072_1_0_0_1_n_n rfl broadcasts_S6400x1_S6400x3072 shapeCasts_S3072_S1x3072
    broadcasts_S1x3072_S6400x3072 (sitofp .bf16 (k0_pay6 (F := Ideal) x g b))
    (shapeCast S6400x1 (k0_pay5 (F := Ideal) x g b) shapeCasts_S6400_S6400x1) (sitofp .bf16 w) ws wb r j _ (col w j) ?_ ?_ ?_
  · intro k
    show (((k0_pay6 (F := Ideal) x g b (ix2 r k)).toInt : ℝ) : EReal) = _
    rw [pay6_apply, toInt_code]
  · exact (castCol _ _ r 0).trans (pay5_apply x g b r)
  · intro k; rfl

/-- The scales as a row. -/
theorem pay2_apply (i : Fin 1) (r : Fin 6400) :
    k0_pay2 (F := Ideal) (k0_pay5 (F := Ideal) x g b) (ix2 i r) = scale (lnorm (row x r) (vec g) (vec b)) :=
  (castRow (k0_pay5 (F := Ideal) x g b) shapeCasts_S6400_S1x6400 i r).trans (pay5_apply x g b r)

/-- The transposed keys: columns 1024 to 2047 of the projection. -/
theorem pay3_apply (j : Fin 1024) (r : Fin 6400) :
    k0_pay3 (F := Ideal) (k0_pay5 (F := Ideal) x g b) (k0_pay6 (F := Ideal) x g b) w ws wb (ix2 j r)
      = linear (lnorm (row x r) (vec g) (vec b)) (col w ⟨1024 + j.val, by omega⟩) (vec ws ⟨1024 + j.val, by omega⟩)
          (vec wb ⟨1024 + j.val, by omega⟩) := by
  unfold k0_pay3
  refine (transp _ transposes_S6400x1024_p1_0_S1024x6400 j r).trans ?_
  refine (sliceCols _ slices_S6400x3072_o0_1024_S6400x1024 r j (by omega)).trans ?_
  exact pay1_apply x g b w ws wb r ⟨1024 + j.val, by omega⟩

end Cert.QkvRef

end
-- ==== Proof.QkvAlg.lean ====
/- The kernel's first projection computes its reference, over the extended reals. -/
module

public import proofs.«01_k».proof.Defs
public import proofs.«01_k».proof.Proof.QkvGrid
public import proofs.«01_k».proof.Proof.QkvRef
public import proofs.«01_k».proof.Proof.Gen.RefQkvGlbIdeal.Value

@[expose] public section

set_option maxRecDepth 16384

noncomputable section

namespace Cert.QkvAlg

open Idealize.ShloMosaic hiding ix1 ix2
open Idealize.ShloMosaic.TcCoe Idealize.SL.Sem Idealize.ShloMosaic.ValueIdx Cert.Rows Cert.Vecs Cert.QkvKer

/-! ## The kernel's run, each result named as a function of the arguments' rows -/

section Kernel

open Cert.QkvGlbIdeal

variable (m : (ℓ : Loc nD τ sig) → Buf (Elt Ideal) ℓ) (ρ : Dev nD → PrngReg)

/-- The run of the kernel: it ends with the four results, as functions of the rows of its arguments. -/
theorem run : θ_run (defs (F := Ideal)) (onTc (τ := τ) (main (F := Ideal))) ⟨m, fun _ => 0, ρ⟩ fun r => ∀ c : Dev nD,
      r.2.mem ((c : Thread nD τ).loc main_v0_0) = (fun y : S6400x1024.Idx => code (nrow m c (y 0)) (y 1))
      ∧ r.2.mem ((c : Thread nD τ).loc main_v0_1) = (fun y : S1x6400.Idx => scale (nrow m c (y 1)))
      ∧ r.2.mem ((c : Thread nD τ).loc main_v0_2) = (fun y : S6400x3072.Idx => prow m c (y 0) (y 1))
      ∧ r.2.mem ((c : Thread nD τ).loc main_v0_3) = (fun y : S1024x6400.Idx => prow m c (y 1) ⟨1024 + (y 0).val, by have : (y 0).val < 1024 := (y 0).isLt; omega⟩)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => by
    obtain ⟨h0, h1, h2, h3, hk⟩ := h c
    exact ⟨h0.trans (final6 m c), h1.trans (final7 m c), h2.trans (final8 m c), h3.trans (final9 m c), hk⟩)
    (Value.run_blocks m ρ)

end Kernel

/-! ## The reference's results, the same functions -/

section Reference

open Cert.RefQkvGlbIdeal Cert.RefQkvGlbIdeal.Gen Cert.RefQkvGlbIdeal.Value

variable (x : FVec Ideal S6400x1024 .f32) (g b : FVec Ideal S1024 .f32) (w : IVec S1024x3072 8) (ws wb : FVec Ideal S3072 .f32)

/-- A shared value, with its loads of whole arguments read: the levels. -/
theorem pay7_eq : k0_pay7 (F := Ideal) x g b w ws wb = k0_pay5 (F := Ideal) x g b := by
  unfold k0_pay7 r0_0 r0_1; simp (disch := decide) only [View.ld_unit_lit]

/-- A shared value, with its loads of whole arguments read: the scales. -/
theorem pay8_eq : k0_pay8 (F := Ideal) x g b w ws wb = k0_pay6 (F := Ideal) x g b := by
  unfold k0_pay8 r0_0 r0_1; simp (disch := decide) only [View.ld_unit_lit]

/-- The codes of the normalized rows. -/
theorem G6_eq : G6 (F := Ideal) x g b w ws wb = fun y => code (lnorm (row x (y 0)) (vec g) (vec b)) (y 1) := by
  funext y
  show k0_pay8 (F := Ideal) x g b w ws wb y = _
  rw [pay8_eq, ValueIdx.eq_ix2 y]
  exact QkvRef.pay6_apply x g b (y 0) (y 1)

/-- Their scales. -/
theorem G7_eq : G7 (F := Ideal) x g b w ws wb = fun y => scale (lnorm (row x (y 1)) (vec g) (vec b)) := by
  funext y
  show k0_pay2 (F := Ideal) (k0_pay7 (F := Ideal) x g b w ws wb) y = _
  rw [pay7_eq, ValueIdx.eq_ix2 y]
  exact QkvRef.pay2_apply x g b (y 0) (y 1)

/-- The projection. -/
theorem G8_eq : G8 (F := Ideal) x g b w ws wb
    = fun y => linear (lnorm (row x (y 0)) (vec g) (vec b)) (col w (y 1)) (vec ws (y 1)) (vec wb (y 1)) := by
  funext y
  show k0_pay1 (F := Ideal) (k0_pay7 (F := Ideal) x g b w ws wb) (k0_pay8 (F := Ideal) x g b w ws wb) w ws wb y = _
  rw [pay7_eq, pay8_eq, ValueIdx.eq_ix2 y]
  exact QkvRef.pay1_apply x g b w ws wb (y 0) (y 1)

/-- The transposed keys. -/
theorem G9_eq : G9 (F := Ideal) x g b w ws wb
    = fun y => linear (lnorm (row x (y 1)) (vec g) (vec b)) (col w ⟨1024 + (y 0).val, by have : (y 0).val < 1024 := (y 0).isLt; omega⟩)
        (vec ws ⟨1024 + (y 0).val, by have : (y 0).val < 1024 := (y 0).isLt; omega⟩)
        (vec wb ⟨1024 + (y 0).val, by have : (y 0).val < 1024 := (y 0).isLt; omega⟩) := by
  funext y
  show k0_pay3 (F := Ideal) (k0_pay7 (F := Ideal) x g b w ws wb) (k0_pay8 (F := Ideal) x g b w ws wb) w ws wb y = _
  rw [pay7_eq, pay8_eq, ValueIdx.eq_ix2 y]
  exact QkvRef.pay3_apply x g b w ws wb (y 0) (y 1)

end Reference

/-- THE CLAIM: from equal arguments the kernel's call and its reference end with equal codes, scales, projection and
    transposed keys. -/
theorem algebraic : Cert.algebraic_QkvGlbIdeal_RefQkvGlbIdeal := by
  intro m g m' g' _ hagree
  refine ⟨_, _, _, _, run m g, (θ_run _ _ _).mono (fun r h c => ?_) (Cert.RefQkvGlbIdeal.Value.run m' g')⟩
  obtain ⟨h0, h1, h2, h3, hk⟩ := h c
  obtain ⟨a0, a1, a2, a3, a4, a5⟩ := hagree c
  rw [G6_eq, a0, a1, a2] at h0
  rw [G7_eq, a0, a1, a2] at h1
  rw [G8_eq, a0, a1, a2, a3, a4, a5] at h2
  rw [G9_eq, a0, a1, a2, a3, a4, a5] at h3
  exact ⟨h0, h1, h2, h3, hk⟩

end Cert.QkvAlg

end
-- ==== Proof.QkvWinAlg.lean ====
/- The windowed block's first projection computes its reference, over the extended reals. -/
module

public import proofs.«01_k».proof.Defs
public import proofs.«01_k».proof.Proof.QkvWinGrid
public import proofs.«01_k».proof.Proof.QkvAlg
public import proofs.«01_k».proof.Proof.Gen.RefQkvWinIdeal.Value

@[expose] public section

set_option maxRecDepth 16384

noncomputable section

namespace Cert.QkvWinAlg

open Idealize.ShloMosaic hiding ix1 ix2
open Idealize.ShloMosaic.TcCoe Idealize.SL.Sem Idealize.ShloMosaic.ValueIdx Cert.Rows Cert.Vecs Cert.QkvWinKer

/-! ## The kernel's run, each result named as a function of the arguments' rows -/

section Kernel

open Cert.QkvWinIdeal

variable (m : (ℓ : Loc nD τ sig) → Buf (Elt Ideal) ℓ) (ρ : Dev nD → PrngReg)

/-- The run of the kernel: it ends with the four results, as functions of the rows of its arguments. -/
theorem run : θ_run (defs (F := Ideal)) (onTc (τ := τ) (main (F := Ideal))) ⟨m, fun _ => 0, ρ⟩ fun r => ∀ c : Dev nD,
      r.2.mem ((c : Thread nD τ).loc main_v0_0) = (fun y : S6400x1024.Idx => code (nrow m c (y 0)) (y 1))
      ∧ r.2.mem ((c : Thread nD τ).loc main_v0_1) = (fun y : S1x6400.Idx => scale (nrow m c (y 1)))
      ∧ r.2.mem ((c : Thread nD τ).loc main_v0_2) = (fun y : S6400x3072.Idx => prow m c (y 0) (y 1))
      ∧ r.2.mem ((c : Thread nD τ).loc main_v0_3) = (fun y : S1024x6400.Idx => prow m c (y 1) ⟨1024 + (y 0).val, by have : (y 0).val < 1024 := (y 0).isLt; omega⟩)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => by
    obtain ⟨h0, h1, h2, h3, hk⟩ := h c
    exact ⟨h0.trans (final6 m c), h1.trans (final7 m c), h2.trans (final8 m c), h3.trans (final9 m c), hk⟩)
    (Value.run_blocks m ρ)

end Kernel

/-! ## The reference's results: over the extended reals, those of the global block's reference -/

section Reference

open Cert.RefQkvWinIdeal Cert.RefQkvWinIdeal.Gen Cert.RefQkvWinIdeal.Value

variable (x : FVec Ideal S6400x1024 .bf16) (g b : FVec Ideal S1024 .f32) (w : IVec S1024x3072 8) (ws wb : FVec Ideal S3072 .f32)

/-- The codes of the normalized rows. -/
theorem G6_eq : G6 (F := Ideal) x g b w ws wb = fun y => code (lnorm (row (φ := .f32) x (y 0)) (vec g) (vec b)) (y 1) :=
  QkvAlg.G6_eq x g b w ws wb

/-- Their scales. -/
theorem G7_eq : G7 (F := Ideal) x g b w ws wb = fun y => scale (lnorm (row (φ := .f32) x (y 1)) (vec g) (vec b)) :=
  QkvAlg.G7_eq x g b w ws wb

/-- The projection. -/
theorem G8_eq : G8 (F := Ideal) x g b w ws wb
    = fun y => linear (lnorm (row (φ := .f32) x (y 0)) (vec g) (vec b)) (col w (y 1)) (vec ws (y 1)) (vec wb (y 1)) :=
  QkvAlg.G8_eq x g b w ws wb

/-- The transposed keys. -/
theorem G9_eq : G9 (F := Ideal) x g b w ws wb
    = fun y => linear (lnorm (row (φ := .f32) x (y 1)) (vec g) (vec b)) (col w ⟨1024 + (y 0).val, by have : (y 0).val < 1024 := (y 0).isLt; omega⟩)
        (vec ws ⟨1024 + (y 0).val, by have : (y 0).val < 1024 := (y 0).isLt; omega⟩)
        (vec wb ⟨1024 + (y 0).val, by have : (y 0).val < 1024 := (y 0).isLt; omega⟩) :=
  QkvAlg.G9_eq x g b w ws wb

end Reference

/-- THE CLAIM: from equal arguments the kernel's call and its reference end with equal codes, scales, projection and
    transposed keys. -/
theorem algebraic : Cert.algebraic_QkvWinIdeal_RefQkvWinIdeal := by
  intro m g m' g' _ hagree
  refine ⟨_, _, _, _, run m g, (θ_run _ _ _).mono (fun r h c => ?_) (Cert.RefQkvWinIdeal.Value.run m' g')⟩
  obtain ⟨h0, h1, h2, h3, hk⟩ := h c
  obtain ⟨a0, a1, a2, a3, a4, a5⟩ := hagree c
  rw [G6_eq, a0, a1, a2] at h0
  rw [G7_eq, a0, a1, a2] at h1
  rw [G8_eq, a0, a1, a2, a3, a4, a5] at h2
  rw [G9_eq, a0, a1, a2, a3, a4, a5] at h3
  exact ⟨h0, h1, h2, h3, hk⟩

end Cert.QkvWinAlg

end
-- ==== Proof.MlpKer.lean ====
/- One block of the kernel's projection with the MLP, read at an index: 256 rows of the attention's output and of the
   block's input. Each payload is one of the functions of those rows in Vecs.lean. -/
module

public import proofs.«01_k».proof.Proof.Vecs
public import proofs.«01_k».proof.Proof.Gen.MlpGlbIdeal.Skeleton
public import Idealize.ShloMosaic.Lib.Pipeline.ValueKit

@[expose] public section

set_option maxRecDepth 16384

noncomputable section

namespace Cert.MlpKer

open Idealize.ShloMosaic hiding ix1 ix2
open Idealize.ShloMosaic.ValueIdx Cert.Rows Cert.Vecs
open Cert.MlpGlbIdeal Cert.MlpGlbIdeal.Gen

/-! ## The residual around the attention and its layer normalization -/

section Head

variable (o x : FVec Ideal S256x1024 .f32) (wp : IVec S1024x1024 8) (wps bp g b : FVec Ideal S1024 .f32)

/-- The scales of the attention's output. -/
theorem pay5_apply (r : Fin 256) (i : Fin 1) : k0_pay5 (F := Ideal) o (ix2 r i) = scale (row o r) :=
  scaleC_apply reduces_S256x1024_S256 o shapeCasts_S256_S256x1 r i

/-- Its levels. -/
theorem pay6_apply (r : Fin 256) (k : Fin 1024) : k0_pay6 (F := Ideal) o (ix2 r k) = qrow (row o r) k :=
  levelV_apply broadcasts_S256x1_S256x1024 rfl rfl o (k0_pay5 (F := Ideal) o) r (pay5_apply o r 0) k

/-- Its codes. -/
theorem pay7_apply (r : Fin 256) (k : Fin 1024) : k0_pay7 (F := Ideal) o (ix2 r k) = code (row o r) k :=
  congrArg (Ideal.fptosi 8) (pay6_apply o r k)

/-- The row of its scales. -/
theorem pay8_apply (i : Fin 1) (r : Fin 256) : k0_pay8 (F := Ideal) o (ix2 i r) = scale (row o r) :=
  (rowOf_apply (k0_pay5 (F := Ideal) o) shapeCasts_S256x1_S256x1 broadcasts_S256x1_S256x128 transposes_S256x128_p1_0_S128x256
    slices_S128x256_o0_0_S1x256 i r).trans (pay5_apply o r 0)

/-- The projection's weights as numbers. -/
theorem pay2_apply (k : Fin 1024) (j : Fin 1024) : k0_pay2 (F := Ideal) wp (ix2 k j) = (((wp (ix2 k j)).toInt : ℝ) : EReal) :=
  congrFun (castSelf (sitofp (F := Ideal) .bf16 wp) shapeCasts_S1024x1024_S1024x1024) (ix2 k j)

/-- The residual around the attention. -/
@[reducible] def hV : FVec Ideal S256x1024 .f32 :=
  k0_pay12 (F := Ideal) (k0_pay5 (F := Ideal) o) x (k0_pay9 (F := Ideal) wps) (k0_pay10 (F := Ideal) bp)
    (k0_pay11 (F := Ideal) o (k0_pay2 (F := Ideal) wp))

/-- Its rows: the residual sum with the output projection. -/
theorem hV_row (r : Fin 256) : row (hV o x wp wps bp) r = hRow (row o r) (row x r) wp wps bp := funext fun j =>
  congrArg (x (ix2 r j) + ·) (linearV_apply (φ₁ := .bf16) (φ₂ := .bf16) dot_S256x1024_S1024x1024_S256x1024_1_0_0_1_n_n rfl
    broadcasts_S256x1_S256x1024 shapeCasts_S1024_S1x1024 broadcasts_S1x1024_S256x1024 (k0_pay6 (F := Ideal) o)
    (k0_pay5 (F := Ideal) o) (k0_pay2 (F := Ideal) wp) wps bp r j _ (col wp j) (fun k => pay6_apply o r k) (pay5_apply o r 0)
    (fun k => pay2_apply wp k j))

/-- Its layer normalization. -/
@[reducible] def nV : FVec Ideal S256x1024 .f32 :=
  k0_pay13 (F := Ideal) (k0_pay5 (F := Ideal) o) x (k0_pay9 (F := Ideal) wps) (k0_pay10 (F := Ideal) bp)
    (k0_pay11 (F := Ideal) o (k0_pay2 (F := Ideal) wp)) g b

/-- Its rows: the second layer normalization. -/
theorem nV_row (r : Fin 256) : row (nV o x wp wps bp g b) r = nRow (row o r) (row x r) wp wps bp g b := by
  refine Eq.trans ?_ (congrArg (fun v => lnorm v (vec g) (vec b)) (hV_row o x wp wps bp r))
  exact funext fun k => lnormOf_apply reduces_S256x1024_S256 shapeCasts_S256_S256x1 broadcasts_S256x1_S256x1024 shapeCasts_S1024_S1x1024
    broadcasts_S1x1024_S256x1024 (hV o x wp wps bp) g b r k

/-- Its scales. -/
@[reducible] def sV : FVec Ideal S256x1 .f32 :=
  k0_pay14 (F := Ideal) (k0_pay5 (F := Ideal) o) x (k0_pay9 (F := Ideal) wps) (k0_pay10 (F := Ideal) bp)
    (k0_pay11 (F := Ideal) o (k0_pay2 (F := Ideal) wp)) g b

/-- Its entries: the scales of the normalized rows. -/
theorem sV_apply (r : Fin 256) (i : Fin 1) : sV o x wp wps bp g b (ix2 r i) = scale (nRow (row o r) (row x r) wp wps bp g b) := by
  rw [← nV_row]
  exact scaleC_apply reduces_S256x1024_S256 (nV o x wp wps bp g b) shapeCasts_S256_S256x1 r i

/-- Its levels. -/
@[reducible] def lV : FVec Ideal S256x1024 .f32 :=
  k0_pay15 (F := Ideal) (k0_pay5 (F := Ideal) o) x (k0_pay9 (F := Ideal) wps) (k0_pay10 (F := Ideal) bp)
    (k0_pay11 (F := Ideal) o (k0_pay2 (F := Ideal) wp)) g b

/-- Its entries: the levels of the normalized rows. -/
theorem lV_apply (r : Fin 256) (k : Fin 1024) : lV o x wp wps bp g b (ix2 r k) = qrow (nRow (row o r) (row x r) wp wps bp g b) k := by
  rw [← nV_row]
  refine levelV_apply broadcasts_S256x1_S256x1024 rfl rfl (nV o x wp wps bp g b) (sV o x wp wps bp g b) r ?_ k
  rw [nV_row]
  exact sV_apply o x wp wps bp g b r 0

/-- Its codes. -/
theorem pay16_apply (r : Fin 256) (k : Fin 1024) :
    k0_pay16 (F := Ideal) (lV o x wp wps bp g b) (ix2 r k) = code (nRow (row o r) (row x r) wp wps bp g b) k :=
  congrArg (Ideal.fptosi 8) (lV_apply o x wp wps bp g b r k)

/-- The row of its scales. -/
theorem pay17_apply (i : Fin 1) (r : Fin 256) :
    k0_pay17 (F := Ideal) (sV o x wp wps bp g b) (ix2 i r) = scale (nRow (row o r) (row x r) wp wps bp g b) :=
  (rowOf_apply (sV o x wp wps bp g b) shapeCasts_S256x1_S256x1 broadcasts_S256x1_S256x128 transposes_S256x128_p1_0_S128x256
    slices_S128x256_o0_0_S1x256 i r).trans (sV_apply o x wp wps bp g b r 0)

end Head

/-! ## The hidden rows, in eight chunks of 512 columns

`S` and `L` are the scales and the levels of a block whose row `r` is `v r`. -/

section Hidden

variable (S : FVec Ideal S256x1 .f32) (L : FVec Ideal S256x1024 .f32) (w : IVec S1024x4096 8) (ws wb : FVec Ideal S4096 .f32)
  (v : Fin 256 → Fin 1024 → EReal)

/-- Columns `o` to `o + 511` of the first weight, as numbers. -/
@[reducible] def wC (o : Nat) (h : ∀ a, (![0, o] : Fin 2 → Nat) a + (![1024, 512] : Fin 2 → Nat) a ≤ S1024x4096.size a) :
    FVec Ideal S1024x512 .bf16 :=
  View.ld (Val := Elt Ideal) (e' := .bf16) (k0_pay3 (F := Ideal) w) (Rect.unit (s := S1024x4096) ![0, o] ![1024, 512] h)

/-- Entries `o` to `o + 511` of a vector of 4096. -/
@[reducible] def vC (o : Nat) (h : ∀ a, (![o] : Fin 1 → Nat) a + (![512] : Fin 1 → Nat) a ≤ S4096.size a) : FVec Ideal S512 .f32 :=
  View.ld (Val := Elt Ideal) (e' := .f32) ws (Rect.unit (s := S4096) ![o] ![512] h)

/-- A chunk of the hidden rows as a vector expression. -/
@[reducible] def hidC (o : Nat) (h₁ : ∀ a, (![0, o] : Fin 2 → Nat) a + (![1024, 512] : Fin 2 → Nat) a ≤ S1024x4096.size a)
    (h₂ : ∀ a, (![o] : Fin 1 → Nat) a + (![512] : Fin 1 → Nat) a ≤ S4096.size a) : FVec Ideal S256x512 .f32 :=
  geluV (linearV (φ₁ := .bf16) (φ₂ := .bf16) dot_S256x1024_S1024x512_S256x512_1_0_0_1_n_n broadcasts_S256x1_S256x512
    shapeCasts_S512_S1x512 broadcasts_S1x512_S256x512 L S (wC w o h₁) (vC ws o h₂) (vC wb o h₂))

variable (hS : ∀ r, S (ix2 r 0) = scale (v r)) (hL : ∀ r k, L (ix2 r k) = qrow (v r) k)
include hS hL

/-- 512 hidden numbers of a row, from the place `o` on. -/
theorem hidC_apply (o : Nat) (h₁ : ∀ a, (![0, o] : Fin 2 → Nat) a + (![1024, 512] : Fin 2 → Nat) a ≤ S1024x4096.size a)
    (h₂ : ∀ a, (![o] : Fin 1 → Nat) a + (![512] : Fin 1 → Nat) a ≤ S4096.size a) (r : Fin 256) (q : Fin 512) (ho : o + q.val < 4096) :
    hidC S L w ws wb o h₁ h₂ (ix2 r q) = hidden (v r) (col w) (vec ws) (vec wb) ⟨o + q.val, ho⟩ := by
  refine (geluV_apply _ _).trans (congrArg gelu ?_)
  refine (linearV_apply (φ₁ := .bf16) (φ₂ := .bf16) _ rfl _ _ _ L S _ _ _ r q (v r) (col w ⟨o + q.val, ho⟩) (hL r) (hS r) (fun k => ?_)).trans ?_
  · refine (View.ld_unit_apply_of _ _ _ _ _ (ix2 k ⟨o + q.val, ho⟩) fun a => ?_).trans
      (congrFun (castSelf (sitofp (F := Ideal) .bf16 w) shapeCasts_S1024x4096_S1024x4096) (ix2 k ⟨o + q.val, ho⟩))
    match a with
    | ⟨0, _⟩ => show k.val = 0 + k.val; omega
    | ⟨1, _⟩ => rfl
  · refine congrArg₂ _ (View.ld_unit_apply_of _ _ _ _ _ (ix1 ⟨o + q.val, ho⟩) fun a => ?_)
      (View.ld_unit_apply_of _ _ _ _ _ (ix1 ⟨o + q.val, ho⟩) fun a => ?_)
    all_goals match a with
      | ⟨0, _⟩ => rfl

end Hidden

section Chunks

variable (S : FVec Ideal S256x1 .f32) (L : FVec Ideal S256x1024 .f32) (w : IVec S1024x4096 8) (ws wb : FVec Ideal S4096 .f32)

/-- The hidden chunks as the kernel's payloads spell them. -/
@[reducible] def H0 : FVec Ideal S256x512 .f32 :=
  k0_pay19 (F := Ideal) S L (wC w 0 inb_S1024x4096_S1024x512_0_0) (vC ws 0 inb_S4096_S512_0) (vC wb 0 inb_S4096_S512_0)
@[reducible] def H1 : FVec Ideal S256x512 .f32 :=
  k0_pay23 (F := Ideal) S (k0_pay18 (F := Ideal) L) (wC w 512 inb_S1024x4096_S1024x512_0_512) (vC ws 512 inb_S4096_S512_512) (vC wb 512 inb_S4096_S512_512)
@[reducible] def H2 : FVec Ideal S256x512 .f32 :=
  k0_pay30 (F := Ideal) (k0_pay26 (F := Ideal) (vC ws 1024 inb_S4096_S512_1024)) (k0_pay27 (F := Ideal) (vC wb 1024 inb_S4096_S512_1024))
    (k0_pay28 (F := Ideal) (k0_pay18 (F := Ideal) L) (wC w 1024 inb_S1024x4096_S1024x512_0_1024)) (k0_pay29 (F := Ideal) S)
/-- The two factors of chunk 3. -/
@[reducible] def H3a : FVec Ideal S256x512 .f32 :=
  k0_pay34 (F := Ideal) S (k0_pay18 (F := Ideal) L) (wC w 1536 inb_S1024x4096_S1024x512_0_1536) (vC ws 1536 inb_S4096_S512_1536) (vC wb 1536 inb_S4096_S512_1536)
@[reducible] def H3b : FVec Ideal S256x512 .f32 :=
  k0_pay35 (F := Ideal) S (k0_pay18 (F := Ideal) L) (wC w 1536 inb_S1024x4096_S1024x512_0_1536) (vC ws 1536 inb_S4096_S512_1536) (vC wb 1536 inb_S4096_S512_1536)
@[reducible] def H3 : FVec Ideal S256x512 .f32 :=
  k0_pay37 (F := Ideal) (H3a S L w ws wb) (H3b S L w ws wb) (k0_pay36 (F := Ideal))
@[reducible] def H4 : FVec Ideal S256x512 .f32 :=
  k0_pay39 (F := Ideal) S (k0_pay18 (F := Ideal) L) (wC w 2048 inb_S1024x4096_S1024x512_0_2048) (vC ws 2048 inb_S4096_S512_2048) (vC wb 2048 inb_S4096_S512_2048)
@[reducible] def H5 : FVec Ideal S256x512 .f32 :=
  k0_pay42 (F := Ideal) S (k0_pay18 (F := Ideal) L) (wC w 2560 inb_S1024x4096_S1024x512_0_2560) (vC ws 2560 inb_S4096_S512_2560) (vC wb 2560 inb_S4096_S512_2560)
@[reducible] def H6 : FVec Ideal S256x512 .f32 :=
  k0_pay46 (F := Ideal) S (k0_pay18 (F := Ideal) L) (wC w 3072 inb_S1024x4096_S1024x512_0_3072) (k0_pay45 (F := Ideal) (vC ws 3072 inb_S4096_S512_3072)) (vC wb 3072 inb_S4096_S512_3072)
/-- The linear layer of chunk 7, and its half. -/
@[reducible] def H7a : FVec Ideal S256x512 .f32 :=
  k0_pay49 (F := Ideal) S (k0_pay18 (F := Ideal) L) (wC w 3584 inb_S1024x4096_S1024x512_0_3584) (vC ws 3584 inb_S4096_S512_3584) (vC wb 3584 inb_S4096_S512_3584)
@[reducible] def H7b : FVec Ideal S256x512 .f32 :=
  k0_pay50 (F := Ideal) S (k0_pay18 (F := Ideal) L) (wC w 3584 inb_S1024x4096_S1024x512_0_3584) (vC ws 3584 inb_S4096_S512_3584) (vC wb 3584 inb_S4096_S512_3584)
@[reducible] def H7 : FVec Ideal S256x512 .f32 :=
  k0_pay52 (F := Ideal) (H7a S L w ws wb) (H7b S L w ws wb) (k0_pay51 (F := Ideal))

/-- The running greatest absolute values, lane by lane, after the chunk named. -/
@[reducible] def A1 : FVec Ideal S256x128 .f32 :=
  k0_pay25 (F := Ideal) S (k0_pay18 (F := Ideal) L)
    (k0_pay21 (F := Ideal) S L (wC w 0 inb_S1024x4096_S1024x512_0_0) (vC ws 0 inb_S4096_S512_0) (vC wb 0 inb_S4096_S512_0))
    (k0_pay22 (F := Ideal) S L (wC w 0 inb_S1024x4096_S1024x512_0_0) (vC ws 0 inb_S4096_S512_0) (vC wb 0 inb_S4096_S512_0))
    (wC w 512 inb_S1024x4096_S1024x512_0_512) (vC ws 512 inb_S4096_S512_512) (vC wb 512 inb_S4096_S512_512)
@[reducible] def A2 : FVec Ideal S256x128 .f32 :=
  k0_pay32 (F := Ideal) (A1 S L w ws wb) (k0_pay26 (F := Ideal) (vC ws 1024 inb_S4096_S512_1024)) (k0_pay27 (F := Ideal) (vC wb 1024 inb_S4096_S512_1024))
    (k0_pay28 (F := Ideal) (k0_pay18 (F := Ideal) L) (wC w 1024 inb_S1024x4096_S1024x512_0_1024)) (k0_pay29 (F := Ideal) S)
@[reducible] def A4 : FVec Ideal S256x128 .f32 :=
  k0_pay41 (F := Ideal) S (k0_pay18 (F := Ideal) L) (A2 S L w ws wb) (H3a S L w ws wb) (H3b S L w ws wb) (k0_pay36 (F := Ideal))
    (wC w 2048 inb_S1024x4096_S1024x512_0_2048) (vC ws 2048 inb_S4096_S512_2048) (vC wb 2048 inb_S4096_S512_2048)
@[reducible] def A5 : FVec Ideal S256x128 .f32 :=
  k0_pay44 (F := Ideal) S (k0_pay18 (F := Ideal) L) (H4 S L w ws wb) (A4 S L w ws wb)
    (wC w 2560 inb_S1024x4096_S1024x512_0_2560) (vC ws 2560 inb_S4096_S512_2560) (vC wb 2560 inb_S4096_S512_2560)
@[reducible] def A6 : FVec Ideal S256x128 .f32 :=
  k0_pay48 (F := Ideal) S (k0_pay18 (F := Ideal) L) (A5 S L w ws wb)
    (wC w 3072 inb_S1024x4096_S1024x512_0_3072) (k0_pay45 (F := Ideal) (vC ws 3072 inb_S4096_S512_3072)) (vC wb 3072 inb_S4096_S512_3072)
/-- The scales of the hidden rows. -/
@[reducible] def S3 : FVec Ideal S256x1 .f32 :=
  k0_pay54 (F := Ideal) (A6 S L w ws wb) (H7a S L w ws wb) (H7b S L w ws wb) (k0_pay51 (F := Ideal))

variable (v : Fin 256 → Fin 1024 → EReal) (hS : ∀ r, S (ix2 r 0) = scale (v r)) (hL : ∀ r k, L (ix2 r k) = qrow (v r) k)
include hS hL

/-- Chunk 0 of the hidden rows, before it is stored. -/
theorem H0_apply (r : Fin 256) (q : Fin 512) : H0 S L w ws wb (ix2 r q) = hidden (v r) (col w) (vec ws) (vec wb) ⟨512 * 0 + q.val, by omega⟩ :=
  hidC_apply S L w ws wb v hS hL 0 inb_S1024x4096_S1024x512_0_0 inb_S4096_S512_0 r q (by omega)
/-- Chunk 1 of the hidden rows, before it is stored. -/
theorem H1_apply (r : Fin 256) (q : Fin 512) : H1 S L w ws wb (ix2 r q) = hidden (v r) (col w) (vec ws) (vec wb) ⟨512 * 1 + q.val, by omega⟩ :=
  hidC_apply S L w ws wb v hS hL 512 inb_S1024x4096_S1024x512_0_512 inb_S4096_S512_512 r q (by omega)
/-- Chunk 2 of the hidden rows, before it is stored. -/
theorem H2_apply (r : Fin 256) (q : Fin 512) : H2 S L w ws wb (ix2 r q) = hidden (v r) (col w) (vec ws) (vec wb) ⟨512 * 2 + q.val, by omega⟩ :=
  hidC_apply S L w ws wb v hS hL 1024 inb_S1024x4096_S1024x512_0_1024 inb_S4096_S512_1024 r q (by omega)
/-- Chunk 3 of the hidden rows, before it is stored. -/
theorem H3_apply (r : Fin 256) (q : Fin 512) : H3 S L w ws wb (ix2 r q) = hidden (v r) (col w) (vec ws) (vec wb) ⟨512 * 3 + q.val, by omega⟩ :=
  hidC_apply S L w ws wb v hS hL 1536 inb_S1024x4096_S1024x512_0_1536 inb_S4096_S512_1536 r q (by omega)
/-- Chunk 4 of the hidden rows, before it is stored. -/
theorem H4_apply (r : Fin 256) (q : Fin 512) : H4 S L w ws wb (ix2 r q) = hidden (v r) (col w) (vec ws) (vec wb) ⟨512 * 4 + q.val, by omega⟩ :=
  hidC_apply S L w ws wb v hS hL 2048 inb_S1024x4096_S1024x512_0_2048 inb_S4096_S512_2048 r q (by omega)
/-- Chunk 5 of the hidden rows, before it is stored. -/
theorem H5_apply (r : Fin 256) (q : Fin 512) : H5 S L w ws wb (ix2 r q) = hidden (v r) (col w) (vec ws) (vec wb) ⟨512 * 5 + q.val, by omega⟩ :=
  hidC_apply S L w ws wb v hS hL 2560 inb_S1024x4096_S1024x512_0_2560 inb_S4096_S512_2560 r q (by omega)
/-- Chunk 6 of the hidden rows, before it is stored. -/
theorem H6_apply (r : Fin 256) (q : Fin 512) : H6 S L w ws wb (ix2 r q) = hidden (v r) (col w) (vec ws) (vec wb) ⟨512 * 6 + q.val, by omega⟩ :=
  hidC_apply S L w ws wb v hS hL 3072 inb_S1024x4096_S1024x512_0_3072 inb_S4096_S512_3072 r q (by omega)
/-- Chunk 7 of the hidden rows, before it is stored. -/
theorem H7_apply (r : Fin 256) (q : Fin 512) : H7 S L w ws wb (ix2 r q) = hidden (v r) (col w) (vec ws) (vec wb) ⟨512 * 7 + q.val, by omega⟩ :=
  hidC_apply S L w ws wb v hS hL 3584 inb_S1024x4096_S1024x512_0_3584 inb_S4096_S512_3584 r q (by omega)

omit hS hL in
/-- The running values with the four slices of one more chunk. -/
theorem upto4 (A : FVec Ideal S256x128 .f32) (H : FVec Ideal S256x512 .f32) (r : Fin 256) (l : Fin 128) (u : Fin 4096 → EReal) (k : Nat)
    (hk : k < 8) (hA : Upto u l.val (4 * k) (A (ix2 r l))) (hH : ∀ q : Fin 512, H (ix2 r q) = u ⟨512 * k + q.val, by omega⟩) :
    Upto u l.val (4 * k + 4) (maximumf (maximumf (maximumf (maximumf A
      (absf (extractStridedSlice S256x128 ![0, 0] H slices_S256x512_o0_0_S256x128)))
      (absf (extractStridedSlice S256x128 ![0, 128] H slices_S256x512_o0_128_S256x128)))
      (absf (extractStridedSlice S256x128 ![0, 256] H slices_S256x512_o0_256_S256x128)))
      (absf (extractStridedSlice S256x128 ![0, 384] H slices_S256x512_o0_384_S256x128)) (ix2 r l)) :=
  uptoV _ H slices_S256x512_o0_384_S256x128 r l u (4 * k + 3) k
    (uptoV _ H slices_S256x512_o0_256_S256x128 r l u (4 * k + 2) k
      (uptoV _ H slices_S256x512_o0_128_S256x128 r l u (4 * k + 1) k
        (uptoV A H slices_S256x512_o0_0_S256x128 r l u (4 * k) k hA (by omega) hk (by omega) hH)
        (by omega) hk (by omega) hH)
      (by omega) hk (by omega) hH)
    (by omega) hk (by omega) hH

/-- The running maximum covers the first 1024 hidden numbers. -/
theorem A1_upto (r : Fin 256) (l : Fin 128) : Upto (hidden (v r) (col w) (vec ws) (vec wb)) l.val 8 (A1 S L w ws wb (ix2 r l)) :=
  upto4 _ (H1 S L w ws wb) r l _ 1 (by omega)
    (upto4 (broadcast S256x128 (Scalar.ofBits (F := Ideal) .f32 0x00000000#32)) (H0 S L w ws wb) r l _ 0 (by omega)
      (by
        show Upto _ _ 0 (Ideal.ofBits .f32 0x00000000#32)
        rw [Ideal.ofBits_zero_f32]
        exact Upto.start _ _)
      (H0_apply S L w ws wb v hS hL r))
    (H1_apply S L w ws wb v hS hL r)

/-- The running maximum covers the first 1536 hidden numbers. -/
theorem A2_upto (r : Fin 256) (l : Fin 128) : Upto (hidden (v r) (col w) (vec ws) (vec wb)) l.val 12 (A2 S L w ws wb (ix2 r l)) :=
  upto4 (A1 S L w ws wb) (H2 S L w ws wb) r l _ 2 (by omega) (A1_upto S L w ws wb v hS hL r l) (H2_apply S L w ws wb v hS hL r)

/-- The running maximum covers the first 3072 hidden numbers. -/
theorem A5_upto (r : Fin 256) (l : Fin 128) : Upto (hidden (v r) (col w) (vec ws) (vec wb)) l.val 24 (A5 S L w ws wb (ix2 r l)) :=
  upto4 _ (H5 S L w ws wb) r l _ 5 (by omega)
    (upto4 _ (H4 S L w ws wb) r l _ 4 (by omega)
      (upto4 (A2 S L w ws wb) (H3 S L w ws wb) r l _ 3 (by omega) (A2_upto S L w ws wb v hS hL r l) (H3_apply S L w ws wb v hS hL r))
      (H4_apply S L w ws wb v hS hL r))
    (H5_apply S L w ws wb v hS hL r)

/-- The running maximum covers the first 3584 hidden numbers. -/
theorem A6_upto (r : Fin 256) (l : Fin 128) : Upto (hidden (v r) (col w) (vec ws) (vec wb)) l.val 28 (A6 S L w ws wb (ix2 r l)) :=
  upto4 (A5 S L w ws wb) (H6 S L w ws wb) r l _ 6 (by omega) (A5_upto S L w ws wb v hS hL r l) (H6_apply S L w ws wb v hS hL r)

/-- The scales of the hidden rows. -/
theorem S3_apply (r : Fin 256) (i : Fin 1) : S3 S L w ws wb (ix2 r i) = scale (hidden (v r) (col w) (vec ws) (vec wb)) :=
  scaleLanes_apply _ reduces_S256x128_S256 shapeCasts_S256_S256x1 r i _ fun l =>
    upto4 (A6 S L w ws wb) (H7 S L w ws wb) r l _ 7 (by omega) (A6_upto S L w ws wb v hS hL r l) (H7_apply S L w ws wb v hS hL r)

end Chunks

/-! ## The chunks as they are stored and read back -/

section Stored

variable (S : FVec Ideal S256x1 .f32) (L : FVec Ideal S256x1024 .f32) (w : IVec S1024x4096 8) (ws wb : FVec Ideal S4096 .f32)

@[reducible] def X0 : FVec Ideal S256x512 .f32 :=
  k0_pay20 (F := Ideal) S L (wC w 0 inb_S1024x4096_S1024x512_0_0) (vC ws 0 inb_S4096_S512_0) (vC wb 0 inb_S4096_S512_0)
@[reducible] def X1 : FVec Ideal S256x512 .f32 :=
  k0_pay24 (F := Ideal) S (k0_pay18 (F := Ideal) L) (wC w 512 inb_S1024x4096_S1024x512_0_512) (vC ws 512 inb_S4096_S512_512) (vC wb 512 inb_S4096_S512_512)
@[reducible] def X2 : FVec Ideal S256x512 .f32 :=
  k0_pay31 (F := Ideal) (k0_pay26 (F := Ideal) (vC ws 1024 inb_S4096_S512_1024)) (k0_pay27 (F := Ideal) (vC wb 1024 inb_S4096_S512_1024))
    (k0_pay28 (F := Ideal) (k0_pay18 (F := Ideal) L) (wC w 1024 inb_S1024x4096_S1024x512_0_1024)) (k0_pay29 (F := Ideal) S)
@[reducible] def X3 : FVec Ideal S256x512 .f32 :=
  k0_pay38 (F := Ideal) (H3a S L w ws wb) (H3b S L w ws wb) (k0_pay36 (F := Ideal))
@[reducible] def X4 : FVec Ideal S256x512 .f32 :=
  k0_pay40 (F := Ideal) S (k0_pay18 (F := Ideal) L) (wC w 2048 inb_S1024x4096_S1024x512_0_2048) (vC ws 2048 inb_S4096_S512_2048) (vC wb 2048 inb_S4096_S512_2048)
@[reducible] def X5 : FVec Ideal S256x512 .f32 :=
  k0_pay43 (F := Ideal) S (k0_pay18 (F := Ideal) L) (wC w 2560 inb_S1024x4096_S1024x512_0_2560) (vC ws 2560 inb_S4096_S512_2560) (vC wb 2560 inb_S4096_S512_2560)
@[reducible] def X6 : FVec Ideal S256x512 .f32 :=
  k0_pay47 (F := Ideal) S (k0_pay18 (F := Ideal) L) (wC w 3072 inb_S1024x4096_S1024x512_0_3072) (k0_pay45 (F := Ideal) (vC ws 3072 inb_S4096_S512_3072)) (vC wb 3072 inb_S4096_S512_3072)
@[reducible] def X7 : FVec Ideal S256x512 .f32 :=
  k0_pay53 (F := Ideal) (H7a S L w ws wb) (H7b S L w ws wb) (k0_pay51 (F := Ideal))

variable (v : Fin 256 → Fin 1024 → EReal) (hS : ∀ r, S (ix2 r 0) = scale (v r)) (hL : ∀ r k, L (ix2 r k) = qrow (v r) k)
include hS hL

/-- Chunk 0 of the hidden rows, as it is read back. -/
theorem X0_apply (r : Fin 256) (q : Fin 512) : X0 S L w ws wb (ix2 r q) = hidden (v r) (col w) (vec ws) (vec wb) ⟨512 * 0 + q.val, by omega⟩ :=
  (congrFun (castSelf (H0 S L w ws wb) shapeCasts_S256x512_S256x512) (ix2 r q)).trans (H0_apply S L w ws wb v hS hL r q)
/-- Chunk 1 of the hidden rows, as it is read back. -/
theorem X1_apply (r : Fin 256) (q : Fin 512) : X1 S L w ws wb (ix2 r q) = hidden (v r) (col w) (vec ws) (vec wb) ⟨512 * 1 + q.val, by omega⟩ :=
  (congrFun (castSelf (H1 S L w ws wb) shapeCasts_S256x512_S256x512) (ix2 r q)).trans (H1_apply S L w ws wb v hS hL r q)
/-- Chunk 2 of the hidden rows, as it is read back. -/
theorem X2_apply (r : Fin 256) (q : Fin 512) : X2 S L w ws wb (ix2 r q) = hidden (v r) (col w) (vec ws) (vec wb) ⟨512 * 2 + q.val, by omega⟩ :=
  (congrFun (castSelf (H2 S L w ws wb) shapeCasts_S256x512_S256x512) (ix2 r q)).trans (H2_apply S L w ws wb v hS hL r q)
/-- Chunk 3 of the hidden rows, as it is read back. -/
theorem X3_apply (r : Fin 256) (q : Fin 512) : X3 S L w ws wb (ix2 r q) = hidden (v r) (col w) (vec ws) (vec wb) ⟨512 * 3 + q.val, by omega⟩ :=
  (congrFun (castSelf (H3 S L w ws wb) shapeCasts_S256x512_S256x512) (ix2 r q)).trans (H3_apply S L w ws wb v hS hL r q)
/-- Chunk 4 of the hidden rows, as it is read back. -/
theorem X4_apply (r : Fin 256) (q : Fin 512) : X4 S L w ws wb (ix2 r q) = hidden (v r) (col w) (vec ws) (vec wb) ⟨512 * 4 + q.val, by omega⟩ :=
  (congrFun (castSelf (H4 S L w ws wb) shapeCasts_S256x512_S256x512) (ix2 r q)).trans (H4_apply S L w ws wb v hS hL r q)
/-- Chunk 5 of the hidden rows, as it is read back. -/
theorem X5_apply (r : Fin 256) (q : Fin 512) : X5 S L w ws wb (ix2 r q) = hidden (v r) (col w) (vec ws) (vec wb) ⟨512 * 5 + q.val, by omega⟩ :=
  (congrFun (castSelf (H5 S L w ws wb) shapeCasts_S256x512_S256x512) (ix2 r q)).trans (H5_apply S L w ws wb v hS hL r q)
/-- Chunk 6 of the hidden rows, as it is read back. -/
theorem X6_apply (r : Fin 256) (q : Fin 512) : X6 S L w ws wb (ix2 r q) = hidden (v r) (col w) (vec ws) (vec wb) ⟨512 * 6 + q.val, by omega⟩ :=
  (congrFun (castSelf (H6 S L w ws wb) shapeCasts_S256x512_S256x512) (ix2 r q)).trans (H6_apply S L w ws wb v hS hL r q)
/-- Chunk 7 of the hidden rows, as it is read back. -/
theorem X7_apply (r : Fin 256) (q : Fin 512) : X7 S L w ws wb (ix2 r q) = hidden (v r) (col w) (vec ws) (vec wb) ⟨512 * 7 + q.val, by omega⟩ :=
  (congrFun (castSelf (H7 S L w ws wb) shapeCasts_S256x512_S256x512) (ix2 r q)).trans (H7_apply S L w ws wb v hS hL r q)

end Stored

/-! ## The hidden rows' codes and the second linear layer

`S` holds the scales of 256 rows `f r`, whose eight chunks are `X0`, …, `X7`. -/

section Out

variable (S : FVec Ideal S256x1 .f32) (f : Fin 256 → Fin 4096 → EReal) (hS : ∀ r, S (ix2 r 0) = scale (f r))
include hS

/-- The levels of a chunk. -/
theorem level_apply (X : FVec Ideal S256x512 .f32) (k : Nat) (hk : k < 8)
    (hX : ∀ (r : Fin 256) (q : Fin 512), X (ix2 r q) = f r ⟨512 * k + q.val, by omega⟩) (r : Fin 256) (q : Fin 512) :
    levelV broadcasts_S256x1_S256x512 (Scalar.ofBits (F := Ideal) .f32 0xC2FE0000#32) (Scalar.ofBits (F := Ideal) .f32 0x42FE0000#32) X S (ix2 r q)
      = qrow (f r) ⟨512 * k + q.val, by omega⟩ :=
  levelV_entry broadcasts_S256x1_S256x512 X S r q (f r) _ (hS r) (hX r q)

/-- The codes of a chunk, at an index given by its place in the whole row. -/
theorem codes_apply (X : FVec Ideal S256x512 .f32) (k : Nat) (hk : k < 8)
    (hX : ∀ (r : Fin 256) (q : Fin 512), X (ix2 r q) = f r ⟨512 * k + q.val, by omega⟩) (r : Fin 256) (j : Fin 4096) (p : S256x512.Idx)
    (hr : r.val = (p 0).val) (hj : j.val = 512 * k + (p 1).val) :
    fptosi 8 (levelV broadcasts_S256x1_S256x512 (Scalar.ofBits (F := Ideal) .f32 0xC2FE0000#32) (Scalar.ofBits (F := Ideal) .f32 0x42FE0000#32) X S) p
      = code (f r) j := by
  obtain ⟨q, rfl⟩ : ∃ q : Fin 512, p = ix2 r q := ⟨p 1, funext fun a => match a with
    | ⟨0, _⟩ => Fin.ext hr.symm
    | ⟨1, _⟩ => rfl⟩
  rw [show j = ⟨512 * k + q.val, by omega⟩ from Fin.ext hj]
  exact congrArg (Ideal.fptosi 8) (level_apply S f hS X k hk hX r q)

variable (w2 : IVec S4096x1024 8)

/-- Rows `o` to `o + 511` of the second weight, as numbers. -/
@[reducible] def wR (o : Nat) (h : ∀ a, (![o, 0] : Fin 2 → Nat) a + (![512, 1024] : Fin 2 → Nat) a ≤ S4096x1024.size a) :
    FVec Ideal S512x1024 .bf16 :=
  View.ld (Val := Elt Ideal) (e' := .bf16) (k0_pay4 (F := Ideal) w2) (Rect.unit (s := S4096x1024) ![o, 0] ![512, 1024] h)

/-- The levels of a chunk as a vector expression. -/
@[reducible] def levelC (X : FVec Ideal S256x512 .f32) : FVec Ideal S256x512 .f32 :=
  levelV broadcasts_S256x1_S256x512 (Scalar.ofBits (F := Ideal) .f32 0xC2FE0000#32) (Scalar.ofBits (F := Ideal) .f32 0x42FE0000#32) X S

/-- The term of column `k` in output `j` of row `r`. -/
def term (r : Fin 256) (j : Fin 1024) (k : Fin 4096) : EReal := qrow (f r) k * (((col w2 j k).toInt : ℝ) : EReal)

/-- The product of a chunk's levels with its rows of the second weight as a vector expression. -/
@[reducible] def prodC (X : FVec Ideal S256x512 .f32) (o : Nat)
    (h : ∀ a, (![o, 0] : Fin 2 → Nat) a + (![512, 1024] : Fin 2 → Nat) a ≤ S4096x1024.size a) : FVec Ideal S256x1024 .f32 :=
  matmul (F := Ideal) (φ₁ := .bf16) (φ₂ := .bf16) dot_S256x512_S512x1024_S256x1024_1_0_0_1_n_n none (levelC S X) (wR w2 o h)
    (constant S256x1024 .f32 0x00000000#32)

/-- The part of the second product that one chunk contributes. -/
theorem prodC_apply (X : FVec Ideal S256x512 .f32) (k : Nat) (hk : k < 8)
    (hX : ∀ (r : Fin 256) (q : Fin 512), X (ix2 r q) = f r ⟨512 * k + q.val, by omega⟩)
    (o : Nat) (h : ∀ a, (![o, 0] : Fin 2 → Nat) a + (![512, 1024] : Fin 2 → Nat) a ≤ S4096x1024.size a) (ho : o = 512 * k)
    (r : Fin 256) (j : Fin 1024) : prodC S w2 X o h (ix2 r j) = ∑ q : Fin 512, term f w2 r j ⟨512 * k + q.val, by omega⟩ := by
  refine (prod (φ₁ := .bf16) (φ₂ := .bf16) dot_S256x512_S512x1024_S256x1024_1_0_0_1_n_n rfl (levelC S X) (wR w2 o h) r j).trans
    (Finset.sum_congr rfl fun q _ => ?_)
  refine congrArg₂ (· * ·) (level_apply S f hS X k hk hX r q) ?_
  refine (View.ld_unit_apply_of _ _ _ _ _ (ix2 ⟨512 * k + q.val, by omega⟩ j) fun a => ?_).trans
    (congrFun (castSelf (sitofp (F := Ideal) .bf16 w2) shapeCasts_S4096x1024_S4096x1024) (ix2 ⟨512 * k + q.val, by omega⟩ j))
  match a with
  | ⟨0, _⟩ => exact congrArg (· + q.val) ho.symm
  | ⟨1, _⟩ => show j.val = 0 + j.val; omega

/-- One more product added. -/
theorem prodC_step (A : FVec Ideal S256x1024 .f32) (X : FVec Ideal S256x512 .f32) (k : Nat) (hk : k < 8)
    (hX : ∀ (r : Fin 256) (q : Fin 512), X (ix2 r q) = f r ⟨512 * k + q.val, by omega⟩)
    (o : Nat) (h : ∀ a, (![o, 0] : Fin 2 → Nat) a + (![512, 1024] : Fin 2 → Nat) a ≤ S4096x1024.size a) (ho : o = 512 * k)
    (r : Fin 256) (j : Fin 1024) (hA : SumTo (term f w2 r j) k (A (ix2 r j))) :
    SumTo (term f w2 r j) (k + 1) (addf A (prodC S w2 X o h) (ix2 r j)) := by
  show SumTo _ _ (A (ix2 r j) + prodC S w2 X o h (ix2 r j))
  rw [prodC_apply S f hS w2 X k hk hX o h ho r j]
  exact SumTo.step hk hA

variable (X0 X1 X2 X3 X4 X5 X6 X7 : FVec Ideal S256x512 .f32)

/-- The second linear layer's product, scaled by the rows' scales. -/
@[reducible] def accV : FVec Ideal S256x1024 .f32 :=
  k0_pay75 (F := Ideal) S (k0_pay68 (F := Ideal) S (k0_pay62 (F := Ideal) S (levelC S X0) (wR w2 0 inb_S4096x1024_S512x1024_0_0) X1 (wR w2 512 inb_S4096x1024_S512x1024_512_0) X2
    (wR w2 1024 inb_S4096x1024_S512x1024_1024_0)) (k0_pay63 (F := Ideal) S X3) (wR w2 1536 inb_S4096x1024_S512x1024_1536_0) X4 (wR w2 2048 inb_S4096x1024_S512x1024_2048_0))
    (k0_pay69 (F := Ideal) S X5) (wR w2 2560 inb_S4096x1024_S512x1024_2560_0) X6 (wR w2 3072 inb_S4096x1024_S512x1024_3072_0) X7 (wR w2 3584 inb_S4096x1024_S512x1024_3584_0)

variable (hX0 : ∀ (r : Fin 256) (q : Fin 512), X0 (ix2 r q) = f r ⟨512 * 0 + q.val, by omega⟩)
  (hX1 : ∀ (r : Fin 256) (q : Fin 512), X1 (ix2 r q) = f r ⟨512 * 1 + q.val, by omega⟩)
  (hX2 : ∀ (r : Fin 256) (q : Fin 512), X2 (ix2 r q) = f r ⟨512 * 2 + q.val, by omega⟩)
  (hX3 : ∀ (r : Fin 256) (q : Fin 512), X3 (ix2 r q) = f r ⟨512 * 3 + q.val, by omega⟩)
  (hX4 : ∀ (r : Fin 256) (q : Fin 512), X4 (ix2 r q) = f r ⟨512 * 4 + q.val, by omega⟩)
  (hX5 : ∀ (r : Fin 256) (q : Fin 512), X5 (ix2 r q) = f r ⟨512 * 5 + q.val, by omega⟩)
  (hX6 : ∀ (r : Fin 256) (q : Fin 512), X6 (ix2 r q) = f r ⟨512 * 6 + q.val, by omega⟩)
  (hX7 : ∀ (r : Fin 256) (q : Fin 512), X7 (ix2 r q) = f r ⟨512 * 7 + q.val, by omega⟩)
include hX0 hX1 hX2 hX3 hX4 hX5 hX6 hX7

/-- The eight parts together: the second product, times the scale of the hidden row. -/
theorem accV_apply (r : Fin 256) (j : Fin 1024) : accV S w2 X0 X1 X2 X3 X4 X5 X6 X7 (ix2 r j) = (∑ k, term f w2 r j k) * scale (f r) := by
  have h3 : SumTo (term f w2 r j) 3 (k0_pay62 (F := Ideal) S (levelC S X0) (wR w2 0 inb_S4096x1024_S512x1024_0_0) X1 (wR w2 512 inb_S4096x1024_S512x1024_512_0) X2 (wR w2 1024 inb_S4096x1024_S512x1024_1024_0) (ix2 r j)) :=
    prodC_step S f hS w2 _ X2 2 (by omega) hX2 1024 inb_S4096x1024_S512x1024_1024_0 rfl r j (prodC_step S f hS w2 (prodC S w2 X0 0 inb_S4096x1024_S512x1024_0_0) X1 1 (by omega) hX1 512 inb_S4096x1024_S512x1024_512_0 rfl r j
      ((congrArg (SumTo (term f w2 r j) 1) (prodC_apply S f hS w2 X0 0 (by omega) hX0 0 inb_S4096x1024_S512x1024_0_0 rfl r j)).mpr (SumTo.first _)))
  have h5 : SumTo (term f w2 r j) 5 (k0_pay68 (F := Ideal) S (k0_pay62 (F := Ideal) S (levelC S X0) (wR w2 0 inb_S4096x1024_S512x1024_0_0) X1 (wR w2 512 inb_S4096x1024_S512x1024_512_0) X2
      (wR w2 1024 inb_S4096x1024_S512x1024_1024_0)) (k0_pay63 (F := Ideal) S X3) (wR w2 1536 inb_S4096x1024_S512x1024_1536_0) X4 (wR w2 2048 inb_S4096x1024_S512x1024_2048_0) (ix2 r j)) :=
    prodC_step S f hS w2 _ X4 4 (by omega) hX4 2048 inb_S4096x1024_S512x1024_2048_0 rfl r j (prodC_step S f hS w2 _ X3 3 (by omega) hX3 1536 inb_S4096x1024_S512x1024_1536_0 rfl r j h3)
  have h8 : SumTo (term f w2 r j) 8 _ :=
    prodC_step S f hS w2 _ X7 7 (by omega) hX7 3584 inb_S4096x1024_S512x1024_3584_0 rfl r j (prodC_step S f hS w2 _ X6 6 (by omega) hX6 3072 inb_S4096x1024_S512x1024_3072_0 rfl r j (prodC_step S f hS w2 _ X5 5 (by omega) hX5 2560 inb_S4096x1024_S512x1024_2560_0 rfl r j h5))
  exact congrArg₂ (· * ·) h8.all ((bcCol S broadcasts_S256x1_S256x1024 r j).trans (hS r))

/-- The block's output at an index. -/
theorem pay1_apply (h : FVec Ideal S256x1024 .f32) (w2s b2 : FVec Ideal S1024 .f32) (r : Fin 256) (j : Fin 1024) :
    k0_pay1 (F := Ideal) h (accV S w2 X0 X1 X2 X3 X4 X5 X6 X7) (k0_pay76 (F := Ideal) w2s) b2 (ix2 r j)
      = h (ix2 r j) + linear (f r) (col w2 j) (vec w2s j) (vec b2 j) := by
  refine congrArg (h (ix2 r j) + ·) (congrArg₂ (· + ·) (congrArg₂ (· * ·)
    (accV_apply S f hS w2 X0 X1 X2 X3 X4 X5 X6 X7 hX0 hX1 hX2 hX3 hX4 hX5 hX6 hX7 r j) ?_) ?_)
  · exact (bcRow (k0_pay76 (F := Ideal) w2s) broadcasts_S1x1024_S256x1024 r j).trans (castRow w2s shapeCasts_S1024_S1x1024 0 j)
  · exact (bcRow (shapeCast S1x1024 b2 shapeCasts_S1024_S1x1024) broadcasts_S1x1024_S256x1024 r j).trans (castRow b2 shapeCasts_S1024_S1x1024 0 j)

end Out

/-! ## The hidden rows and the output of a block -/

section Block

variable (o x : FVec Ideal S256x1024 .f32) (wp : IVec S1024x1024 8) (wps bp g b : FVec Ideal S1024 .f32) (w1 : IVec S1024x4096 8)
  (w1s b1 : FVec Ideal S4096 .f32) (w2 : IVec S4096x1024 8) (w2s b2 : FVec Ideal S1024 .f32)

/-- The hidden row `r`. -/
@[reducible] def fR (r : Fin 256) : Fin 4096 → EReal := fRow (row o r) (row x r) wp wps bp g b w1 w1s b1

/-- The scales of the hidden rows. -/
@[reducible] def fS : FVec Ideal S256x1 .f32 := S3 (sV o x wp wps bp g b) (lV o x wp wps bp g b) w1 w1s b1

/-- The scales of the block's hidden rows. -/
theorem fS_apply (r : Fin 256) (i : Fin 1) : fS o x wp wps bp g b w1 w1s b1 (ix2 r i) = scale (fR o x wp wps bp g b w1 w1s b1 r) :=
  S3_apply (sV o x wp wps bp g b) (lV o x wp wps bp g b) w1 w1s b1 (fun r => nRow (row o r) (row x r) wp wps bp g b)
    (fun r => sV_apply o x wp wps bp g b r 0) (lV_apply o x wp wps bp g b) r i

/-- The row of those scales. -/
theorem pay55_apply (i : Fin 1) (r : Fin 256) :
    k0_pay55 (F := Ideal) (A6 (sV o x wp wps bp g b) (lV o x wp wps bp g b) w1 w1s b1) (H7a (sV o x wp wps bp g b) (lV o x wp wps bp g b) w1 w1s b1)
      (H7b (sV o x wp wps bp g b) (lV o x wp wps bp g b) w1 w1s b1) (k0_pay51 (F := Ideal)) (ix2 i r) = scale (fR o x wp wps bp g b w1 w1s b1 r) :=
  (rowOf_apply (fS o x wp wps bp g b w1 w1s b1) shapeCasts_S256x1_S256x1 broadcasts_S256x1_S256x128 transposes_S256x128_p1_0_S128x256
    slices_S128x256_o0_0_S1x256 i r).trans (fS_apply o x wp wps bp g b w1 w1s b1 r 0)

/-- Chunk 0 of the block's hidden rows, from the block's arguments. -/
theorem chunk0 (r : Fin 256) (q : Fin 512) : X0 (sV o x wp wps bp g b) (lV o x wp wps bp g b) w1 w1s b1 (ix2 r q) = fR o x wp wps bp g b w1 w1s b1 r ⟨512 * 0 + q.val, by omega⟩ :=
  X0_apply (sV o x wp wps bp g b) (lV o x wp wps bp g b) w1 w1s b1 (fun r => nRow (row o r) (row x r) wp wps bp g b) (fun r => sV_apply o x wp wps bp g b r 0) (lV_apply o x wp wps bp g b) r q
/-- Chunk 1 of the block's hidden rows, from the block's arguments. -/
theorem chunk1 (r : Fin 256) (q : Fin 512) : X1 (sV o x wp wps bp g b) (lV o x wp wps bp g b) w1 w1s b1 (ix2 r q) = fR o x wp wps bp g b w1 w1s b1 r ⟨512 * 1 + q.val, by omega⟩ :=
  X1_apply (sV o x wp wps bp g b) (lV o x wp wps bp g b) w1 w1s b1 (fun r => nRow (row o r) (row x r) wp wps bp g b) (fun r => sV_apply o x wp wps bp g b r 0) (lV_apply o x wp wps bp g b) r q
/-- Chunk 2 of the block's hidden rows, from the block's arguments. -/
theorem chunk2 (r : Fin 256) (q : Fin 512) : X2 (sV o x wp wps bp g b) (lV o x wp wps bp g b) w1 w1s b1 (ix2 r q) = fR o x wp wps bp g b w1 w1s b1 r ⟨512 * 2 + q.val, by omega⟩ :=
  X2_apply (sV o x wp wps bp g b) (lV o x wp wps bp g b) w1 w1s b1 (fun r => nRow (row o r) (row x r) wp wps bp g b) (fun r => sV_apply o x wp wps bp g b r 0) (lV_apply o x wp wps bp g b) r q
/-- Chunk 3 of the block's hidden rows, from the block's arguments. -/
theorem chunk3 (r : Fin 256) (q : Fin 512) : X3 (sV o x wp wps bp g b) (lV o x wp wps bp g b) w1 w1s b1 (ix2 r q) = fR o x wp wps bp g b w1 w1s b1 r ⟨512 * 3 + q.val, by omega⟩ :=
  X3_apply (sV o x wp wps bp g b) (lV o x wp wps bp g b) w1 w1s b1 (fun r => nRow (row o r) (row x r) wp wps bp g b) (fun r => sV_apply o x wp wps bp g b r 0) (lV_apply o x wp wps bp g b) r q
/-- Chunk 4 of the block's hidden rows, from the block's arguments. -/
theorem chunk4 (r : Fin 256) (q : Fin 512) : X4 (sV o x wp wps bp g b) (lV o x wp wps bp g b) w1 w1s b1 (ix2 r q) = fR o x wp wps bp g b w1 w1s b1 r ⟨512 * 4 + q.val, by omega⟩ :=
  X4_apply (sV o x wp wps bp g b) (lV o x wp wps bp g b) w1 w1s b1 (fun r => nRow (row o r) (row x r) wp wps bp g b) (fun r => sV_apply o x wp wps bp g b r 0) (lV_apply o x wp wps bp g b) r q
/-- Chunk 5 of the block's hidden rows, from the block's arguments. -/
theorem chunk5 (r : Fin 256) (q : Fin 512) : X5 (sV o x wp wps bp g b) (lV o x wp wps bp g b) w1 w1s b1 (ix2 r q) = fR o x wp wps bp g b w1 w1s b1 r ⟨512 * 5 + q.val, by omega⟩ :=
  X5_apply (sV o x wp wps bp g b) (lV o x wp wps bp g b) w1 w1s b1 (fun r => nRow (row o r) (row x r) wp wps bp g b) (fun r => sV_apply o x wp wps bp g b r 0) (lV_apply o x wp wps bp g b) r q
/-- Chunk 6 of the block's hidden rows, from the block's arguments. -/
theorem chunk6 (r : Fin 256) (q : Fin 512) : X6 (sV o x wp wps bp g b) (lV o x wp wps bp g b) w1 w1s b1 (ix2 r q) = fR o x wp wps bp g b w1 w1s b1 r ⟨512 * 6 + q.val, by omega⟩ :=
  X6_apply (sV o x wp wps bp g b) (lV o x wp wps bp g b) w1 w1s b1 (fun r => nRow (row o r) (row x r) wp wps bp g b) (fun r => sV_apply o x wp wps bp g b r 0) (lV_apply o x wp wps bp g b) r q
/-- Chunk 7 of the block's hidden rows, from the block's arguments. -/
theorem chunk7 (r : Fin 256) (q : Fin 512) : X7 (sV o x wp wps bp g b) (lV o x wp wps bp g b) w1 w1s b1 (ix2 r q) = fR o x wp wps bp g b w1 w1s b1 r ⟨512 * 7 + q.val, by omega⟩ :=
  X7_apply (sV o x wp wps bp g b) (lV o x wp wps bp g b) w1 w1s b1 (fun r => nRow (row o r) (row x r) wp wps bp g b) (fun r => sV_apply o x wp wps bp g b r 0) (lV_apply o x wp wps bp g b) r q

/-- The codes of a chunk of the hidden rows. -/
theorem hidCodes (X : FVec Ideal S256x512 .f32) (k : Nat) (hk : k < 8)
    (hX : ∀ (r : Fin 256) (q : Fin 512), X (ix2 r q) = fR o x wp wps bp g b w1 w1s b1 r ⟨512 * k + q.val, by omega⟩) (r : Fin 256) (j : Fin 4096) (p : S256x512.Idx)
    (hr : r.val = (p 0).val) (hj : j.val = 512 * k + (p 1).val) :
    fptosi 8 (levelC (fS o x wp wps bp g b w1 w1s b1) X) p = code (fR o x wp wps bp g b w1 w1s b1 r) j :=
  codes_apply (fS o x wp wps bp g b w1 w1s b1) (fR o x wp wps bp g b w1 w1s b1) (fun r => fS_apply o x wp wps bp g b w1 w1s b1 r 0) X k hk hX r j p hr hj

/-- The output. -/
theorem y_apply (r : Fin 256) (j : Fin 1024) :
    k0_pay1 (F := Ideal) (hV o x wp wps bp) (accV (fS o x wp wps bp g b w1 w1s b1) w2
      (X0 (sV o x wp wps bp g b) (lV o x wp wps bp g b) w1 w1s b1)
      (X1 (sV o x wp wps bp g b) (lV o x wp wps bp g b) w1 w1s b1)
      (X2 (sV o x wp wps bp g b) (lV o x wp wps bp g b) w1 w1s b1)
      (X3 (sV o x wp wps bp g b) (lV o x wp wps bp g b) w1 w1s b1)
      (X4 (sV o x wp wps bp g b) (lV o x wp wps bp g b) w1 w1s b1)
      (X5 (sV o x wp wps bp g b) (lV o x wp wps bp g b) w1 w1s b1)
      (X6 (sV o x wp wps bp g b) (lV o x wp wps bp g b) w1 w1s b1)
      (X7 (sV o x wp wps bp g b) (lV o x wp wps bp g b) w1 w1s b1)) (k0_pay76 (F := Ideal) w2s) b2 (ix2 r j)
      = yRow (row o r) (row x r) wp wps bp g b w1 w1s b1 w2 w2s b2 j :=
  (pay1_apply (fS o x wp wps bp g b w1 w1s b1) (fR o x wp wps bp g b w1 w1s b1) (fun r => fS_apply o x wp wps bp g b w1 w1s b1 r 0) w2
    (X0 (sV o x wp wps bp g b) (lV o x wp wps bp g b) w1 w1s b1)
    (X1 (sV o x wp wps bp g b) (lV o x wp wps bp g b) w1 w1s b1)
    (X2 (sV o x wp wps bp g b) (lV o x wp wps bp g b) w1 w1s b1)
    (X3 (sV o x wp wps bp g b) (lV o x wp wps bp g b) w1 w1s b1)
    (X4 (sV o x wp wps bp g b) (lV o x wp wps bp g b) w1 w1s b1)
    (X5 (sV o x wp wps bp g b) (lV o x wp wps bp g b) w1 w1s b1)
    (X6 (sV o x wp wps bp g b) (lV o x wp wps bp g b) w1 w1s b1)
    (X7 (sV o x wp wps bp g b) (lV o x wp wps bp g b) w1 w1s b1)
    (chunk0 o x wp wps bp g b w1 w1s b1)
    (chunk1 o x wp wps bp g b w1 w1s b1)
    (chunk2 o x wp wps bp g b w1 w1s b1)
    (chunk3 o x wp wps bp g b w1 w1s b1)
    (chunk4 o x wp wps bp g b w1 w1s b1)
    (chunk5 o x wp wps bp g b w1 w1s b1)
    (chunk6 o x wp wps bp g b w1 w1s b1)
    (chunk7 o x wp wps bp g b w1 w1s b1)
    (hV o x wp wps bp) w2s b2 r j).trans (congrArg (· + linear _ _ _ _) (congrFun (hV_row o x wp wps bp r) j))

end Block

end Cert.MlpKer

end
-- ==== Proof.MlpWinGrid.lean ====
/- The windowed block's projection with the MLP over its grid: what each block leaves in the outputs, and the outputs after the run. -/
module

public import proofs.«01_k».proof.Proof.MlpKer
public import proofs.«01_k».proof.Proof.Gen.MlpWinIdeal.Value
public import Idealize.ShloMosaic.Lib.Pipeline.ValueKit
public import Idealize.ShloMosaic.Lib.Pipeline.ValueKit.Held
public import Idealize.ShloMosaic.Lib.Pipeline.ReadBack

@[expose] public section

set_option maxRecDepth 16384
set_option maxHeartbeats 2000000

noncomputable section

namespace Cert.MlpWinKer

open Idealize.ShloMosaic hiding ix1 ix2
open Idealize.ShloMosaic.TcCoe Idealize.ShloMosaic.ValueIdx Cert.Rows Cert.Vecs Cert.MlpKer
open Cert.MlpWinIdeal Cert.MlpWinIdeal.Gen

section Grid

variable (m : (ℓ : Loc nD τ sig) → Buf (Elt Ideal) ℓ) (c : Dev nD)

/-- Where the windows' blocks lie: block `t` of the row-blocked windows, the whole array for the others. -/
theorem idx : ∀ t : Fin grid0.N, win0_0.index t = ![t.val, 0] ∧ win0_1.index t = ![t.val, 0] ∧ win0_2.index t = ![0, 0] ∧ win0_3.index t = ![0]
    ∧ win0_4.index t = ![0] ∧ win0_5.index t = ![0] ∧ win0_6.index t = ![0] ∧ win0_7.index t = ![0, 0] ∧ win0_8.index t = ![0]
    ∧ win0_9.index t = ![0] ∧ win0_10.index t = ![0, 0] ∧ win0_11.index t = ![0] ∧ win0_12.index t = ![0]
    ∧ win0_13.index t = ![t.val, 0] ∧ win0_14.index t = ![0, t.val] ∧ win0_15.index t = ![t.val, 0] ∧ win0_16.index t = ![0, t.val]
    ∧ win0_17.index t = ![t.val, 0] ∧ win0_18.index t = ![0, t.val] ∧ win0_19.index t = ![t.val, 0] := by decide +kernel

/-- Block `t` of the attention's output is rows `256 t` and on. -/
theorem iblk0 (t : Fin cfg0.N) (r : Fin 256) (i : Fin 6400) (hi : i.val = t.val * 256 + r.val) :
    row (φ := .f32) (iblk m c 0 t) r = row (φ := .f32) (m ((c : Thread nD τ).loc main_arg0)) i := by
  funext k
  show iblk m c 0 t (ix2 r k) = m ((c : Thread nD τ).loc main_arg0) (ix2 i k)
  blk_ext [iblk, V, idx t]
  exact hi.symm

/-- Block `t` of the input is rows `256 t` and on. -/
theorem iblk1 (t : Fin cfg0.N) (r : Fin 256) (i : Fin 6400) (hi : i.val = t.val * 256 + r.val) :
    row (φ := .f32) (iblk m c 1 t) r = row (φ := .f32) (m ((c : Thread nD τ).loc main_arg1)) i := by
  funext k
  show iblk m c 1 t (ix2 r k) = m ((c : Thread nD τ).loc main_arg1) (ix2 i k)
  blk_ext [iblk, V, idx t]
  exact hi.symm

/-- The block of argument 2, at every point, is the whole argument. -/
theorem iblk2 (t : Fin cfg0.N) : iblk m c 2 t = m ((c : Thread nD τ).loc main_arg2) := by
  funext y; blk_ext [iblk, V, idx t]
/-- The block of argument 3, at every point, is the whole argument. -/
theorem iblk3 (t : Fin cfg0.N) : iblk m c 3 t = m ((c : Thread nD τ).loc main_arg3) := by
  funext y; blk_ext [iblk, V, idx t]
/-- The block of argument 4, at every point, is the whole argument. -/
theorem iblk4 (t : Fin cfg0.N) : iblk m c 4 t = m ((c : Thread nD τ).loc main_arg4) := by
  funext y; blk_ext [iblk, V, idx t]
/-- The block of argument 5, at every point, is the whole argument. -/
theorem iblk5 (t : Fin cfg0.N) : iblk m c 5 t = m ((c : Thread nD τ).loc main_arg5) := by
  funext y; blk_ext [iblk, V, idx t]
/-- The block of argument 6, at every point, is the whole argument. -/
theorem iblk6 (t : Fin cfg0.N) : iblk m c 6 t = m ((c : Thread nD τ).loc main_arg6) := by
  funext y; blk_ext [iblk, V, idx t]
/-- The block of argument 7, at every point, is the whole argument. -/
theorem iblk7 (t : Fin cfg0.N) : iblk m c 7 t = m ((c : Thread nD τ).loc main_arg7) := by
  funext y; blk_ext [iblk, V, idx t]
/-- The block of argument 8, at every point, is the whole argument. -/
theorem iblk8 (t : Fin cfg0.N) : iblk m c 8 t = m ((c : Thread nD τ).loc main_arg8) := by
  funext y; blk_ext [iblk, V, idx t]
/-- The block of argument 9, at every point, is the whole argument. -/
theorem iblk9 (t : Fin cfg0.N) : iblk m c 9 t = m ((c : Thread nD τ).loc main_arg9) := by
  funext y; blk_ext [iblk, V, idx t]
/-- The block of argument 10, at every point, is the whole argument. -/
theorem iblk10 (t : Fin cfg0.N) : iblk m c 10 t = m ((c : Thread nD τ).loc main_arg10) := by
  funext y; blk_ext [iblk, V, idx t]
/-- The block of argument 11, at every point, is the whole argument. -/
theorem iblk11 (t : Fin cfg0.N) : iblk m c 11 t = m ((c : Thread nD τ).loc main_arg11) := by
  funext y; blk_ext [iblk, V, idx t]
/-- The block of argument 12, at every point, is the whole argument. -/
theorem iblk12 (t : Fin cfg0.N) : iblk m c 12 t = m ((c : Thread nD τ).loc main_arg12) := by
  funext y; blk_ext [iblk, V, idx t]

/-- A weight kept between points: the converted weight, from the first point on. -/
theorem keptP (t : Fin cfg0.N) : (outsAt0 (F := Ideal) m c t.val t.isLt).2.2.2.2.2.2.2.1 = k0_pay2 (F := Ideal) (m ((c : Thread nD τ).loc main_arg2)) := by
  refine Pipeline.eq_of_write_hold (fun n h => (outsAt0 (F := Ideal) m c n h).2.2.2.2.2.2.2.1) 25 (fun _ => k0_pay2 (F := Ideal) (m ((c : Thread nD τ).loc main_arg2)))
    (fun t h0 => ?_) (fun t h0 => ?_) t
  · rw [outsAt0_A m c t h0]
    frame_out
    rw [iblk2]
  · rw [outsAt0_B m c t h0]
    rfl

/-- A weight kept between points: the converted weight, from the first point on. -/
theorem kept1 (t : Fin cfg0.N) : (outsAt0 (F := Ideal) m c t.val t.isLt).2.2.2.2.2.2.2.2.1 = k0_pay3 (F := Ideal) (m ((c : Thread nD τ).loc main_arg7)) := by
  refine Pipeline.eq_of_write_hold (fun n h => (outsAt0 (F := Ideal) m c n h).2.2.2.2.2.2.2.2.1) 25 (fun _ => k0_pay3 (F := Ideal) (m ((c : Thread nD τ).loc main_arg7)))
    (fun t h0 => ?_) (fun t h0 => ?_) t
  · rw [outsAt0_A m c t h0]
    frame_out
    rw [iblk7]
  · rw [outsAt0_B m c t h0]
    rfl

/-- A weight kept between points: the converted weight, from the first point on. -/
theorem kept2 (t : Fin cfg0.N) : (outsAt0 (F := Ideal) m c t.val t.isLt).2.2.2.2.2.2.2.2.2 = k0_pay4 (F := Ideal) (m ((c : Thread nD τ).loc main_arg10)) := by
  refine Pipeline.eq_of_write_hold (fun n h => (outsAt0 (F := Ideal) m c n h).2.2.2.2.2.2.2.2.2) 25 (fun _ => k0_pay4 (F := Ideal) (m ((c : Thread nD τ).loc main_arg10)))
    (fun t h0 => ?_) (fun t h0 => ?_) t
  · rw [outsAt0_A m c t h0]
    frame_out
    rw [iblk10]
  · rw [outsAt0_B m c t h0]
    rfl

/-- Row `i` of the attention's output, and of the input. -/
@[reducible] def oI (i : Fin 6400) : Fin 1024 → EReal := row (φ := .f32) (m ((c : Thread nD τ).loc main_arg0)) i
@[reducible] def xI (i : Fin 6400) : Fin 1024 → EReal := row (φ := .f32) (m ((c : Thread nD τ).loc main_arg1)) i

/-- The normalized row `i`, the hidden row `i` and the output row `i`. -/
def nI (i : Fin 6400) : Fin 1024 → EReal := nRow (oI m c i) (xI m c i) (m ((c : Thread nD τ).loc main_arg2)) (m ((c : Thread nD τ).loc main_arg3)) (m ((c : Thread nD τ).loc main_arg4)) (m ((c : Thread nD τ).loc main_arg5)) (m ((c : Thread nD τ).loc main_arg6))
/-- The hidden row of a row of the arguments. -/
def fI (i : Fin 6400) : Fin 4096 → EReal := fRow (oI m c i) (xI m c i) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
/-- The output row of a row of the arguments. -/
def yI (i : Fin 6400) : Fin 1024 → EReal := yRow (oI m c i) (xI m c i) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))

/-! What the body leaves in each output's buffer at point `t`, at an index of the block. -/

theorem at13 (t : Fin cfg0.N) (y : S256x1024.Idx) (i : Fin 6400) (hi : i.val = t.val * 256 + (y 0).val) :
    (outsAt0 (F := Ideal) m c t.val t.isLt).1 y = code (oI m c i) (y 1) := by
  unfold oI
  rw [← iblk0 m c t (y 0) i hi]
  by_cases h0 : t.val % 25 = 0
  · rw [outsAt0_A m c t h0]
    frame_out
    rw [ValueIdx.eq_ix2 y]
    exact pay7_apply _ (y 0) (y 1)
  · rw [outsAt0_B m c t h0]
    frame_out
    rw [ValueIdx.eq_ix2 y]
    exact pay7_apply _ (y 0) (y 1)

/-- The scales of the attention's output that a point leaves. -/
theorem at14 (t : Fin cfg0.N) (y : S1x256.Idx) (i : Fin 6400) (hi : i.val = t.val * 256 + (y 1).val) :
    (outsAt0 (F := Ideal) m c t.val t.isLt).2.1 y = scale (oI m c i) := by
  unfold oI
  rw [← iblk0 m c t (y 1) i hi]
  by_cases h0 : t.val % 25 = 0
  · rw [outsAt0_A m c t h0]
    frame_out
    rw [ValueIdx.eq_ix2 y]
    exact pay8_apply _ (y 0) (y 1)
  · rw [outsAt0_B m c t h0]
    frame_out
    rw [ValueIdx.eq_ix2 y]
    exact pay8_apply _ (y 0) (y 1)

/-- The codes of the normalized rows that a point leaves. -/
theorem at15 (t : Fin cfg0.N) (y : S256x1024.Idx) (i : Fin 6400) (hi : i.val = t.val * 256 + (y 0).val) :
    (outsAt0 (F := Ideal) m c t.val t.isLt).2.2.1 y = code (nI m c i) (y 1) := by
  unfold nI oI xI
  rw [← iblk0 m c t (y 0) i hi, ← iblk1 m c t (y 0) i hi]
  by_cases h0 : t.val % 25 = 0
  · rw [outsAt0_A m c t h0, iblk2, iblk3, iblk4, iblk5, iblk6, iblk7, iblk8, iblk9, iblk10, iblk11, iblk12]
    dsimp only
    generalize iblk m c 0 t = o, iblk m c 1 t = x, m ((c : Thread nD τ).loc main_arg2) = wp, m ((c : Thread nD τ).loc main_arg3) = wps, m ((c : Thread nD τ).loc main_arg4) = bp, m ((c : Thread nD τ).loc main_arg5) = g, m ((c : Thread nD τ).loc main_arg6) = b, m ((c : Thread nD τ).loc main_arg7) = w1, m ((c : Thread nD τ).loc main_arg8) = w1s, m ((c : Thread nD τ).loc main_arg9) = b1, m ((c : Thread nD τ).loc main_arg10) = w2, m ((c : Thread nD τ).loc main_arg11) = w2s, m ((c : Thread nD τ).loc main_arg12) = b2
    frame_open
    simp (disch := decide) only [↓ View.readCov_skip, ↓ View.readCov_cons_toLoadRect, ↓ View.readCov_fill]
    frame_out
    rw [ValueIdx.eq_ix2 y]
    exact pay16_apply o x wp wps bp g b (y 0) (y 1)
  · rw [outsAt0_B m c t h0, keptP m c ⟨t.val - 1, Nat.lt_of_le_of_lt (Nat.sub_le _ _) t.isLt⟩, kept1 m c ⟨t.val - 1, Nat.lt_of_le_of_lt (Nat.sub_le _ _) t.isLt⟩, kept2 m c ⟨t.val - 1, Nat.lt_of_le_of_lt (Nat.sub_le _ _) t.isLt⟩, iblk2, iblk3, iblk4, iblk5, iblk6, iblk7, iblk8, iblk9, iblk10, iblk11, iblk12]
    dsimp only
    generalize iblk m c 0 t = o, iblk m c 1 t = x, m ((c : Thread nD τ).loc main_arg2) = wp, m ((c : Thread nD τ).loc main_arg3) = wps, m ((c : Thread nD τ).loc main_arg4) = bp, m ((c : Thread nD τ).loc main_arg5) = g, m ((c : Thread nD τ).loc main_arg6) = b, m ((c : Thread nD τ).loc main_arg7) = w1, m ((c : Thread nD τ).loc main_arg8) = w1s, m ((c : Thread nD τ).loc main_arg9) = b1, m ((c : Thread nD τ).loc main_arg10) = w2, m ((c : Thread nD τ).loc main_arg11) = w2s, m ((c : Thread nD τ).loc main_arg12) = b2
    frame_open
    simp (disch := decide) only [↓ View.readCov_skip, ↓ View.readCov_cons_toLoadRect, ↓ View.readCov_fill]
    frame_out
    simp only [read_unread_whole]
    rw [ValueIdx.eq_ix2 y]
    exact pay16_apply o x wp wps bp g b (y 0) (y 1)

/-- The scales of the normalized rows that a point leaves. -/
theorem at16 (t : Fin cfg0.N) (y : S1x256.Idx) (i : Fin 6400) (hi : i.val = t.val * 256 + (y 1).val) :
    (outsAt0 (F := Ideal) m c t.val t.isLt).2.2.2.1 y = scale (nI m c i) := by
  unfold nI oI xI
  rw [← iblk0 m c t (y 1) i hi, ← iblk1 m c t (y 1) i hi]
  by_cases h0 : t.val % 25 = 0
  · rw [outsAt0_A m c t h0, iblk2, iblk3, iblk4, iblk5, iblk6, iblk7, iblk8, iblk9, iblk10, iblk11, iblk12]
    dsimp only
    generalize iblk m c 0 t = o, iblk m c 1 t = x, m ((c : Thread nD τ).loc main_arg2) = wp, m ((c : Thread nD τ).loc main_arg3) = wps, m ((c : Thread nD τ).loc main_arg4) = bp, m ((c : Thread nD τ).loc main_arg5) = g, m ((c : Thread nD τ).loc main_arg6) = b, m ((c : Thread nD τ).loc main_arg7) = w1, m ((c : Thread nD τ).loc main_arg8) = w1s, m ((c : Thread nD τ).loc main_arg9) = b1, m ((c : Thread nD τ).loc main_arg10) = w2, m ((c : Thread nD τ).loc main_arg11) = w2s, m ((c : Thread nD τ).loc main_arg12) = b2
    frame_open
    simp (disch := decide) only [↓ View.readCov_skip, ↓ View.readCov_cons_toLoadRect, ↓ View.readCov_fill]
    frame_out
    rw [ValueIdx.eq_ix2 y]
    exact pay17_apply o x wp wps bp g b (y 0) (y 1)
  · rw [outsAt0_B m c t h0, keptP m c ⟨t.val - 1, Nat.lt_of_le_of_lt (Nat.sub_le _ _) t.isLt⟩, kept1 m c ⟨t.val - 1, Nat.lt_of_le_of_lt (Nat.sub_le _ _) t.isLt⟩, kept2 m c ⟨t.val - 1, Nat.lt_of_le_of_lt (Nat.sub_le _ _) t.isLt⟩, iblk2, iblk3, iblk4, iblk5, iblk6, iblk7, iblk8, iblk9, iblk10, iblk11, iblk12]
    dsimp only
    generalize iblk m c 0 t = o, iblk m c 1 t = x, m ((c : Thread nD τ).loc main_arg2) = wp, m ((c : Thread nD τ).loc main_arg3) = wps, m ((c : Thread nD τ).loc main_arg4) = bp, m ((c : Thread nD τ).loc main_arg5) = g, m ((c : Thread nD τ).loc main_arg6) = b, m ((c : Thread nD τ).loc main_arg7) = w1, m ((c : Thread nD τ).loc main_arg8) = w1s, m ((c : Thread nD τ).loc main_arg9) = b1, m ((c : Thread nD τ).loc main_arg10) = w2, m ((c : Thread nD τ).loc main_arg11) = w2s, m ((c : Thread nD τ).loc main_arg12) = b2
    frame_open
    simp (disch := decide) only [↓ View.readCov_skip, ↓ View.readCov_cons_toLoadRect, ↓ View.readCov_fill]
    frame_out
    simp only [read_unread_whole]
    rw [ValueIdx.eq_ix2 y]
    exact pay17_apply o x wp wps bp g b (y 0) (y 1)

/-- The codes of the hidden rows that a point leaves. -/
theorem at17 (t : Fin cfg0.N) (y : S256x4096.Idx) (i : Fin 6400) (hi : i.val = t.val * 256 + (y 0).val) :
    (outsAt0 (F := Ideal) m c t.val t.isLt).2.2.2.2.1 y = code (fI m c i) (y 1) := by
  unfold fI oI xI
  rw [← iblk0 m c t (y 0) i hi, ← iblk1 m c t (y 0) i hi]
  by_cases h0 : t.val % 25 = 0
  · rw [outsAt0_A m c t h0, iblk2, iblk3, iblk4, iblk5, iblk6, iblk7, iblk8, iblk9, iblk10, iblk11, iblk12]
    dsimp only
    generalize iblk m c 0 t = o, iblk m c 1 t = x, m ((c : Thread nD τ).loc main_arg2) = wp, m ((c : Thread nD τ).loc main_arg3) = wps, m ((c : Thread nD τ).loc main_arg4) = bp, m ((c : Thread nD τ).loc main_arg5) = g, m ((c : Thread nD τ).loc main_arg6) = b, m ((c : Thread nD τ).loc main_arg7) = w1, m ((c : Thread nD τ).loc main_arg8) = w1s, m ((c : Thread nD τ).loc main_arg9) = b1, m ((c : Thread nD τ).loc main_arg10) = w2, m ((c : Thread nD τ).loc main_arg11) = w2s, m ((c : Thread nD τ).loc main_arg12) = b2
    frame_open
    simp (disch := decide) only [↓ View.readCov_skip, ↓ View.readCov_cons_toLoadRect, ↓ View.readCov_fill]
    frame_out
    canon_tiles p h
    all_goals first
      | (have hj : (y 1).val = 512 * 0 + (p 1).val := by omega); exact hidCodes o x wp wps bp g b w1 w1s b1 _ 0 (by omega) (chunk0 o x wp wps bp g b w1 w1s b1) (y 0) (y 1) p (by omega) hj
      | (have hj : (y 1).val = 512 * 1 + (p 1).val := by omega); exact hidCodes o x wp wps bp g b w1 w1s b1 _ 1 (by omega) (chunk1 o x wp wps bp g b w1 w1s b1) (y 0) (y 1) p (by omega) hj
      | (have hj : (y 1).val = 512 * 2 + (p 1).val := by omega); exact hidCodes o x wp wps bp g b w1 w1s b1 _ 2 (by omega) (chunk2 o x wp wps bp g b w1 w1s b1) (y 0) (y 1) p (by omega) hj
      | (have hj : (y 1).val = 512 * 3 + (p 1).val := by omega); exact hidCodes o x wp wps bp g b w1 w1s b1 _ 3 (by omega) (chunk3 o x wp wps bp g b w1 w1s b1) (y 0) (y 1) p (by omega) hj
      | (have hj : (y 1).val = 512 * 4 + (p 1).val := by omega); exact hidCodes o x wp wps bp g b w1 w1s b1 _ 4 (by omega) (chunk4 o x wp wps bp g b w1 w1s b1) (y 0) (y 1) p (by omega) hj
      | (have hj : (y 1).val = 512 * 5 + (p 1).val := by omega); exact hidCodes o x wp wps bp g b w1 w1s b1 _ 5 (by omega) (chunk5 o x wp wps bp g b w1 w1s b1) (y 0) (y 1) p (by omega) hj
      | (have hj : (y 1).val = 512 * 6 + (p 1).val := by omega); exact hidCodes o x wp wps bp g b w1 w1s b1 _ 6 (by omega) (chunk6 o x wp wps bp g b w1 w1s b1) (y 0) (y 1) p (by omega) hj
      | (have hj : (y 1).val = 512 * 7 + (p 1).val := by omega); exact hidCodes o x wp wps bp g b w1 w1s b1 _ 7 (by omega) (chunk7 o x wp wps bp g b w1 w1s b1) (y 0) (y 1) p (by omega) hj
  · rw [outsAt0_B m c t h0, keptP m c ⟨t.val - 1, Nat.lt_of_le_of_lt (Nat.sub_le _ _) t.isLt⟩, kept1 m c ⟨t.val - 1, Nat.lt_of_le_of_lt (Nat.sub_le _ _) t.isLt⟩, kept2 m c ⟨t.val - 1, Nat.lt_of_le_of_lt (Nat.sub_le _ _) t.isLt⟩, iblk2, iblk3, iblk4, iblk5, iblk6, iblk7, iblk8, iblk9, iblk10, iblk11, iblk12]
    dsimp only
    generalize iblk m c 0 t = o, iblk m c 1 t = x, m ((c : Thread nD τ).loc main_arg2) = wp, m ((c : Thread nD τ).loc main_arg3) = wps, m ((c : Thread nD τ).loc main_arg4) = bp, m ((c : Thread nD τ).loc main_arg5) = g, m ((c : Thread nD τ).loc main_arg6) = b, m ((c : Thread nD τ).loc main_arg7) = w1, m ((c : Thread nD τ).loc main_arg8) = w1s, m ((c : Thread nD τ).loc main_arg9) = b1, m ((c : Thread nD τ).loc main_arg10) = w2, m ((c : Thread nD τ).loc main_arg11) = w2s, m ((c : Thread nD τ).loc main_arg12) = b2
    frame_open
    simp (disch := decide) only [↓ View.readCov_skip, ↓ View.readCov_cons_toLoadRect, ↓ View.readCov_fill]
    frame_out
    simp only [read_unread_whole]
    canon_tiles p h
    all_goals first
      | (have hj : (y 1).val = 512 * 0 + (p 1).val := by omega); exact hidCodes o x wp wps bp g b w1 w1s b1 _ 0 (by omega) (chunk0 o x wp wps bp g b w1 w1s b1) (y 0) (y 1) p (by omega) hj
      | (have hj : (y 1).val = 512 * 1 + (p 1).val := by omega); exact hidCodes o x wp wps bp g b w1 w1s b1 _ 1 (by omega) (chunk1 o x wp wps bp g b w1 w1s b1) (y 0) (y 1) p (by omega) hj
      | (have hj : (y 1).val = 512 * 2 + (p 1).val := by omega); exact hidCodes o x wp wps bp g b w1 w1s b1 _ 2 (by omega) (chunk2 o x wp wps bp g b w1 w1s b1) (y 0) (y 1) p (by omega) hj
      | (have hj : (y 1).val = 512 * 3 + (p 1).val := by omega); exact hidCodes o x wp wps bp g b w1 w1s b1 _ 3 (by omega) (chunk3 o x wp wps bp g b w1 w1s b1) (y 0) (y 1) p (by omega) hj
      | (have hj : (y 1).val = 512 * 4 + (p 1).val := by omega); exact hidCodes o x wp wps bp g b w1 w1s b1 _ 4 (by omega) (chunk4 o x wp wps bp g b w1 w1s b1) (y 0) (y 1) p (by omega) hj
      | (have hj : (y 1).val = 512 * 5 + (p 1).val := by omega); exact hidCodes o x wp wps bp g b w1 w1s b1 _ 5 (by omega) (chunk5 o x wp wps bp g b w1 w1s b1) (y 0) (y 1) p (by omega) hj
      | (have hj : (y 1).val = 512 * 6 + (p 1).val := by omega); exact hidCodes o x wp wps bp g b w1 w1s b1 _ 6 (by omega) (chunk6 o x wp wps bp g b w1 w1s b1) (y 0) (y 1) p (by omega) hj
      | (have hj : (y 1).val = 512 * 7 + (p 1).val := by omega); exact hidCodes o x wp wps bp g b w1 w1s b1 _ 7 (by omega) (chunk7 o x wp wps bp g b w1 w1s b1) (y 0) (y 1) p (by omega) hj

/-- The scales of the hidden rows that a point leaves. -/
theorem at18 (t : Fin cfg0.N) (y : S1x256.Idx) (i : Fin 6400) (hi : i.val = t.val * 256 + (y 1).val) :
    (outsAt0 (F := Ideal) m c t.val t.isLt).2.2.2.2.2.1 y = scale (fI m c i) := by
  unfold fI oI xI
  rw [← iblk0 m c t (y 1) i hi, ← iblk1 m c t (y 1) i hi]
  by_cases h0 : t.val % 25 = 0
  · rw [outsAt0_A m c t h0, iblk2, iblk3, iblk4, iblk5, iblk6, iblk7, iblk8, iblk9, iblk10, iblk11, iblk12]
    dsimp only
    generalize iblk m c 0 t = o, iblk m c 1 t = x, m ((c : Thread nD τ).loc main_arg2) = wp, m ((c : Thread nD τ).loc main_arg3) = wps, m ((c : Thread nD τ).loc main_arg4) = bp, m ((c : Thread nD τ).loc main_arg5) = g, m ((c : Thread nD τ).loc main_arg6) = b, m ((c : Thread nD τ).loc main_arg7) = w1, m ((c : Thread nD τ).loc main_arg8) = w1s, m ((c : Thread nD τ).loc main_arg9) = b1, m ((c : Thread nD τ).loc main_arg10) = w2, m ((c : Thread nD τ).loc main_arg11) = w2s, m ((c : Thread nD τ).loc main_arg12) = b2
    frame_open
    simp (disch := decide) only [↓ View.readCov_skip, ↓ View.readCov_cons_toLoadRect, ↓ View.readCov_fill]
    frame_out
    rw [ValueIdx.eq_ix2 y]
    exact pay55_apply o x wp wps bp g b w1 w1s b1 (y 0) (y 1)
  · rw [outsAt0_B m c t h0, keptP m c ⟨t.val - 1, Nat.lt_of_le_of_lt (Nat.sub_le _ _) t.isLt⟩, kept1 m c ⟨t.val - 1, Nat.lt_of_le_of_lt (Nat.sub_le _ _) t.isLt⟩, kept2 m c ⟨t.val - 1, Nat.lt_of_le_of_lt (Nat.sub_le _ _) t.isLt⟩, iblk2, iblk3, iblk4, iblk5, iblk6, iblk7, iblk8, iblk9, iblk10, iblk11, iblk12]
    dsimp only
    generalize iblk m c 0 t = o, iblk m c 1 t = x, m ((c : Thread nD τ).loc main_arg2) = wp, m ((c : Thread nD τ).loc main_arg3) = wps, m ((c : Thread nD τ).loc main_arg4) = bp, m ((c : Thread nD τ).loc main_arg5) = g, m ((c : Thread nD τ).loc main_arg6) = b, m ((c : Thread nD τ).loc main_arg7) = w1, m ((c : Thread nD τ).loc main_arg8) = w1s, m ((c : Thread nD τ).loc main_arg9) = b1, m ((c : Thread nD τ).loc main_arg10) = w2, m ((c : Thread nD τ).loc main_arg11) = w2s, m ((c : Thread nD τ).loc main_arg12) = b2
    frame_open
    simp (disch := decide) only [↓ View.readCov_skip, ↓ View.readCov_cons_toLoadRect, ↓ View.readCov_fill]
    frame_out
    simp only [read_unread_whole]
    rw [ValueIdx.eq_ix2 y]
    exact pay55_apply o x wp wps bp g b w1 w1s b1 (y 0) (y 1)

/-- The output rows that a point leaves. -/
theorem at19 (t : Fin cfg0.N) (y : S256x1024.Idx) (i : Fin 6400) (hi : i.val = t.val * 256 + (y 0).val) :
    (outsAt0 (F := Ideal) m c t.val t.isLt).2.2.2.2.2.2.1 y = yI m c i (y 1) := by
  unfold yI oI xI
  rw [← iblk0 m c t (y 0) i hi, ← iblk1 m c t (y 0) i hi]
  by_cases h0 : t.val % 25 = 0
  · rw [outsAt0_A m c t h0, iblk2, iblk3, iblk4, iblk5, iblk6, iblk7, iblk8, iblk9, iblk10, iblk11, iblk12]
    dsimp only
    generalize iblk m c 0 t = o, iblk m c 1 t = x, m ((c : Thread nD τ).loc main_arg2) = wp, m ((c : Thread nD τ).loc main_arg3) = wps, m ((c : Thread nD τ).loc main_arg4) = bp, m ((c : Thread nD τ).loc main_arg5) = g, m ((c : Thread nD τ).loc main_arg6) = b, m ((c : Thread nD τ).loc main_arg7) = w1, m ((c : Thread nD τ).loc main_arg8) = w1s, m ((c : Thread nD τ).loc main_arg9) = b1, m ((c : Thread nD τ).loc main_arg10) = w2, m ((c : Thread nD τ).loc main_arg11) = w2s, m ((c : Thread nD τ).loc main_arg12) = b2
    frame_open
    simp (disch := decide) only [↓ View.readCov_skip, ↓ View.readCov_cons_toLoadRect, ↓ View.readCov_fill]
    frame_out
    rw [ValueIdx.eq_ix2 y]
    exact y_apply o x wp wps bp g b w1 w1s b1 w2 w2s b2 (y 0) (y 1)
  · rw [outsAt0_B m c t h0, keptP m c ⟨t.val - 1, Nat.lt_of_le_of_lt (Nat.sub_le _ _) t.isLt⟩, kept1 m c ⟨t.val - 1, Nat.lt_of_le_of_lt (Nat.sub_le _ _) t.isLt⟩, kept2 m c ⟨t.val - 1, Nat.lt_of_le_of_lt (Nat.sub_le _ _) t.isLt⟩, iblk2, iblk3, iblk4, iblk5, iblk6, iblk7, iblk8, iblk9, iblk10, iblk11, iblk12]
    dsimp only
    generalize iblk m c 0 t = o, iblk m c 1 t = x, m ((c : Thread nD τ).loc main_arg2) = wp, m ((c : Thread nD τ).loc main_arg3) = wps, m ((c : Thread nD τ).loc main_arg4) = bp, m ((c : Thread nD τ).loc main_arg5) = g, m ((c : Thread nD τ).loc main_arg6) = b, m ((c : Thread nD τ).loc main_arg7) = w1, m ((c : Thread nD τ).loc main_arg8) = w1s, m ((c : Thread nD τ).loc main_arg9) = b1, m ((c : Thread nD τ).loc main_arg10) = w2, m ((c : Thread nD τ).loc main_arg11) = w2s, m ((c : Thread nD τ).loc main_arg12) = b2
    frame_open
    simp (disch := decide) only [↓ View.readCov_skip, ↓ View.readCov_cons_toLoadRect, ↓ View.readCov_fill]
    frame_out
    simp only [read_unread_whole]
    rw [ValueIdx.eq_ix2 y]
    exact y_apply o x wp wps bp g b w1 w1s b1 w2 w2s b2 (y 0) (y 1)

/-- The codes of the attention's output, after the run. -/
theorem final13 : (dats m 0 c).arrAt 13 cfg0.N = fun y : S6400x1024.Idx => code (oI m c (y 0)) (y 1) := by
  refine (dats m 0 c).arrAt_eq_of_covers 13 _ (by decide +kernel) fun t hf y => ?_
  have h := idx t
  rw [show ((cfg0.win 13).blk t).view.emb y 1 = y 1 from Fin.ext (by blk_simp [h])]
  blk_simp
  rw [after0_13]
  exact at13 m c t y _ (by blk_simp [h])

/-- Their scales, after the run. -/
theorem final14 : (dats m 0 c).arrAt 14 cfg0.N = fun y : S1x6400.Idx => scale (oI m c (y 1)) := by
  refine (dats m 0 c).arrAt_eq_of_covers 14 _ (by decide +kernel) fun t hf y => ?_
  have h := idx t
  blk_simp
  rw [after0_14]
  exact at14 m c t y _ (by blk_simp [h])

/-- The codes of the normalized rows, after the run. -/
theorem final15 : (dats m 0 c).arrAt 15 cfg0.N = fun y : S6400x1024.Idx => code (nI m c (y 0)) (y 1) := by
  refine (dats m 0 c).arrAt_eq_of_covers 15 _ (by decide +kernel) fun t hf y => ?_
  have h := idx t
  rw [show ((cfg0.win 15).blk t).view.emb y 1 = y 1 from Fin.ext (by blk_simp [h])]
  blk_simp
  rw [after0_15]
  exact at15 m c t y _ (by blk_simp [h])

/-- Their scales, after the run. -/
theorem final16 : (dats m 0 c).arrAt 16 cfg0.N = fun y : S1x6400.Idx => scale (nI m c (y 1)) := by
  refine (dats m 0 c).arrAt_eq_of_covers 16 _ (by decide +kernel) fun t hf y => ?_
  have h := idx t
  blk_simp
  rw [after0_16]
  exact at16 m c t y _ (by blk_simp [h])

/-- The codes of the hidden rows, after the run. -/
theorem final17 : (dats m 0 c).arrAt 17 cfg0.N = fun y : S6400x4096.Idx => code (fI m c (y 0)) (y 1) := by
  refine (dats m 0 c).arrAt_eq_of_covers 17 _ (by decide +kernel) fun t hf y => ?_
  have h := idx t
  rw [show ((cfg0.win 17).blk t).view.emb y 1 = y 1 from Fin.ext (by blk_simp [h])]
  blk_simp
  rw [after0_17]
  exact at17 m c t y _ (by blk_simp [h])

/-- Their scales, after the run. -/
theorem final18 : (dats m 0 c).arrAt 18 cfg0.N = fun y : S1x6400.Idx => scale (fI m c (y 1)) := by
  refine (dats m 0 c).arrAt_eq_of_covers 18 _ (by decide +kernel) fun t hf y => ?_
  have h := idx t
  blk_simp
  rw [after0_18]
  exact at18 m c t y _ (by blk_simp [h])

/-- The output, after the run. -/
theorem final19 : (dats m 0 c).arrAt 19 cfg0.N = fun y : S6400x1024.Idx => yI m c (y 0) (y 1) := by
  refine (dats m 0 c).arrAt_eq_of_covers 19 _ (by decide +kernel) fun t hf y => ?_
  have h := idx t
  rw [show ((cfg0.win 19).blk t).view.emb y 1 = y 1 from Fin.ext (by blk_simp [h])]
  blk_simp
  rw [after0_19]
  exact at19 m c t y _ (by blk_simp [h])

end Grid

end Cert.MlpWinKer

end
-- ==== Proof.MlpRef.lean ====
/- The reference of the projection with the MLP, read at an index: each of its results is a function of one row of the
   attention's output and of the block's input (Rows.lean). -/
module

public import proofs.«01_k».proof.Proof.Vecs
public import proofs.«01_k».proof.Proof.Gen.RefMlpGlbIdeal.Skeleton

@[expose] public section

set_option maxRecDepth 16384

noncomputable section

namespace Cert.MlpRef

open Idealize.ShloMosaic Idealize.ShloMosaic.ValueIdx Cert.Rows Cert.Vecs
open Cert.RefMlpGlbIdeal Cert.RefMlpGlbIdeal.Gen

section Proj

variable (o x : FVec Ideal S6400x1024 .f32) (wp : IVec S1024x1024 8) (wps bp : FVec Ideal S1024 .f32)

/-- The scales of the attention's output. -/
theorem pay5_apply (r : Fin 6400) : k0_pay5 (F := Ideal) o (ix1 r) = scale (row o r) :=
  scaleV_apply reduces_S6400x1024_S6400 o r

/-- Its codes. -/
theorem pay6_apply (r : Fin 6400) (k : Fin 1024) : k0_pay6 (F := Ideal) o (ix2 r k) = code (row o r) k :=
  congrArg (Ideal.fptosi 8) (levelV_apply broadcasts_S6400x1_S6400x1024 sitofp_neg127 sitofp_127
    o (shapeCast S6400x1 (k0_pay5 (F := Ideal) o) shapeCasts_S6400_S6400x1) r ((castCol _ _ r 0).trans (pay5_apply o r)) k)

/-- The residual around the projection. -/
theorem pay7_row (r : Fin 6400) :
    row (k0_pay7 (F := Ideal) o x wp wps bp) r = resid (row x r) (row o r) (col wp) (vec wps) (vec bp) := funext fun j => by
  refine congrArg (x (ix2 r j) + ·) (linearV_apply (φ₁ := .bf16) (φ₂ := .bf16) dot_S6400x1024_S1024x1024_S6400x1024_1_0_0_1_n_n rfl
    broadcasts_S6400x1_S6400x1024 shapeCasts_S1024_S1x1024 broadcasts_S1x1024_S6400x1024 (sitofp .bf16 (k0_pay6 (F := Ideal) o))
    (shapeCast S6400x1 (k0_pay5 (F := Ideal) o) shapeCasts_S6400_S6400x1) (sitofp .bf16 wp) wps bp r j _ (col wp j) ?_ ?_ ?_)
  · intro k
    show (((k0_pay6 (F := Ideal) o (ix2 r k)).toInt : ℝ) : EReal) = _
    rw [pay6_apply, toInt_code]
  · exact (castCol _ _ r 0).trans (pay5_apply o r)
  · intro k; rfl

/-- The scales of the attention's output. -/
theorem pay1_apply (i : Fin 1) (r : Fin 6400) : k0_pay1 (F := Ideal) (k0_pay5 (F := Ideal) o) (ix2 i r) = scale (row o r) :=
  (castRow (k0_pay5 (F := Ideal) o) shapeCasts_S6400_S1x6400 i r).trans (pay5_apply o r)

end Proj

/-! From here on `h` is the residual, `s` its row sums and `v` a row of its layer normalization. -/

section Fc1

variable (h : FVec Ideal S6400x1024 .f32) (s : FVec Ideal S6400x1 .f32) (g b : FVec Ideal S1024 .f32) (w : IVec S1024x4096 8)
  (ws wb : FVec Ideal S4096 .f32)

/-- The constant 1024 that the row sums are divided by. -/
abbrev n1024 : Ideal .f32 := Scalar.ofBits (F := Ideal) .f32 0x44800000#32

/-- The layer normalization. -/
theorem pay9_row (hs : s = sumC reduces_S6400x1024_S6400 shapeCasts_S6400_S6400x1 h) (r : Fin 6400) :
    row (k0_pay9 (F := Ideal) h g b s n1024) r = lnorm (row h r) (vec g) (vec b) := by
  subst hs
  exact funext fun k => lnormOf_apply reduces_S6400x1024_S6400 shapeCasts_S6400_S6400x1 broadcasts_S6400x1_S6400x1024 shapeCasts_S1024_S1x1024
    broadcasts_S1x1024_S6400x1024 h g b r k

/-- Its scales. -/
theorem pay10_apply (hs : s = sumC reduces_S6400x1024_S6400 shapeCasts_S6400_S6400x1 h) (r : Fin 6400) :
    k0_pay10 (F := Ideal) h g b s n1024 (ix1 r) = scale (lnorm (row h r) (vec g) (vec b)) := by
  rw [← pay9_row h s g b hs]
  exact scaleV_apply reduces_S6400x1024_S6400 (k0_pay9 (F := Ideal) h g b s n1024) r

/-- Its codes. -/
theorem pay11_apply (hs : s = sumC reduces_S6400x1024_S6400 shapeCasts_S6400_S6400x1 h) (r : Fin 6400) (k : Fin 1024) :
    k0_pay11 (F := Ideal) h g b s n1024 (ix2 r k) = code (lnorm (row h r) (vec g) (vec b)) k := by
  rw [← pay9_row h s g b hs]
  refine congrArg (Ideal.fptosi 8) (levelV_apply broadcasts_S6400x1_S6400x1024 sitofp_neg127 sitofp_127
    (k0_pay9 (F := Ideal) h g b s n1024) (shapeCast S6400x1 (k0_pay10 (F := Ideal) h g b s n1024) shapeCasts_S6400_S6400x1) r ?_ k)
  rw [pay9_row h s g b hs]
  exact (castCol _ _ r 0).trans (pay10_apply h s g b hs r)

/-- The scales of the normalized rows. -/
theorem pay2_apply (hs : s = sumC reduces_S6400x1024_S6400 shapeCasts_S6400_S6400x1 h) (i : Fin 1) (r : Fin 6400) :
    k0_pay2 (F := Ideal) (k0_pay10 (F := Ideal) h g b s n1024) (ix2 i r) = scale (lnorm (row h r) (vec g) (vec b)) :=
  (castRow (k0_pay10 (F := Ideal) h g b s n1024) shapeCasts_S6400_S1x6400 i r).trans (pay10_apply h s g b hs r)

/-- The hidden rows. -/
theorem pay14_row (hs : s = sumC reduces_S6400x1024_S6400 shapeCasts_S6400_S6400x1 h) (r : Fin 6400) :
    row (k0_pay14 (F := Ideal) ws wb (k0_pay12 (F := Ideal) h g b s n1024 w) (k0_pay13 (F := Ideal) h g b s n1024)) r
      = hidden (lnorm (row h r) (vec g) (vec b)) (col w) (vec ws) (vec wb) := funext fun j => by
  refine (geluV_apply (linearV (φ₁ := .bf16) (φ₂ := .bf16) dot_S6400x1024_S1024x4096_S6400x4096_1_0_0_1_n_n
    broadcasts_S6400x1_S6400x4096 shapeCasts_S4096_S1x4096 broadcasts_S1x4096_S6400x4096 (sitofp .bf16 (k0_pay11 (F := Ideal) h g b s n1024))
    (k0_pay13 (F := Ideal) h g b s n1024) (sitofp .bf16 w) ws wb) (ix2 r j)).trans (congrArg gelu ?_)
  refine linearV_apply (φ₁ := .bf16) (φ₂ := .bf16) _ rfl _ _ _ _ _ _ _ _ r j _ (col w j) ?_ ?_ ?_
  · intro k
    show (((k0_pay11 (F := Ideal) h g b s n1024 (ix2 r k)).toInt : ℝ) : EReal) = _
    rw [pay11_apply h s g b hs, toInt_code]
  · exact (castCol (k0_pay10 (F := Ideal) h g b s n1024) shapeCasts_S6400_S6400x1 r 0).trans (pay10_apply h s g b hs r)
  · intro k; rfl

end Fc1

section Fc2

variable (h : FVec Ideal S6400x1024 .f32) (ws1 wb1 : FVec Ideal S4096 .f32) (a : FVec Ideal S6400x4096 .f32) (s : FVec Ideal S6400x1 .f32)
  (w : IVec S4096x1024 8) (ws wb : FVec Ideal S1024 .f32)

/-- The scales of the hidden rows. -/
theorem pay15_apply (r : Fin 6400) :
    k0_pay15 (F := Ideal) ws1 wb1 a s (ix1 r) = scale (row (k0_pay14 (F := Ideal) ws1 wb1 a s) r) :=
  scaleV_apply reduces_S6400x4096_S6400 (k0_pay14 (F := Ideal) ws1 wb1 a s) r

/-- Their codes. -/
theorem pay16_apply (r : Fin 6400) (k : Fin 4096) :
    k0_pay16 (F := Ideal) ws1 wb1 a s (ix2 r k) = code (row (k0_pay14 (F := Ideal) ws1 wb1 a s) r) k :=
  congrArg (Ideal.fptosi 8) (levelV_apply broadcasts_S6400x1_S6400x4096 sitofp_neg127 sitofp_127
    (k0_pay14 (F := Ideal) ws1 wb1 a s) (shapeCast S6400x1 (k0_pay15 (F := Ideal) ws1 wb1 a s) shapeCasts_S6400_S6400x1) r
    ((castCol _ _ r 0).trans (pay15_apply ws1 wb1 a s r)) k)

/-- The scales of the hidden rows. -/
theorem pay3_apply (i : Fin 1) (r : Fin 6400) :
    k0_pay3 (F := Ideal) (k0_pay15 (F := Ideal) ws1 wb1 a s) (ix2 i r) = scale (row (k0_pay14 (F := Ideal) ws1 wb1 a s) r) :=
  (castRow (k0_pay15 (F := Ideal) ws1 wb1 a s) shapeCasts_S6400_S1x6400 i r).trans (pay15_apply ws1 wb1 a s r)

/-- The residual around the second linear layer. -/
theorem pay4_apply (r : Fin 6400) (j : Fin 1024) :
    k0_pay4 (F := Ideal) h wb (k0_pay17 (F := Ideal) ws1 wb1 a s w) (k0_pay18 (F := Ideal) ws) (ix2 r j)
      = resid (row h r) (row (k0_pay14 (F := Ideal) ws1 wb1 a s) r) (col w) (vec ws) (vec wb) j := by
  refine congrArg (h (ix2 r j) + ·) (linearV_apply (φ₁ := .bf16) (φ₂ := .bf16) dot_S6400x4096_S4096x1024_S6400x1024_1_0_0_1_n_n rfl
    broadcasts_S6400x1_S6400x1024 shapeCasts_S1024_S1x1024 broadcasts_S1x1024_S6400x1024 (sitofp .bf16 (k0_pay16 (F := Ideal) ws1 wb1 a s))
    (shapeCast S6400x1 (k0_pay15 (F := Ideal) ws1 wb1 a s) shapeCasts_S6400_S6400x1) (sitofp .bf16 w) ws wb r j _ (col w j) ?_ ?_ ?_)
  · intro k
    show (((k0_pay16 (F := Ideal) ws1 wb1 a s (ix2 r k)).toInt : ℝ) : EReal) = _
    rw [pay16_apply, toInt_code]
  · exact (castCol _ _ r 0).trans (pay15_apply ws1 wb1 a s r)
  · intro k; rfl

end Fc2

end Cert.MlpRef

end
-- ==== Proof.MlpRefVal.lean ====
/- The results of the MLP call's reference, as functions of the rows of its arguments. -/
module

public import proofs.«01_k».proof.Proof.MlpRef
public import proofs.«01_k».proof.Proof.Gen.RefMlpGlbIdeal.Value
public import Idealize.ShloMosaic.Lib.Pipeline.ValueKit

@[expose] public section

set_option maxRecDepth 16384

noncomputable section

namespace Cert.MlpRef

open Idealize.ShloMosaic hiding ix1 ix2
open Idealize.ShloMosaic.ValueIdx Cert.Rows Cert.Vecs
open Cert.RefMlpGlbIdeal Cert.RefMlpGlbIdeal.Gen Cert.RefMlpGlbIdeal.Value

variable (a0 a1 : FVec Ideal S6400x1024 .f32) (a2 : IVec S1024x1024 8) (a3 a4 a5 a6 : FVec Ideal S1024 .f32) (a7 : IVec S1024x4096 8)
  (a8 a9 : FVec Ideal S4096 .f32) (a10 : IVec S4096x1024 8) (a11 a12 : FVec Ideal S1024 .f32)

/-- A shared value, with its loads of whole arguments read. -/
theorem pay19_eq : k0_pay19 (F := Ideal) a0 a1 a2 a3 a4 a5 a6 a7 a8 a9 a10 a11 a12 = k0_pay7 (F := Ideal) a0 a1 a2 a3 a4 := by
  unfold k0_pay19 r0_0 r0_1 r0_2; simp (disch := decide) only [View.ld_unit_lit]

/-- A shared value, with its loads of whole arguments read. -/
theorem pay20_eq : k0_pay20 (F := Ideal) a0 a1 a2 a3 a4 a5 a6 a7 a8 a9 a10 a11 a12
    = sumC reduces_S6400x1024_S6400 shapeCasts_S6400_S6400x1 (k0_pay7 (F := Ideal) a0 a1 a2 a3 a4) := by
  unfold k0_pay20 r0_0 r0_1 r0_2; simp (disch := decide) only [View.ld_unit_lit]; rfl

/-- A shared value, with its loads of whole arguments read. -/
theorem pay21_eq : k0_pay21 (F := Ideal) a0 a1 a2 a3 a4 a5 a6 a7 a8 a9 a10 a11 a12
    = k0_pay12 (F := Ideal) (k0_pay19 (F := Ideal) a0 a1 a2 a3 a4 a5 a6 a7 a8 a9 a10 a11 a12) a5 a6 (k0_pay20 (F := Ideal) a0 a1 a2 a3 a4 a5 a6 a7 a8 a9 a10 a11 a12) n1024 a7 := by
  unfold k0_pay21 r0_2 r0_3; simp (disch := decide) only [View.ld_unit_lit]

/-- A shared value, with its loads of whole arguments read. -/
theorem pay22_eq : k0_pay22 (F := Ideal) a0 a1 a2 a3 a4 a5 a6 a7 a8 a9 a10 a11 a12
    = k0_pay13 (F := Ideal) (k0_pay19 (F := Ideal) a0 a1 a2 a3 a4 a5 a6 a7 a8 a9 a10 a11 a12) a5 a6 (k0_pay20 (F := Ideal) a0 a1 a2 a3 a4 a5 a6 a7 a8 a9 a10 a11 a12) n1024 := by
  unfold k0_pay22 r0_2; simp (disch := decide) only [View.ld_unit_lit]

/-- Its rows before the second layer normalization. -/
theorem h_row (r : Fin 6400) : row (k0_pay19 (F := Ideal) a0 a1 a2 a3 a4 a5 a6 a7 a8 a9 a10 a11 a12) r = hRow (row a0 r) (row a1 r) a2 a3 a4 := by
  rw [pay19_eq]; exact pay7_row a0 a1 a2 a3 a4 r

/-- Its normalized rows. -/
theorem n_row (r : Fin 6400) : lnorm (row (k0_pay19 (F := Ideal) a0 a1 a2 a3 a4 a5 a6 a7 a8 a9 a10 a11 a12) r) (vec a5) (vec a6) = nRow (row a0 r) (row a1 r) a2 a3 a4 a5 a6 := by
  rw [h_row]; rfl

/-- Its row sums, for the mean. -/
theorem s_eq : k0_pay20 (F := Ideal) a0 a1 a2 a3 a4 a5 a6 a7 a8 a9 a10 a11 a12 = sumC reduces_S6400x1024_S6400 shapeCasts_S6400_S6400x1 (k0_pay19 (F := Ideal) a0 a1 a2 a3 a4 a5 a6 a7 a8 a9 a10 a11 a12) := by
  rw [pay19_eq, pay20_eq]

/-- Its hidden rows. -/
theorem f_row (r : Fin 6400) : row (k0_pay14 (F := Ideal) a8 a9 (k0_pay21 (F := Ideal) a0 a1 a2 a3 a4 a5 a6 a7 a8 a9 a10 a11 a12) (k0_pay22 (F := Ideal) a0 a1 a2 a3 a4 a5 a6 a7 a8 a9 a10 a11 a12)) r
    = fRow (row a0 r) (row a1 r) a2 a3 a4 a5 a6 a7 a8 a9 := by
  rw [pay21_eq, pay22_eq]
  refine (pay14_row _ _ a5 a6 a7 a8 a9 (s_eq a0 a1 a2 a3 a4 a5 a6 a7 a8 a9 a10 a11 a12) r).trans ?_
  rw [n_row]; rfl

/-- The codes of the attention's output. -/
theorem G13_eq : G13 (F := Ideal) a0 a1 a2 a3 a4 a5 a6 a7 a8 a9 a10 a11 a12 = fun y => code (row a0 (y 0)) (y 1) := by
  funext y
  rw [ValueIdx.eq_ix2 y]
  exact pay6_apply a0 (y 0) (y 1)

/-- The scales of the attention's output. -/
theorem G14_eq : G14 (F := Ideal) a0 a1 a2 a3 a4 a5 a6 a7 a8 a9 a10 a11 a12 = fun y => scale (row a0 (y 1)) := by
  funext y
  rw [ValueIdx.eq_ix2 y]
  exact pay1_apply a0 (y 0) (y 1)

/-- The codes of the normalized rows. -/
theorem G15_eq : G15 (F := Ideal) a0 a1 a2 a3 a4 a5 a6 a7 a8 a9 a10 a11 a12 = fun y => code (nRow (row a0 (y 0)) (row a1 (y 0)) a2 a3 a4 a5 a6) (y 1) := by
  funext y
  rw [ValueIdx.eq_ix2 y]
  refine (pay11_apply _ _ a5 a6 (s_eq a0 a1 a2 a3 a4 a5 a6 a7 a8 a9 a10 a11 a12) (y 0) (y 1)).trans ?_
  exact congrArg (fun v : Fin 1024 → EReal => code v (y 1)) (n_row a0 a1 a2 a3 a4 a5 a6 a7 a8 a9 a10 a11 a12 (y 0))

/-- The scales of the normalized rows. -/
theorem G16_eq : G16 (F := Ideal) a0 a1 a2 a3 a4 a5 a6 a7 a8 a9 a10 a11 a12 = fun y => scale (nRow (row a0 (y 1)) (row a1 (y 1)) a2 a3 a4 a5 a6) := by
  funext y
  rw [ValueIdx.eq_ix2 y]
  refine (pay2_apply _ _ a5 a6 (s_eq a0 a1 a2 a3 a4 a5 a6 a7 a8 a9 a10 a11 a12) (y 0) (y 1)).trans ?_
  exact congrArg (fun v : Fin 1024 → EReal => scale v) (n_row a0 a1 a2 a3 a4 a5 a6 a7 a8 a9 a10 a11 a12 (y 1))

/-- The codes of the hidden rows. -/
theorem G17_eq : G17 (F := Ideal) a0 a1 a2 a3 a4 a5 a6 a7 a8 a9 a10 a11 a12 = fun y => code (fRow (row a0 (y 0)) (row a1 (y 0)) a2 a3 a4 a5 a6 a7 a8 a9) (y 1) := by
  funext y
  rw [ValueIdx.eq_ix2 y]
  refine (pay16_apply a8 a9 _ _ (y 0) (y 1)).trans ?_
  exact congrArg (fun v : Fin 4096 → EReal => code v (y 1)) (f_row a0 a1 a2 a3 a4 a5 a6 a7 a8 a9 a10 a11 a12 (y 0))

/-- The scales of the hidden rows. -/
theorem G18_eq : G18 (F := Ideal) a0 a1 a2 a3 a4 a5 a6 a7 a8 a9 a10 a11 a12 = fun y => scale (fRow (row a0 (y 1)) (row a1 (y 1)) a2 a3 a4 a5 a6 a7 a8 a9) := by
  funext y
  rw [ValueIdx.eq_ix2 y]
  refine (pay3_apply a8 a9 _ _ (y 0) (y 1)).trans ?_
  exact congrArg (fun v : Fin 4096 → EReal => scale v) (f_row a0 a1 a2 a3 a4 a5 a6 a7 a8 a9 a10 a11 a12 (y 1))

/-- The output. -/
theorem G19_eq : G19 (F := Ideal) a0 a1 a2 a3 a4 a5 a6 a7 a8 a9 a10 a11 a12 = fun y => yRow (row a0 (y 0)) (row a1 (y 0)) a2 a3 a4 a5 a6 a7 a8 a9 a10 a11 a12 (y 1) := by
  funext y
  rw [ValueIdx.eq_ix2 y]
  refine (pay4_apply _ a8 a9 _ _ a10 a11 a12 (y 0) (y 1)).trans ?_
  exact congrArg₂ (fun (h : Fin 1024 → EReal) (f : Fin 4096 → EReal) => resid h f (col a10) (vec a11) (vec a12) (y 1))
    (h_row a0 a1 a2 a3 a4 a5 a6 a7 a8 a9 a10 a11 a12 (y 0)) (f_row a0 a1 a2 a3 a4 a5 a6 a7 a8 a9 a10 a11 a12 (y 0))

end Cert.MlpRef

end
-- ==== Proof.MlpWinAlg.lean ====
/- The windowed block's projection with the MLP computes its reference, over the extended reals. -/
module

public import proofs.«01_k».proof.Defs
public import proofs.«01_k».proof.Proof.MlpWinGrid
public import proofs.«01_k».proof.Proof.MlpRefVal
public import proofs.«01_k».proof.Proof.Gen.RefMlpWinIdeal.Value

@[expose] public section

set_option maxRecDepth 16384

noncomputable section

namespace Cert.MlpWinAlg

open Idealize.ShloMosaic hiding ix1 ix2
open Idealize.ShloMosaic.TcCoe Idealize.SL.Sem Idealize.ShloMosaic.ValueIdx Cert.Rows Cert.Vecs Cert.MlpWinKer

section Kernel

open Cert.MlpWinIdeal

variable (m : (ℓ : Loc nD τ sig) → Buf (Elt Ideal) ℓ) (ρ : Dev nD → PrngReg)

/-- The kernel's run, each result named as a function of the arguments' rows. -/
theorem run : θ_run (defs (F := Ideal)) (onTc (τ := τ) (main (F := Ideal))) ⟨m, fun _ => 0, ρ⟩ fun r => ∀ c : Dev nD,
      r.2.mem ((c : Thread nD τ).loc main_v0_0) = (fun y : S6400x1024.Idx => code (oI m c (y 0)) (y 1))
      ∧ r.2.mem ((c : Thread nD τ).loc main_v0_1) = (fun y : S1x6400.Idx => scale (oI m c (y 1)))
      ∧ r.2.mem ((c : Thread nD τ).loc main_v0_2) = (fun y : S6400x1024.Idx => code (nI m c (y 0)) (y 1))
      ∧ r.2.mem ((c : Thread nD τ).loc main_v0_3) = (fun y : S1x6400.Idx => scale (nI m c (y 1)))
      ∧ r.2.mem ((c : Thread nD τ).loc main_v0_4) = (fun y : S6400x4096.Idx => code (fI m c (y 0)) (y 1))
      ∧ r.2.mem ((c : Thread nD τ).loc main_v0_5) = (fun y : S1x6400.Idx => scale (fI m c (y 1)))
      ∧ r.2.mem ((c : Thread nD τ).loc main_v0_6) = (fun y : S6400x1024.Idx => yI m c (y 0) (y 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => by
    obtain ⟨h0, h1, h2, h3, h4, h5, h6, hk⟩ := h c
    exact ⟨h0.trans (final13 m c), h1.trans (final14 m c), h2.trans (final15 m c), h3.trans (final16 m c), h4.trans (final17 m c), h5.trans (final18 m c), h6.trans (final19 m c), hk⟩)
    (Value.run_blocks m ρ)

end Kernel

/-! ## The reference's results: over the extended reals, those of the global block's reference -/

section Reference

open Cert.RefMlpWinIdeal Cert.RefMlpWinIdeal.Gen Cert.RefMlpWinIdeal.Value

variable (o : FVec Ideal S6400x1024 .f32) (x : FVec Ideal S6400x1024 .bf16) (wp : IVec S1024x1024 8) (wps bp g b : FVec Ideal S1024 .f32)
  (w1 : IVec S1024x4096 8) (w1s b1 : FVec Ideal S4096 .f32) (w2 : IVec S4096x1024 8) (w2s b2 : FVec Ideal S1024 .f32)

/-- The codes of the attention's output. -/
theorem G13_eq : G13 (F := Ideal) o x wp wps bp g b w1 w1s b1 w2 w2s b2 = fun y => code (row (φ := .f32) o (y 0)) (y 1) :=
  MlpRef.G13_eq o x wp wps bp g b w1 w1s b1 w2 w2s b2
/-- The scales of the attention's output. -/
theorem G14_eq : G14 (F := Ideal) o x wp wps bp g b w1 w1s b1 w2 w2s b2 = fun y => scale (row (φ := .f32) o (y 1)) :=
  MlpRef.G14_eq o x wp wps bp g b w1 w1s b1 w2 w2s b2
/-- The codes of the normalized rows. -/
theorem G15_eq : G15 (F := Ideal) o x wp wps bp g b w1 w1s b1 w2 w2s b2 = fun y => code (nRow (row (φ := .f32) o (y 0)) (row (φ := .f32) x (y 0)) wp wps bp g b) (y 1) :=
  MlpRef.G15_eq o x wp wps bp g b w1 w1s b1 w2 w2s b2
/-- The scales of the normalized rows. -/
theorem G16_eq : G16 (F := Ideal) o x wp wps bp g b w1 w1s b1 w2 w2s b2 = fun y => scale (nRow (row (φ := .f32) o (y 1)) (row (φ := .f32) x (y 1)) wp wps bp g b) := by
  unfold G16 k0_pay20 r0_2; simp (disch := decide) only [View.ld_unit_lit]; exact MlpRef.G16_eq o x wp wps bp g b w1 w1s b1 w2 w2s b2
/-- The codes of the hidden rows. -/
theorem G17_eq : G17 (F := Ideal) o x wp wps bp g b w1 w1s b1 w2 w2s b2 = fun y => code (fRow (row (φ := .f32) o (y 0)) (row (φ := .f32) x (y 0)) wp wps bp g b w1 w1s b1) (y 1) :=
  MlpRef.G17_eq o x wp wps bp g b w1 w1s b1 w2 w2s b2
/-- The scales of the hidden rows. -/
theorem G18_eq : G18 (F := Ideal) o x wp wps bp g b w1 w1s b1 w2 w2s b2 = fun y => scale (fRow (row (φ := .f32) o (y 1)) (row (φ := .f32) x (y 1)) wp wps bp g b w1 w1s b1) :=
  MlpRef.G18_eq o x wp wps bp g b w1 w1s b1 w2 w2s b2
/-- The output. -/
theorem G19_eq : G19 (F := Ideal) o x wp wps bp g b w1 w1s b1 w2 w2s b2 = fun y => yRow (row (φ := .f32) o (y 0)) (row (φ := .f32) x (y 0)) wp wps bp g b w1 w1s b1 w2 w2s b2 (y 1) :=
  MlpRef.G19_eq o x wp wps bp g b w1 w1s b1 w2 w2s b2

end Reference

/-- THE CLAIM: from equal arguments the kernel's call and its reference end with equal codes and scales of the attention's
    output, of the normalized rows and of the hidden rows, and with equal output rows. -/
theorem algebraic : Cert.algebraic_MlpWinIdeal_RefMlpWinIdeal := by
  intro m g m' g' _ hagree
  refine ⟨_, _, _, _, _, _, _, run m g, (θ_run _ _ _).mono (fun r h c => ?_) (Cert.RefMlpWinIdeal.Value.run m' g')⟩
  obtain ⟨h0, h1, h2, h3, h4, h5, h6, hk⟩ := h c
  obtain ⟨a0, a1, a2, a3, a4, a5, a6, a7, a8, a9, a10, a11, a12⟩ := hagree c
  rw [G13_eq, a0] at h0
  rw [G14_eq, a0] at h1
  rw [G15_eq, a0, a1, a2, a3, a4, a5, a6] at h2
  rw [G16_eq, a0, a1, a2, a3, a4, a5, a6] at h3
  rw [G17_eq, a0, a1, a2, a3, a4, a5, a6, a7, a8, a9] at h4
  rw [G18_eq, a0, a1, a2, a3, a4, a5, a6, a7, a8, a9] at h5
  rw [G19_eq, a0, a1, a2, a3, a4, a5, a6, a7, a8, a9, a10, a11, a12] at h6
  exact ⟨h0, h1, h2, h3, h4, h5, h6, hk⟩

end Cert.MlpWinAlg

end
-- ==== Proof.MlpGrid.lean ====
/- The kernel's projection with the MLP over its grid: what each block leaves in the outputs, and the outputs after the run. -/
module

public import proofs.«01_k».proof.Proof.MlpKer
public import proofs.«01_k».proof.Proof.Gen.MlpGlbIdeal.Value
public import Idealize.ShloMosaic.Lib.Pipeline.ValueKit
public import Idealize.ShloMosaic.Lib.Pipeline.ValueKit.Held
public import Idealize.ShloMosaic.Lib.Pipeline.ReadBack

@[expose] public section

set_option maxRecDepth 16384
set_option maxHeartbeats 2000000

noncomputable section

namespace Cert.MlpKer

open Idealize.ShloMosaic hiding ix1 ix2
open Idealize.ShloMosaic.TcCoe Idealize.ShloMosaic.ValueIdx Cert.Rows Cert.Vecs
open Cert.MlpGlbIdeal Cert.MlpGlbIdeal.Gen

section Grid

variable (m : (ℓ : Loc nD τ sig) → Buf (Elt Ideal) ℓ) (c : Dev nD)

/-- Where the windows' blocks lie: block `t` of the row-blocked windows, the whole array for the others. -/
theorem idx : ∀ t : Fin grid0.N, win0_0.index t = ![t.val, 0] ∧ win0_1.index t = ![t.val, 0] ∧ win0_2.index t = ![0, 0] ∧ win0_3.index t = ![0]
    ∧ win0_4.index t = ![0] ∧ win0_5.index t = ![0] ∧ win0_6.index t = ![0] ∧ win0_7.index t = ![0, 0] ∧ win0_8.index t = ![0]
    ∧ win0_9.index t = ![0] ∧ win0_10.index t = ![0, 0] ∧ win0_11.index t = ![0] ∧ win0_12.index t = ![0]
    ∧ win0_13.index t = ![t.val, 0] ∧ win0_14.index t = ![0, t.val] ∧ win0_15.index t = ![t.val, 0] ∧ win0_16.index t = ![0, t.val]
    ∧ win0_17.index t = ![t.val, 0] ∧ win0_18.index t = ![0, t.val] ∧ win0_19.index t = ![t.val, 0] := by decide +kernel

/-- Block `t` of the attention's output is rows `256 t` and on. -/
theorem iblk0 (t : Fin cfg0.N) (r : Fin 256) (i : Fin 6400) (hi : i.val = t.val * 256 + r.val) :
    row (φ := .f32) (iblk m c 0 t) r = row (φ := .f32) (m ((c : Thread nD τ).loc main_arg0)) i := by
  funext k
  show iblk m c 0 t (ix2 r k) = m ((c : Thread nD τ).loc main_arg0) (ix2 i k)
  blk_ext [iblk, V, idx t]
  exact hi.symm

/-- Block `t` of the input is rows `256 t` and on. -/
theorem iblk1 (t : Fin cfg0.N) (r : Fin 256) (i : Fin 6400) (hi : i.val = t.val * 256 + r.val) :
    row (φ := .f32) (iblk m c 1 t) r = row (φ := .f32) (m ((c : Thread nD τ).loc main_arg1)) i := by
  funext k
  show iblk m c 1 t (ix2 r k) = m ((c : Thread nD τ).loc main_arg1) (ix2 i k)
  blk_ext [iblk, V, idx t]
  exact hi.symm

/-- The block of argument 2, at every point, is the whole argument. -/
theorem iblk2 (t : Fin cfg0.N) : iblk m c 2 t = m ((c : Thread nD τ).loc main_arg2) := by
  funext y; blk_ext [iblk, V, idx t]
/-- The block of argument 3, at every point, is the whole argument. -/
theorem iblk3 (t : Fin cfg0.N) : iblk m c 3 t = m ((c : Thread nD τ).loc main_arg3) := by
  funext y; blk_ext [iblk, V, idx t]
/-- The block of argument 4, at every point, is the whole argument. -/
theorem iblk4 (t : Fin cfg0.N) : iblk m c 4 t = m ((c : Thread nD τ).loc main_arg4) := by
  funext y; blk_ext [iblk, V, idx t]
/-- The block of argument 5, at every point, is the whole argument. -/
theorem iblk5 (t : Fin cfg0.N) : iblk m c 5 t = m ((c : Thread nD τ).loc main_arg5) := by
  funext y; blk_ext [iblk, V, idx t]
/-- The block of argument 6, at every point, is the whole argument. -/
theorem iblk6 (t : Fin cfg0.N) : iblk m c 6 t = m ((c : Thread nD τ).loc main_arg6) := by
  funext y; blk_ext [iblk, V, idx t]
/-- The block of argument 7, at every point, is the whole argument. -/
theorem iblk7 (t : Fin cfg0.N) : iblk m c 7 t = m ((c : Thread nD τ).loc main_arg7) := by
  funext y; blk_ext [iblk, V, idx t]
/-- The block of argument 8, at every point, is the whole argument. -/
theorem iblk8 (t : Fin cfg0.N) : iblk m c 8 t = m ((c : Thread nD τ).loc main_arg8) := by
  funext y; blk_ext [iblk, V, idx t]
/-- The block of argument 9, at every point, is the whole argument. -/
theorem iblk9 (t : Fin cfg0.N) : iblk m c 9 t = m ((c : Thread nD τ).loc main_arg9) := by
  funext y; blk_ext [iblk, V, idx t]
/-- The block of argument 10, at every point, is the whole argument. -/
theorem iblk10 (t : Fin cfg0.N) : iblk m c 10 t = m ((c : Thread nD τ).loc main_arg10) := by
  funext y; blk_ext [iblk, V, idx t]
/-- The block of argument 11, at every point, is the whole argument. -/
theorem iblk11 (t : Fin cfg0.N) : iblk m c 11 t = m ((c : Thread nD τ).loc main_arg11) := by
  funext y; blk_ext [iblk, V, idx t]
/-- The block of argument 12, at every point, is the whole argument. -/
theorem iblk12 (t : Fin cfg0.N) : iblk m c 12 t = m ((c : Thread nD τ).loc main_arg12) := by
  funext y; blk_ext [iblk, V, idx t]

/-- A weight kept between points: the converted weight, from the first point on. -/
theorem keptP (t : Fin cfg0.N) : (outsAt0 (F := Ideal) m c t.val t.isLt).2.2.2.2.2.2.2.1 = k0_pay2 (F := Ideal) (m ((c : Thread nD τ).loc main_arg2)) := by
  refine Pipeline.eq_of_write_hold (fun n h => (outsAt0 (F := Ideal) m c n h).2.2.2.2.2.2.2.1) 25 (fun _ => k0_pay2 (F := Ideal) (m ((c : Thread nD τ).loc main_arg2)))
    (fun t h0 => ?_) (fun t h0 => ?_) t
  · rw [outsAt0_A m c t h0]
    frame_out
    rw [iblk2]
  · rw [outsAt0_B m c t h0]
    rfl

/-- A weight kept between points: the converted weight, from the first point on. -/
theorem kept1 (t : Fin cfg0.N) : (outsAt0 (F := Ideal) m c t.val t.isLt).2.2.2.2.2.2.2.2.1 = k0_pay3 (F := Ideal) (m ((c : Thread nD τ).loc main_arg7)) := by
  refine Pipeline.eq_of_write_hold (fun n h => (outsAt0 (F := Ideal) m c n h).2.2.2.2.2.2.2.2.1) 25 (fun _ => k0_pay3 (F := Ideal) (m ((c : Thread nD τ).loc main_arg7)))
    (fun t h0 => ?_) (fun t h0 => ?_) t
  · rw [outsAt0_A m c t h0]
    frame_out
    rw [iblk7]
  · rw [outsAt0_B m c t h0]
    rfl

/-- A weight kept between points: the converted weight, from the first point on. -/
theorem kept2 (t : Fin cfg0.N) : (outsAt0 (F := Ideal) m c t.val t.isLt).2.2.2.2.2.2.2.2.2 = k0_pay4 (F := Ideal) (m ((c : Thread nD τ).loc main_arg10)) := by
  refine Pipeline.eq_of_write_hold (fun n h => (outsAt0 (F := Ideal) m c n h).2.2.2.2.2.2.2.2.2) 25 (fun _ => k0_pay4 (F := Ideal) (m ((c : Thread nD τ).loc main_arg10)))
    (fun t h0 => ?_) (fun t h0 => ?_) t
  · rw [outsAt0_A m c t h0]
    frame_out
    rw [iblk10]
  · rw [outsAt0_B m c t h0]
    rfl

/-- Row `i` of the attention's output, and of the input. -/
@[reducible] def oI (i : Fin 6400) : Fin 1024 → EReal := row (φ := .f32) (m ((c : Thread nD τ).loc main_arg0)) i
@[reducible] def xI (i : Fin 6400) : Fin 1024 → EReal := row (φ := .f32) (m ((c : Thread nD τ).loc main_arg1)) i

/-- The normalized row `i`, the hidden row `i` and the output row `i`. -/
def nI (i : Fin 6400) : Fin 1024 → EReal := nRow (oI m c i) (xI m c i) (m ((c : Thread nD τ).loc main_arg2)) (m ((c : Thread nD τ).loc main_arg3)) (m ((c : Thread nD τ).loc main_arg4)) (m ((c : Thread nD τ).loc main_arg5)) (m ((c : Thread nD τ).loc main_arg6))
/-- The hidden row of a row of the arguments. -/
def fI (i : Fin 6400) : Fin 4096 → EReal := fRow (oI m c i) (xI m c i) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
/-- The output row of a row of the arguments. -/
def yI (i : Fin 6400) : Fin 1024 → EReal := yRow (oI m c i) (xI m c i) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))

/-! What the body leaves in each output's buffer at point `t`, at an index of the block. -/

theorem at13 (t : Fin cfg0.N) (y : S256x1024.Idx) (i : Fin 6400) (hi : i.val = t.val * 256 + (y 0).val) :
    (outsAt0 (F := Ideal) m c t.val t.isLt).1 y = code (oI m c i) (y 1) := by
  unfold oI
  rw [← iblk0 m c t (y 0) i hi]
  by_cases h0 : t.val % 25 = 0
  · rw [outsAt0_A m c t h0]
    frame_out
    rw [ValueIdx.eq_ix2 y]
    exact pay7_apply _ (y 0) (y 1)
  · rw [outsAt0_B m c t h0]
    frame_out
    rw [ValueIdx.eq_ix2 y]
    exact pay7_apply _ (y 0) (y 1)

/-- The scales of the attention's output that a point leaves. -/
theorem at14 (t : Fin cfg0.N) (y : S1x256.Idx) (i : Fin 6400) (hi : i.val = t.val * 256 + (y 1).val) :
    (outsAt0 (F := Ideal) m c t.val t.isLt).2.1 y = scale (oI m c i) := by
  unfold oI
  rw [← iblk0 m c t (y 1) i hi]
  by_cases h0 : t.val % 25 = 0
  · rw [outsAt0_A m c t h0]
    frame_out
    rw [ValueIdx.eq_ix2 y]
    exact pay8_apply _ (y 0) (y 1)
  · rw [outsAt0_B m c t h0]
    frame_out
    rw [ValueIdx.eq_ix2 y]
    exact pay8_apply _ (y 0) (y 1)

/-- The codes of the normalized rows that a point leaves. -/
theorem at15 (t : Fin cfg0.N) (y : S256x1024.Idx) (i : Fin 6400) (hi : i.val = t.val * 256 + (y 0).val) :
    (outsAt0 (F := Ideal) m c t.val t.isLt).2.2.1 y = code (nI m c i) (y 1) := by
  unfold nI oI xI
  rw [← iblk0 m c t (y 0) i hi, ← iblk1 m c t (y 0) i hi]
  by_cases h0 : t.val % 25 = 0
  · rw [outsAt0_A m c t h0, iblk2, iblk3, iblk4, iblk5, iblk6, iblk7, iblk8, iblk9, iblk10, iblk11, iblk12]
    dsimp only
    generalize iblk m c 0 t = o, iblk m c 1 t = x, m ((c : Thread nD τ).loc main_arg2) = wp, m ((c : Thread nD τ).loc main_arg3) = wps, m ((c : Thread nD τ).loc main_arg4) = bp, m ((c : Thread nD τ).loc main_arg5) = g, m ((c : Thread nD τ).loc main_arg6) = b, m ((c : Thread nD τ).loc main_arg7) = w1, m ((c : Thread nD τ).loc main_arg8) = w1s, m ((c : Thread nD τ).loc main_arg9) = b1, m ((c : Thread nD τ).loc main_arg10) = w2, m ((c : Thread nD τ).loc main_arg11) = w2s, m ((c : Thread nD τ).loc main_arg12) = b2
    frame_open
    simp (disch := decide) only [↓ View.readCov_skip, ↓ View.readCov_cons_toLoadRect, ↓ View.readCov_fill]
    frame_out
    rw [ValueIdx.eq_ix2 y]
    exact pay16_apply o x wp wps bp g b (y 0) (y 1)
  · rw [outsAt0_B m c t h0, keptP m c ⟨t.val - 1, Nat.lt_of_le_of_lt (Nat.sub_le _ _) t.isLt⟩, kept1 m c ⟨t.val - 1, Nat.lt_of_le_of_lt (Nat.sub_le _ _) t.isLt⟩, kept2 m c ⟨t.val - 1, Nat.lt_of_le_of_lt (Nat.sub_le _ _) t.isLt⟩, iblk2, iblk3, iblk4, iblk5, iblk6, iblk7, iblk8, iblk9, iblk10, iblk11, iblk12]
    dsimp only
    generalize iblk m c 0 t = o, iblk m c 1 t = x, m ((c : Thread nD τ).loc main_arg2) = wp, m ((c : Thread nD τ).loc main_arg3) = wps, m ((c : Thread nD τ).loc main_arg4) = bp, m ((c : Thread nD τ).loc main_arg5) = g, m ((c : Thread nD τ).loc main_arg6) = b, m ((c : Thread nD τ).loc main_arg7) = w1, m ((c : Thread nD τ).loc main_arg8) = w1s, m ((c : Thread nD τ).loc main_arg9) = b1, m ((c : Thread nD τ).loc main_arg10) = w2, m ((c : Thread nD τ).loc main_arg11) = w2s, m ((c : Thread nD τ).loc main_arg12) = b2
    frame_open
    simp (disch := decide) only [↓ View.readCov_skip, ↓ View.readCov_cons_toLoadRect, ↓ View.readCov_fill]
    frame_out
    simp only [read_unread_whole]
    rw [ValueIdx.eq_ix2 y]
    exact pay16_apply o x wp wps bp g b (y 0) (y 1)

/-- The scales of the normalized rows that a point leaves. -/
theorem at16 (t : Fin cfg0.N) (y : S1x256.Idx) (i : Fin 6400) (hi : i.val = t.val * 256 + (y 1).val) :
    (outsAt0 (F := Ideal) m c t.val t.isLt).2.2.2.1 y = scale (nI m c i) := by
  unfold nI oI xI
  rw [← iblk0 m c t (y 1) i hi, ← iblk1 m c t (y 1) i hi]
  by_cases h0 : t.val % 25 = 0
  · rw [outsAt0_A m c t h0, iblk2, iblk3, iblk4, iblk5, iblk6, iblk7, iblk8, iblk9, iblk10, iblk11, iblk12]
    dsimp only
    generalize iblk m c 0 t = o, iblk m c 1 t = x, m ((c : Thread nD τ).loc main_arg2) = wp, m ((c : Thread nD τ).loc main_arg3) = wps, m ((c : Thread nD τ).loc main_arg4) = bp, m ((c : Thread nD τ).loc main_arg5) = g, m ((c : Thread nD τ).loc main_arg6) = b, m ((c : Thread nD τ).loc main_arg7) = w1, m ((c : Thread nD τ).loc main_arg8) = w1s, m ((c : Thread nD τ).loc main_arg9) = b1, m ((c : Thread nD τ).loc main_arg10) = w2, m ((c : Thread nD τ).loc main_arg11) = w2s, m ((c : Thread nD τ).loc main_arg12) = b2
    frame_open
    simp (disch := decide) only [↓ View.readCov_skip, ↓ View.readCov_cons_toLoadRect, ↓ View.readCov_fill]
    frame_out
    rw [ValueIdx.eq_ix2 y]
    exact pay17_apply o x wp wps bp g b (y 0) (y 1)
  · rw [outsAt0_B m c t h0, keptP m c ⟨t.val - 1, Nat.lt_of_le_of_lt (Nat.sub_le _ _) t.isLt⟩, kept1 m c ⟨t.val - 1, Nat.lt_of_le_of_lt (Nat.sub_le _ _) t.isLt⟩, kept2 m c ⟨t.val - 1, Nat.lt_of_le_of_lt (Nat.sub_le _ _) t.isLt⟩, iblk2, iblk3, iblk4, iblk5, iblk6, iblk7, iblk8, iblk9, iblk10, iblk11, iblk12]
    dsimp only
    generalize iblk m c 0 t = o, iblk m c 1 t = x, m ((c : Thread nD τ).loc main_arg2) = wp, m ((c : Thread nD τ).loc main_arg3) = wps, m ((c : Thread nD τ).loc main_arg4) = bp, m ((c : Thread nD τ).loc main_arg5) = g, m ((c : Thread nD τ).loc main_arg6) = b, m ((c : Thread nD τ).loc main_arg7) = w1, m ((c : Thread nD τ).loc main_arg8) = w1s, m ((c : Thread nD τ).loc main_arg9) = b1, m ((c : Thread nD τ).loc main_arg10) = w2, m ((c : Thread nD τ).loc main_arg11) = w2s, m ((c : Thread nD τ).loc main_arg12) = b2
    frame_open
    simp (disch := decide) only [↓ View.readCov_skip, ↓ View.readCov_cons_toLoadRect, ↓ View.readCov_fill]
    frame_out
    simp only [read_unread_whole]
    rw [ValueIdx.eq_ix2 y]
    exact pay17_apply o x wp wps bp g b (y 0) (y 1)

/-- The codes of the hidden rows that a point leaves. -/
theorem at17 (t : Fin cfg0.N) (y : S256x4096.Idx) (i : Fin 6400) (hi : i.val = t.val * 256 + (y 0).val) :
    (outsAt0 (F := Ideal) m c t.val t.isLt).2.2.2.2.1 y = code (fI m c i) (y 1) := by
  unfold fI oI xI
  rw [← iblk0 m c t (y 0) i hi, ← iblk1 m c t (y 0) i hi]
  by_cases h0 : t.val % 25 = 0
  · rw [outsAt0_A m c t h0, iblk2, iblk3, iblk4, iblk5, iblk6, iblk7, iblk8, iblk9, iblk10, iblk11, iblk12]
    dsimp only
    generalize iblk m c 0 t = o, iblk m c 1 t = x, m ((c : Thread nD τ).loc main_arg2) = wp, m ((c : Thread nD τ).loc main_arg3) = wps, m ((c : Thread nD τ).loc main_arg4) = bp, m ((c : Thread nD τ).loc main_arg5) = g, m ((c : Thread nD τ).loc main_arg6) = b, m ((c : Thread nD τ).loc main_arg7) = w1, m ((c : Thread nD τ).loc main_arg8) = w1s, m ((c : Thread nD τ).loc main_arg9) = b1, m ((c : Thread nD τ).loc main_arg10) = w2, m ((c : Thread nD τ).loc main_arg11) = w2s, m ((c : Thread nD τ).loc main_arg12) = b2
    frame_open
    simp (disch := decide) only [↓ View.readCov_skip, ↓ View.readCov_cons_toLoadRect, ↓ View.readCov_fill]
    frame_out
    canon_tiles p h
    all_goals first
      | (have hj : (y 1).val = 512 * 0 + (p 1).val := by omega); exact hidCodes o x wp wps bp g b w1 w1s b1 _ 0 (by omega) (chunk0 o x wp wps bp g b w1 w1s b1) (y 0) (y 1) p (by omega) hj
      | (have hj : (y 1).val = 512 * 1 + (p 1).val := by omega); exact hidCodes o x wp wps bp g b w1 w1s b1 _ 1 (by omega) (chunk1 o x wp wps bp g b w1 w1s b1) (y 0) (y 1) p (by omega) hj
      | (have hj : (y 1).val = 512 * 2 + (p 1).val := by omega); exact hidCodes o x wp wps bp g b w1 w1s b1 _ 2 (by omega) (chunk2 o x wp wps bp g b w1 w1s b1) (y 0) (y 1) p (by omega) hj
      | (have hj : (y 1).val = 512 * 3 + (p 1).val := by omega); exact hidCodes o x wp wps bp g b w1 w1s b1 _ 3 (by omega) (chunk3 o x wp wps bp g b w1 w1s b1) (y 0) (y 1) p (by omega) hj
      | (have hj : (y 1).val = 512 * 4 + (p 1).val := by omega); exact hidCodes o x wp wps bp g b w1 w1s b1 _ 4 (by omega) (chunk4 o x wp wps bp g b w1 w1s b1) (y 0) (y 1) p (by omega) hj
      | (have hj : (y 1).val = 512 * 5 + (p 1).val := by omega); exact hidCodes o x wp wps bp g b w1 w1s b1 _ 5 (by omega) (chunk5 o x wp wps bp g b w1 w1s b1) (y 0) (y 1) p (by omega) hj
      | (have hj : (y 1).val = 512 * 6 + (p 1).val := by omega); exact hidCodes o x wp wps bp g b w1 w1s b1 _ 6 (by omega) (chunk6 o x wp wps bp g b w1 w1s b1) (y 0) (y 1) p (by omega) hj
      | (have hj : (y 1).val = 512 * 7 + (p 1).val := by omega); exact hidCodes o x wp wps bp g b w1 w1s b1 _ 7 (by omega) (chunk7 o x wp wps bp g b w1 w1s b1) (y 0) (y 1) p (by omega) hj
  · rw [outsAt0_B m c t h0, keptP m c ⟨t.val - 1, Nat.lt_of_le_of_lt (Nat.sub_le _ _) t.isLt⟩, kept1 m c ⟨t.val - 1, Nat.lt_of_le_of_lt (Nat.sub_le _ _) t.isLt⟩, kept2 m c ⟨t.val - 1, Nat.lt_of_le_of_lt (Nat.sub_le _ _) t.isLt⟩, iblk2, iblk3, iblk4, iblk5, iblk6, iblk7, iblk8, iblk9, iblk10, iblk11, iblk12]
    dsimp only
    generalize iblk m c 0 t = o, iblk m c 1 t = x, m ((c : Thread nD τ).loc main_arg2) = wp, m ((c : Thread nD τ).loc main_arg3) = wps, m ((c : Thread nD τ).loc main_arg4) = bp, m ((c : Thread nD τ).loc main_arg5) = g, m ((c : Thread nD τ).loc main_arg6) = b, m ((c : Thread nD τ).loc main_arg7) = w1, m ((c : Thread nD τ).loc main_arg8) = w1s, m ((c : Thread nD τ).loc main_arg9) = b1, m ((c : Thread nD τ).loc main_arg10) = w2, m ((c : Thread nD τ).loc main_arg11) = w2s, m ((c : Thread nD τ).loc main_arg12) = b2
    frame_open
    simp (disch := decide) only [↓ View.readCov_skip, ↓ View.readCov_cons_toLoadRect, ↓ View.readCov_fill]
    frame_out
    simp only [read_unread_whole]
    canon_tiles p h
    all_goals first
      | (have hj : (y 1).val = 512 * 0 + (p 1).val := by omega); exact hidCodes o x wp wps bp g b w1 w1s b1 _ 0 (by omega) (chunk0 o x wp wps bp g b w1 w1s b1) (y 0) (y 1) p (by omega) hj
      | (have hj : (y 1).val = 512 * 1 + (p 1).val := by omega); exact hidCodes o x wp wps bp g b w1 w1s b1 _ 1 (by omega) (chunk1 o x wp wps bp g b w1 w1s b1) (y 0) (y 1) p (by omega) hj
      | (have hj : (y 1).val = 512 * 2 + (p 1).val := by omega); exact hidCodes o x wp wps bp g b w1 w1s b1 _ 2 (by omega) (chunk2 o x wp wps bp g b w1 w1s b1) (y 0) (y 1) p (by omega) hj
      | (have hj : (y 1).val = 512 * 3 + (p 1).val := by omega); exact hidCodes o x wp wps bp g b w1 w1s b1 _ 3 (by omega) (chunk3 o x wp wps bp g b w1 w1s b1) (y 0) (y 1) p (by omega) hj
      | (have hj : (y 1).val = 512 * 4 + (p 1).val := by omega); exact hidCodes o x wp wps bp g b w1 w1s b1 _ 4 (by omega) (chunk4 o x wp wps bp g b w1 w1s b1) (y 0) (y 1) p (by omega) hj
      | (have hj : (y 1).val = 512 * 5 + (p 1).val := by omega); exact hidCodes o x wp wps bp g b w1 w1s b1 _ 5 (by omega) (chunk5 o x wp wps bp g b w1 w1s b1) (y 0) (y 1) p (by omega) hj
      | (have hj : (y 1).val = 512 * 6 + (p 1).val := by omega); exact hidCodes o x wp wps bp g b w1 w1s b1 _ 6 (by omega) (chunk6 o x wp wps bp g b w1 w1s b1) (y 0) (y 1) p (by omega) hj
      | (have hj : (y 1).val = 512 * 7 + (p 1).val := by omega); exact hidCodes o x wp wps bp g b w1 w1s b1 _ 7 (by omega) (chunk7 o x wp wps bp g b w1 w1s b1) (y 0) (y 1) p (by omega) hj

/-- The scales of the hidden rows that a point leaves. -/
theorem at18 (t : Fin cfg0.N) (y : S1x256.Idx) (i : Fin 6400) (hi : i.val = t.val * 256 + (y 1).val) :
    (outsAt0 (F := Ideal) m c t.val t.isLt).2.2.2.2.2.1 y = scale (fI m c i) := by
  unfold fI oI xI
  rw [← iblk0 m c t (y 1) i hi, ← iblk1 m c t (y 1) i hi]
  by_cases h0 : t.val % 25 = 0
  · rw [outsAt0_A m c t h0, iblk2, iblk3, iblk4, iblk5, iblk6, iblk7, iblk8, iblk9, iblk10, iblk11, iblk12]
    dsimp only
    generalize iblk m c 0 t = o, iblk m c 1 t = x, m ((c : Thread nD τ).loc main_arg2) = wp, m ((c : Thread nD τ).loc main_arg3) = wps, m ((c : Thread nD τ).loc main_arg4) = bp, m ((c : Thread nD τ).loc main_arg5) = g, m ((c : Thread nD τ).loc main_arg6) = b, m ((c : Thread nD τ).loc main_arg7) = w1, m ((c : Thread nD τ).loc main_arg8) = w1s, m ((c : Thread nD τ).loc main_arg9) = b1, m ((c : Thread nD τ).loc main_arg10) = w2, m ((c : Thread nD τ).loc main_arg11) = w2s, m ((c : Thread nD τ).loc main_arg12) = b2
    frame_open
    simp (disch := decide) only [↓ View.readCov_skip, ↓ View.readCov_cons_toLoadRect, ↓ View.readCov_fill]
    frame_out
    rw [ValueIdx.eq_ix2 y]
    exact pay55_apply o x wp wps bp g b w1 w1s b1 (y 0) (y 1)
  · rw [outsAt0_B m c t h0, keptP m c ⟨t.val - 1, Nat.lt_of_le_of_lt (Nat.sub_le _ _) t.isLt⟩, kept1 m c ⟨t.val - 1, Nat.lt_of_le_of_lt (Nat.sub_le _ _) t.isLt⟩, kept2 m c ⟨t.val - 1, Nat.lt_of_le_of_lt (Nat.sub_le _ _) t.isLt⟩, iblk2, iblk3, iblk4, iblk5, iblk6, iblk7, iblk8, iblk9, iblk10, iblk11, iblk12]
    dsimp only
    generalize iblk m c 0 t = o, iblk m c 1 t = x, m ((c : Thread nD τ).loc main_arg2) = wp, m ((c : Thread nD τ).loc main_arg3) = wps, m ((c : Thread nD τ).loc main_arg4) = bp, m ((c : Thread nD τ).loc main_arg5) = g, m ((c : Thread nD τ).loc main_arg6) = b, m ((c : Thread nD τ).loc main_arg7) = w1, m ((c : Thread nD τ).loc main_arg8) = w1s, m ((c : Thread nD τ).loc main_arg9) = b1, m ((c : Thread nD τ).loc main_arg10) = w2, m ((c : Thread nD τ).loc main_arg11) = w2s, m ((c : Thread nD τ).loc main_arg12) = b2
    frame_open
    simp (disch := decide) only [↓ View.readCov_skip, ↓ View.readCov_cons_toLoadRect, ↓ View.readCov_fill]
    frame_out
    simp only [read_unread_whole]
    rw [ValueIdx.eq_ix2 y]
    exact pay55_apply o x wp wps bp g b w1 w1s b1 (y 0) (y 1)

/-- The output rows that a point leaves. -/
theorem at19 (t : Fin cfg0.N) (y : S256x1024.Idx) (i : Fin 6400) (hi : i.val = t.val * 256 + (y 0).val) :
    (outsAt0 (F := Ideal) m c t.val t.isLt).2.2.2.2.2.2.1 y = yI m c i (y 1) := by
  unfold yI oI xI
  rw [← iblk0 m c t (y 0) i hi, ← iblk1 m c t (y 0) i hi]
  by_cases h0 : t.val % 25 = 0
  · rw [outsAt0_A m c t h0, iblk2, iblk3, iblk4, iblk5, iblk6, iblk7, iblk8, iblk9, iblk10, iblk11, iblk12]
    dsimp only
    generalize iblk m c 0 t = o, iblk m c 1 t = x, m ((c : Thread nD τ).loc main_arg2) = wp, m ((c : Thread nD τ).loc main_arg3) = wps, m ((c : Thread nD τ).loc main_arg4) = bp, m ((c : Thread nD τ).loc main_arg5) = g, m ((c : Thread nD τ).loc main_arg6) = b, m ((c : Thread nD τ).loc main_arg7) = w1, m ((c : Thread nD τ).loc main_arg8) = w1s, m ((c : Thread nD τ).loc main_arg9) = b1, m ((c : Thread nD τ).loc main_arg10) = w2, m ((c : Thread nD τ).loc main_arg11) = w2s, m ((c : Thread nD τ).loc main_arg12) = b2
    frame_open
    simp (disch := decide) only [↓ View.readCov_skip, ↓ View.readCov_cons_toLoadRect, ↓ View.readCov_fill]
    frame_out
    rw [ValueIdx.eq_ix2 y]
    exact y_apply o x wp wps bp g b w1 w1s b1 w2 w2s b2 (y 0) (y 1)
  · rw [outsAt0_B m c t h0, keptP m c ⟨t.val - 1, Nat.lt_of_le_of_lt (Nat.sub_le _ _) t.isLt⟩, kept1 m c ⟨t.val - 1, Nat.lt_of_le_of_lt (Nat.sub_le _ _) t.isLt⟩, kept2 m c ⟨t.val - 1, Nat.lt_of_le_of_lt (Nat.sub_le _ _) t.isLt⟩, iblk2, iblk3, iblk4, iblk5, iblk6, iblk7, iblk8, iblk9, iblk10, iblk11, iblk12]
    dsimp only
    generalize iblk m c 0 t = o, iblk m c 1 t = x, m ((c : Thread nD τ).loc main_arg2) = wp, m ((c : Thread nD τ).loc main_arg3) = wps, m ((c : Thread nD τ).loc main_arg4) = bp, m ((c : Thread nD τ).loc main_arg5) = g, m ((c : Thread nD τ).loc main_arg6) = b, m ((c : Thread nD τ).loc main_arg7) = w1, m ((c : Thread nD τ).loc main_arg8) = w1s, m ((c : Thread nD τ).loc main_arg9) = b1, m ((c : Thread nD τ).loc main_arg10) = w2, m ((c : Thread nD τ).loc main_arg11) = w2s, m ((c : Thread nD τ).loc main_arg12) = b2
    frame_open
    simp (disch := decide) only [↓ View.readCov_skip, ↓ View.readCov_cons_toLoadRect, ↓ View.readCov_fill]
    frame_out
    simp only [read_unread_whole]
    rw [ValueIdx.eq_ix2 y]
    exact y_apply o x wp wps bp g b w1 w1s b1 w2 w2s b2 (y 0) (y 1)

/-- The codes of the attention's output, after the run. -/
theorem final13 : (dats m 0 c).arrAt 13 cfg0.N = fun y : S6400x1024.Idx => code (oI m c (y 0)) (y 1) := by
  refine (dats m 0 c).arrAt_eq_of_covers 13 _ (by decide +kernel) fun t hf y => ?_
  have h := idx t
  rw [show ((cfg0.win 13).blk t).view.emb y 1 = y 1 from Fin.ext (by blk_simp [h])]
  blk_simp
  rw [after0_13]
  exact at13 m c t y _ (by blk_simp [h])

/-- Their scales, after the run. -/
theorem final14 : (dats m 0 c).arrAt 14 cfg0.N = fun y : S1x6400.Idx => scale (oI m c (y 1)) := by
  refine (dats m 0 c).arrAt_eq_of_covers 14 _ (by decide +kernel) fun t hf y => ?_
  have h := idx t
  blk_simp
  rw [after0_14]
  exact at14 m c t y _ (by blk_simp [h])

/-- The codes of the normalized rows, after the run. -/
theorem final15 : (dats m 0 c).arrAt 15 cfg0.N = fun y : S6400x1024.Idx => code (nI m c (y 0)) (y 1) := by
  refine (dats m 0 c).arrAt_eq_of_covers 15 _ (by decide +kernel) fun t hf y => ?_
  have h := idx t
  rw [show ((cfg0.win 15).blk t).view.emb y 1 = y 1 from Fin.ext (by blk_simp [h])]
  blk_simp
  rw [after0_15]
  exact at15 m c t y _ (by blk_simp [h])

/-- Their scales, after the run. -/
theorem final16 : (dats m 0 c).arrAt 16 cfg0.N = fun y : S1x6400.Idx => scale (nI m c (y 1)) := by
  refine (dats m 0 c).arrAt_eq_of_covers 16 _ (by decide +kernel) fun t hf y => ?_
  have h := idx t
  blk_simp
  rw [after0_16]
  exact at16 m c t y _ (by blk_simp [h])

/-- The codes of the hidden rows, after the run. -/
theorem final17 : (dats m 0 c).arrAt 17 cfg0.N = fun y : S6400x4096.Idx => code (fI m c (y 0)) (y 1) := by
  refine (dats m 0 c).arrAt_eq_of_covers 17 _ (by decide +kernel) fun t hf y => ?_
  have h := idx t
  rw [show ((cfg0.win 17).blk t).view.emb y 1 = y 1 from Fin.ext (by blk_simp [h])]
  blk_simp
  rw [after0_17]
  exact at17 m c t y _ (by blk_simp [h])

/-- Their scales, after the run. -/
theorem final18 : (dats m 0 c).arrAt 18 cfg0.N = fun y : S1x6400.Idx => scale (fI m c (y 1)) := by
  refine (dats m 0 c).arrAt_eq_of_covers 18 _ (by decide +kernel) fun t hf y => ?_
  have h := idx t
  blk_simp
  rw [after0_18]
  exact at18 m c t y _ (by blk_simp [h])

/-- The output, after the run. -/
theorem final19 : (dats m 0 c).arrAt 19 cfg0.N = fun y : S6400x1024.Idx => yI m c (y 0) (y 1) := by
  refine (dats m 0 c).arrAt_eq_of_covers 19 _ (by decide +kernel) fun t hf y => ?_
  have h := idx t
  rw [show ((cfg0.win 19).blk t).view.emb y 1 = y 1 from Fin.ext (by blk_simp [h])]
  blk_simp
  rw [after0_19]
  exact at19 m c t y _ (by blk_simp [h])

end Grid

end Cert.MlpKer

end
-- ==== Proof.MlpAlg.lean ====
/- The kernel's projection with the MLP computes its reference, over the extended reals. -/
module

public import proofs.«01_k».proof.Defs
public import proofs.«01_k».proof.Proof.MlpGrid
public import proofs.«01_k».proof.Proof.MlpRefVal

@[expose] public section

set_option maxRecDepth 16384

noncomputable section

namespace Cert.MlpAlg

open Idealize.ShloMosaic hiding ix1 ix2
open Idealize.ShloMosaic.TcCoe Idealize.SL.Sem Idealize.ShloMosaic.ValueIdx Cert.Rows Cert.Vecs Cert.MlpKer

section Kernel

open Cert.MlpGlbIdeal

variable (m : (ℓ : Loc nD τ sig) → Buf (Elt Ideal) ℓ) (ρ : Dev nD → PrngReg)

/-- The kernel's run, each result named as a function of the arguments' rows. -/
theorem run : θ_run (defs (F := Ideal)) (onTc (τ := τ) (main (F := Ideal))) ⟨m, fun _ => 0, ρ⟩ fun r => ∀ c : Dev nD,
      r.2.mem ((c : Thread nD τ).loc main_v0_0) = (fun y : S6400x1024.Idx => code (oI m c (y 0)) (y 1))
      ∧ r.2.mem ((c : Thread nD τ).loc main_v0_1) = (fun y : S1x6400.Idx => scale (oI m c (y 1)))
      ∧ r.2.mem ((c : Thread nD τ).loc main_v0_2) = (fun y : S6400x1024.Idx => code (nI m c (y 0)) (y 1))
      ∧ r.2.mem ((c : Thread nD τ).loc main_v0_3) = (fun y : S1x6400.Idx => scale (nI m c (y 1)))
      ∧ r.2.mem ((c : Thread nD τ).loc main_v0_4) = (fun y : S6400x4096.Idx => code (fI m c (y 0)) (y 1))
      ∧ r.2.mem ((c : Thread nD τ).loc main_v0_5) = (fun y : S1x6400.Idx => scale (fI m c (y 1)))
      ∧ r.2.mem ((c : Thread nD τ).loc main_v0_6) = (fun y : S6400x1024.Idx => yI m c (y 0) (y 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => by
    obtain ⟨h0, h1, h2, h3, h4, h5, h6, hk⟩ := h c
    exact ⟨h0.trans (final13 m c), h1.trans (final14 m c), h2.trans (final15 m c), h3.trans (final16 m c), h4.trans (final17 m c), h5.trans (final18 m c), h6.trans (final19 m c), hk⟩)
    (Value.run_blocks m ρ)

end Kernel

/-- THE CLAIM: from equal arguments the kernel's call and its reference end with equal codes and scales of the attention's
    output, of the normalized rows and of the hidden rows, and with equal output rows. -/
theorem algebraic : Cert.algebraic_MlpGlbIdeal_RefMlpGlbIdeal := by
  intro m g m' g' _ hagree
  refine ⟨_, _, _, _, _, _, _, run m g, (θ_run _ _ _).mono (fun r h c => ?_) (Cert.RefMlpGlbIdeal.Value.run m' g')⟩
  obtain ⟨h0, h1, h2, h3, h4, h5, h6, hk⟩ := h c
  obtain ⟨a0, a1, a2, a3, a4, a5, a6, a7, a8, a9, a10, a11, a12⟩ := hagree c
  rw [MlpRef.G13_eq, a0] at h0
  rw [MlpRef.G14_eq, a0] at h1
  rw [MlpRef.G15_eq, a0, a1, a2, a3, a4, a5, a6] at h2
  rw [MlpRef.G16_eq, a0, a1, a2, a3, a4, a5, a6] at h3
  rw [MlpRef.G17_eq, a0, a1, a2, a3, a4, a5, a6, a7, a8, a9] at h4
  rw [MlpRef.G18_eq, a0, a1, a2, a3, a4, a5, a6, a7, a8, a9] at h5
  rw [MlpRef.G19_eq, a0, a1, a2, a3, a4, a5, a6, a7, a8, a9, a10, a11, a12] at h6
  exact ⟨h0, h1, h2, h3, h4, h5, h6, hk⟩

end Cert.MlpAlg

end
-- ==== Proof.lean ====
module

public import proofs.«01_k».proof.Defs
public import proofs.«01_k».proof.Proof.Gen.QkvWin
public import proofs.«01_k».proof.Proof.Gen.QkvWin.Skeleton
public import proofs.«01_k».proof.Proof.Gen.QkvWin.Launch
public import proofs.«01_k».proof.Proof.Gen.QkvWin.Points
public import proofs.«01_k».proof.Proof.Gen.QkvWin.Frame
public import proofs.«01_k».proof.Proof.Gen.QkvWinIdeal
public import proofs.«01_k».proof.Proof.Gen.QkvWinIdeal.Skeleton
public import proofs.«01_k».proof.Proof.Gen.QkvWinIdeal.Launch
public import proofs.«01_k».proof.Proof.Gen.QkvWinIdeal.Points
public import proofs.«01_k».proof.Proof.Gen.QkvWinIdeal.Frame
public import proofs.«01_k».proof.Proof.Gen.QkvWinIdeal.Value
public import proofs.«01_k».proof.Proof.Gen.RefQkvWinIdeal
public import proofs.«01_k».proof.Proof.Gen.RefQkvWinIdeal.Skeleton
public import proofs.«01_k».proof.Proof.Gen.RefQkvWinIdeal.Launch
public import proofs.«01_k».proof.Proof.Gen.RefQkvWinIdeal.Points
public import proofs.«01_k».proof.Proof.Gen.RefQkvWinIdeal.Frame
public import proofs.«01_k».proof.Proof.Gen.RefQkvWinIdeal.Value
public import proofs.«01_k».proof.Proof.Gen.QkvGlb
public import proofs.«01_k».proof.Proof.Gen.QkvGlb.Skeleton
public import proofs.«01_k».proof.Proof.Gen.QkvGlb.Launch
public import proofs.«01_k».proof.Proof.Gen.QkvGlb.Points
public import proofs.«01_k».proof.Proof.Gen.QkvGlb.Frame
public import proofs.«01_k».proof.Proof.Gen.QkvGlbIdeal
public import proofs.«01_k».proof.Proof.Gen.QkvGlbIdeal.Skeleton
public import proofs.«01_k».proof.Proof.Gen.QkvGlbIdeal.Launch
public import proofs.«01_k».proof.Proof.Gen.QkvGlbIdeal.Points
public import proofs.«01_k».proof.Proof.Gen.QkvGlbIdeal.Frame
public import proofs.«01_k».proof.Proof.Gen.QkvGlbIdeal.Value
public import proofs.«01_k».proof.Proof.Gen.RefQkvGlbIdeal
public import proofs.«01_k».proof.Proof.Gen.RefQkvGlbIdeal.Skeleton
public import proofs.«01_k».proof.Proof.Gen.RefQkvGlbIdeal.Launch
public import proofs.«01_k».proof.Proof.Gen.RefQkvGlbIdeal.Points
public import proofs.«01_k».proof.Proof.Gen.RefQkvGlbIdeal.Frame
public import proofs.«01_k».proof.Proof.Gen.RefQkvGlbIdeal.Value
public import proofs.«01_k».proof.Proof.Gen.MlpWin
public import proofs.«01_k».proof.Proof.Gen.MlpWin.Skeleton
public import proofs.«01_k».proof.Proof.Gen.MlpWin.Launch
public import proofs.«01_k».proof.Proof.Gen.MlpWin.Points
public import proofs.«01_k».proof.Proof.Gen.MlpWin.Frame
public import proofs.«01_k».proof.Proof.Gen.MlpWinIdeal
public import proofs.«01_k».proof.Proof.Gen.MlpWinIdeal.Skeleton
public import proofs.«01_k».proof.Proof.Gen.MlpWinIdeal.Launch
public import proofs.«01_k».proof.Proof.Gen.MlpWinIdeal.Points
public import proofs.«01_k».proof.Proof.Gen.MlpWinIdeal.Frame
public import proofs.«01_k».proof.Proof.Gen.MlpWinIdeal.Value
public import proofs.«01_k».proof.Proof.Gen.RefMlpWinIdeal
public import proofs.«01_k».proof.Proof.Gen.RefMlpWinIdeal.Skeleton
public import proofs.«01_k».proof.Proof.Gen.RefMlpWinIdeal.Launch
public import proofs.«01_k».proof.Proof.Gen.RefMlpWinIdeal.Points
public import proofs.«01_k».proof.Proof.Gen.RefMlpWinIdeal.Frame
public import proofs.«01_k».proof.Proof.Gen.RefMlpWinIdeal.Value
public import proofs.«01_k».proof.Proof.Gen.MlpGlb
public import proofs.«01_k».proof.Proof.Gen.MlpGlb.Skeleton
public import proofs.«01_k».proof.Proof.Gen.MlpGlb.Launch
public import proofs.«01_k».proof.Proof.Gen.MlpGlb.Points
public import proofs.«01_k».proof.Proof.Gen.MlpGlb.Frame
public import proofs.«01_k».proof.Proof.Gen.MlpGlbIdeal
public import proofs.«01_k».proof.Proof.Gen.MlpGlbIdeal.Skeleton
public import proofs.«01_k».proof.Proof.Gen.MlpGlbIdeal.Launch
public import proofs.«01_k».proof.Proof.Gen.MlpGlbIdeal.Points
public import proofs.«01_k».proof.Proof.Gen.MlpGlbIdeal.Frame
public import proofs.«01_k».proof.Proof.Gen.MlpGlbIdeal.Value
public import proofs.«01_k».proof.Proof.Gen.RefMlpGlbIdeal
public import proofs.«01_k».proof.Proof.Gen.RefMlpGlbIdeal.Skeleton
public import proofs.«01_k».proof.Proof.Gen.RefMlpGlbIdeal.Launch
public import proofs.«01_k».proof.Proof.Gen.RefMlpGlbIdeal.Points
public import proofs.«01_k».proof.Proof.Gen.RefMlpGlbIdeal.Frame
public import proofs.«01_k».proof.Proof.Gen.RefMlpGlbIdeal.Value
public import proofs.«01_k».proof.Proof.QkvWinAlg
public import proofs.«01_k».proof.Proof.QkvAlg
public import proofs.«01_k».proof.Proof.MlpWinAlg
public import proofs.«01_k».proof.Proof.MlpAlg
public import Idealize.ShloMosaic.Adequacy
public import Idealize.ShloMosaic.Init

@[expose] public section

noncomputable section

namespace Cert.Proof

open Idealize.ShloMosaic Idealize.SL.Sem

/-- All the claims: the stated facts of the twelve programs, their frames, and for each of the four calls that the ideal
    program is the kernel over the extended reals and that it computes the reference's function. -/
theorem claim : Cert.Claim := ⟨Cert.QkvWin.Gen.facts, Cert.QkvWinIdeal.Gen.facts, Cert.RefQkvWinIdeal.Gen.facts, Cert.QkvGlb.Gen.facts, Cert.QkvGlbIdeal.Gen.facts, Cert.RefQkvGlbIdeal.Gen.facts, Cert.MlpWin.Gen.facts, Cert.MlpWinIdeal.Gen.facts, Cert.RefMlpWinIdeal.Gen.facts, Cert.MlpGlb.Gen.facts, Cert.MlpGlbIdeal.Gen.facts, Cert.RefMlpGlbIdeal.Gen.facts,
  fun m ρ _ => Cert.QkvWin.Gen.frame m ρ, fun m ρ _ => Cert.QkvWinIdeal.Gen.frame m ρ, fun m ρ _ => Cert.RefQkvWinIdeal.Gen.frame m ρ,
  fun m ρ _ => Cert.QkvGlb.Gen.frame m ρ, fun m ρ _ => Cert.QkvGlbIdeal.Gen.frame m ρ, fun m ρ _ => Cert.RefQkvGlbIdeal.Gen.frame m ρ,
  fun m ρ _ => Cert.MlpWin.Gen.frame m ρ, fun m ρ _ => Cert.MlpWinIdeal.Gen.frame m ρ, fun m ρ _ => Cert.RefMlpWinIdeal.Gen.frame m ρ,
  fun m ρ _ => Cert.MlpGlb.Gen.frame m ρ, fun m ρ _ => Cert.MlpGlbIdeal.Gen.frame m ρ, fun m ρ _ => Cert.RefMlpGlbIdeal.Gen.frame m ρ,
  trivial, Cert.QkvWinAlg.algebraic, trivial, Cert.QkvAlg.algebraic, trivial, Cert.MlpWinAlg.algebraic, trivial, Cert.MlpAlg.algebraic⟩

end Cert.Proof

end
